-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_small_KernelIdeal [hPre_small_KernelIdeal : Cert.Pre_small_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_small_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_small_ReferenceIdeal [hPre_small_ReferenceIdeal : Cert.Pre_small_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_small_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_small_KernelIdeal [hKernelIdeal : Cert.KernelIdeal.Facts] [hPre_small_KernelIdeal : Cert.Pre_small_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_small_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_small_ReferenceIdeal [hReferenceIdeal : Cert.ReferenceIdeal.Facts] [hPre_small_ReferenceIdeal : Cert.Pre_small_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_small_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_small_KernelIdeal [hKernelIdeal : Cert.KernelIdeal.Facts] [hReferenceIdeal : Cert.ReferenceIdeal.Facts] [hPre_small_KernelIdeal : Cert.Pre_small_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_small_KernelIdeal m →
    (∀ c : Dev Cert.KernelIdeal.nD,
      m ((c.tc : Thread Cert.KernelIdeal.nD Cert.KernelIdeal.τ).loc Cert.KernelIdeal.main_arg0) = Layout.block ⟨2, ![1024, 32]⟩ ⟨2, ![1024, 1024]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![32, 1024]⟩ ⟨2, ![1024, 1024]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![32, 1024]⟩ ⟨2, ![1024, 1024]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_small_KernelIdeal : Cert.Pre_small_KernelIdeal.Facts) (hPre_small_ReferenceIdeal : Cert.Pre_small_ReferenceIdeal.Facts),
    quiescent_Kernel (hKernel := hKernel)
    ∧ quiescent_KernelIdeal (hKernelIdeal := hKernelIdeal)
    ∧ quiescent_KernelIdeal_pre_small_KernelIdeal (hKernelIdeal := hKernelIdeal) (hPre_small_KernelIdeal := hPre_small_KernelIdeal)
    ∧ quiescent_ReferenceIdeal (hReferenceIdeal := hReferenceIdeal)
    ∧ quiescent_ReferenceIdeal_pre_small_ReferenceIdeal (hReferenceIdeal := hReferenceIdeal) (hPre_small_ReferenceIdeal := hPre_small_ReferenceIdeal)
    ∧ preserves_Kernel_KernelIdeal
    ∧ algebraic_KernelIdeal_ReferenceIdeal_pre_small_KernelIdeal (hKernelIdeal := hKernelIdeal) (hReferenceIdeal := hReferenceIdeal) (hPre_small_KernelIdeal := hPre_small_KernelIdeal)
-- ==== Pre_small_KernelIdeal.lean ====
abbrev S1024x32 : Shape := ⟨2, ![1024, 32]⟩
abbrev S32x1024 : Shape := ⟨2, ![32, 1024]⟩
abbrev S1024x1024 : Shape := ⟨2, ![1024, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  dot_S1024x32_S32x1024_S1024x1024_1_0_0_1_n_n_wf : DotDims.WF S1024x32 S32x1024 S1024x1024 [1] [0] [0] [1] [] []

variable [Facts]

def dot_S1024x32_S32x1024_S1024x1024_1_0_0_1_n_n : DotDims S1024x32 S32x1024 S1024x1024 where
  lhsContracting := [1]
  rhsContracting := [0]
  lhsNonContracting := [0]
  rhsNonContracting := [1]
  lhsBatch := []
  rhsBatch := []
  wf := dot_S1024x32_S32x1024_S1024x1024_1_0_0_1_n_n_wf
def fn {F : FTy → Type} [FloatOps F] (main_arg0 : FVec F S1024x32 .f32) (main_arg1 : FVec F S32x1024 .f32) : IVec S_ 1 :=
  let main_v0 : FVec F S1024x1024 .f32 := (fun l r => Host.dotGeneral dot_S1024x32_S32x1024_S1024x1024_1_0_0_1_n_n none l r) main_arg0 main_arg1
  let main_v1 : FVec F S1024x1024 .f32 := Host.absf main_v0
  let main_cst : FVec F S_ .f32 := constant S_ .f32 0x3FF00000#32
  let main_v2 : FVec F S1024x1024 .f32 := broadcastInDim S1024x1024 ![] bcast_S_S1024x1024 main_cst
  let main_v3 : IVec S1024x1024 1 := cmpf .ole main_v1 main_v2
  let main_c : IVec S_ 1 := constantI S_ 1 1#1
  let main_v4 : IVec S_ 1 := (fun x v => Host.reduce IntOp.andi x v reducesTo_S1024x1024_S_d0_1 h_S_) main_v3 main_c
  main_v4
-- ==== Pre_small_ReferenceIdeal.lean ====
abbrev S1024x1024 : Shape := ⟨2, ![1024, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  dot_S1024x1024_S1024x1024_S1024x1024_1_0_0_1_n_n_wf : DotDims.WF S1024x1024 S1024x1024 S1024x1024 [1] [0] [0] [1] [] []

variable [Facts]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def fn {F : FTy → Type} [FloatOps F] (main_arg0 : FVec F S1024x1024 .f32) (main_arg1 : FVec F S1024x1024 .f32) : IVec S_ 1 :=
  let main_v0 : FVec F S1024x1024 .f32 := (fun l r => Host.dotGeneral dot_S1024x1024_S1024x1024_S1024x1024_1_0_0_1_n_n none l r) main_arg0 main_arg1
  let main_v1 : FVec F S1024x1024 .f32 := Host.absf main_v0
  let main_cst : FVec F S_ .f32 := constant S_ .f32 0x3FF00000#32
  let main_v2 : FVec F S1024x1024 .f32 := broadcastInDim S1024x1024 ![] bcast_S_S1024x1024 main_cst
  let main_v3 : IVec S1024x1024 1 := cmpf .ole main_v1 main_v2
  let main_c : IVec S_ 1 := constantI S_ 1 1#1
  let main_v4 : IVec S_ 1 := (fun x v => Host.reduce IntOp.andi x v reducesTo_S1024x1024_S_d0_1 h_S_) main_v3 main_c
  main_v4
-- ==== Kernel.lean ====
abbrev S1024x32 : Shape := ⟨2, ![1024, 32]⟩
abbrev S32x1024 : Shape := ⟨2, ![32, 1024]⟩
abbrev S1024x1024 : Shape := ⟨2, ![1024, 1024]⟩
abbrev S1024x512 : Shape := ⟨2, ![1024, 512]⟩
abbrev S256x512 : Shape := ⟨2, ![256, 512]⟩
abbrev S64x512 : Shape := ⟨2, ![64, 512]⟩
abbrev S12x256x128 : Shape := ⟨3, ![12, 256, 128]⟩
abbrev S12x64x128 : Shape := ⟨3, ![12, 64, 128]⟩
abbrev S4x32x128 : Shape := ⟨3, ![4, 32, 128]⟩
abbrev S12 : Shape := ⟨1, ![12]⟩
abbrev S4 : Shape := ⟨1, ![4]⟩
abbrev S_ : Shape := ⟨0, ![]⟩
abbrev S256x128 : Shape := ⟨2, ![256, 128]⟩
abbrev S1x256x128 : Shape := ⟨3, ![1, 256, 128]⟩
abbrev S1 : Shape := ⟨1, ![1]⟩
abbrev S32x512 : Shape := ⟨2, ![32, 512]⟩
abbrev S64x128 : Shape := ⟨2, ![64, 128]⟩
abbrev S1x64x128 : Shape := ⟨3, ![1, 64, 128]⟩
abbrev S32x128 : Shape := ⟨2, ![32, 128]⟩
abbrev S1x32x128 : Shape := ⟨3, ![1, 32, 128]⟩

abbrev nBuf : Space → Nat
  | .hbm => 3
  | .vmem => 21
  | .smem => 0
  | _ => 0

abbrev bufTy : (tb : Table) → Fin (tcTables nBuf tb) → BufTy
  | .hbm, ⟨0, _⟩ => ⟨S1024x32, .f32⟩
  | .hbm, ⟨1, _⟩ => ⟨S32x1024, .f32⟩
  | .hbm, ⟨2, _⟩ => ⟨S32x1024, .f32⟩
  | .local _ .vmem, ⟨0, _⟩ => ⟨S1024x32, .f32⟩
  | .local _ .vmem, ⟨1, _⟩ => ⟨S32x1024, .f32⟩
  | .local _ .vmem, ⟨2, _⟩ => ⟨S32x1024, .f32⟩
  | .local _ .vmem, ⟨3, _⟩ => ⟨S1024x1024, .f32⟩
  | .local _ .vmem, ⟨4, _⟩ => ⟨S1024x512, .f32⟩
  | .local _ .vmem, ⟨5, _⟩ => ⟨S256x512, .f32⟩
  | .local _ .vmem, ⟨6, _⟩ => ⟨S256x512, .f32⟩
  | .local _ .vmem, ⟨7, _⟩ => ⟨S64x512, .f32⟩
  | .local _ .vmem, ⟨8, _⟩ => ⟨S64x512, .f32⟩
  | .local _ .vmem, ⟨9, _⟩ => ⟨S12x256x128, .f32⟩
  | .local _ .vmem, ⟨10, _⟩ => ⟨S12x256x128, .f32⟩
  | .local _ .vmem, ⟨11, _⟩ => ⟨S12x64x128, .f32⟩
  | .local _ .vmem, ⟨12, _⟩ => ⟨S12x64x128, .f32⟩
  | .local _ .vmem, ⟨13, _⟩ => ⟨S4x32x128, .f32⟩
  | .local _ .vmem, ⟨14, _⟩ => ⟨S4x32x128, .f32⟩
  | .local _ .vmem, ⟨15, _⟩ => ⟨S12x256x128, .f32⟩
  | .local _ .vmem, ⟨16, _⟩ => ⟨S12x256x128, .f32⟩
  | .local _ .vmem, ⟨17, _⟩ => ⟨S12x64x128, .f32⟩
  | .local _ .vmem, ⟨18, _⟩ => ⟨S12x64x128, .f32⟩
  | .local _ .vmem, ⟨19, _⟩ => ⟨S4x32x128, .f32⟩
  | .local _ .vmem, ⟨20, _⟩ => ⟨S4x32x128, .f32⟩
  | _, _ => ⟨S1024x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 1 → Bool
  | ⟨0, _⟩ => false
  | _ => false

abbrev dmaSemScoped : Fin 115 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | _ => false

abbrev sig : RefSig :=
  (ofTc nBuf bufTy 1 115 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_scratch11 : Ref sig .tc := ⟨.vmem, 14, rfl⟩
abbrev cc0_scratch12 : Ref sig .tc := ⟨.vmem, 15, rfl⟩
abbrev cc0_scratch13 : Ref sig .tc := ⟨.vmem, 16, rfl⟩
abbrev cc0_scratch14 : Ref sig .tc := ⟨.vmem, 17, rfl⟩
abbrev cc0_scratch15 : Ref sig .tc := ⟨.vmem, 18, rfl⟩
abbrev cc0_scratch16 : Ref sig .tc := ⟨.vmem, 19, rfl⟩
abbrev cc0_scratch17 : Ref sig .tc := ⟨.vmem, 20, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_66 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v46 : BitVec 32 := Scalar.addi v2 c24_i32
  let c32_i32_18 : BitVec 32 := 32#32
  let v47 : BitVec 32 := Scalar.remsi v46 c32_i32_18
  let c1_i32_65 : BitVec 32 := 1#32
  let v101 : BitVec 32 := Scalar.muli v47 c1_i32_65
  let v102 : BitVec 32 := Scalar.addi c0_i32_66 v101
  v102.toNat
def k0_dev2 (d0 : Dev nD) : Nat :=
  let c0_i32_69 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_47 : BitVec 32 := 8#32
  let v82 : BitVec 32 := Scalar.muli v19 c8_i32_47
  let c8_i32_5 : BitVec 32 := 8#32
  let v20 : BitVec 32 := Scalar.remsi v2 c8_i32_5
  let c7_i32_61 : BitVec 32 := 7#32
  let v95 : BitVec 1 := Scalar.cmpi .eq v20 c7_i32_61
  let c4_i32_62 : BitVec 32 := 4#32
  let c6_i32_59 : BitVec 32 := 6#32
  let v93 : BitVec 1 := Scalar.cmpi .eq v20 c6_i32_59
  let c5_i32_60 : BitVec 32 := 5#32
  let c5_i32_57 : BitVec 32 := 5#32
  let v91 : BitVec 1 := Scalar.cmpi .eq v20 c5_i32_57
  let c2_i32_58 : BitVec 32 := 2#32
  let c4_i32_55 : BitVec 32 := 4#32
  let v89 : BitVec 1 := Scalar.cmpi .eq v20 c4_i32_55
  let c3_i32_56 : BitVec 32 := 3#32
  let c3_i32_53 : BitVec 32 := 3#32
  let v87 : BitVec 1 := Scalar.cmpi .eq v20 c3_i32_53
  let c0_i32_54 : BitVec 32 := 0#32
  let c2_i32_51 : BitVec 32 := 2#32
  let v85 : BitVec 1 := Scalar.cmpi .eq v20 c2_i32_51
  let c1_i32_52 : BitVec 32 := 1#32
  let c1_i32_48 : BitVec 32 := 1#32
  let v83 : BitVec 1 := Scalar.cmpi .eq v20 c1_i32_48
  let c6_i32_49 : BitVec 32 := 6#32
  let c7_i32_50 : BitVec 32 := 7#32
  let v84 : BitVec 32 := Scalar.select v83 c6_i32_49 c7_i32_50
  let v86 : BitVec 32 := Scalar.select v85 c1_i32_52 v84
  let v88 : BitVec 32 := Scalar.select v87 c0_i32_54 v86
  let v90 : BitVec 32 := Scalar.select v89 c3_i32_56 v88
  let v92 : BitVec 32 := Scalar.select v91 c2_i32_58 v90
  let v94 : BitVec 32 := Scalar.select v93 c5_i32_60 v92
  let v96 : BitVec 32 := Scalar.select v95 c4_i32_62 v94
  let v97 : BitVec 32 := Scalar.addi v82 v96
  let c1_i32_68 : BitVec 32 := 1#32
  let v103 : BitVec 32 := Scalar.muli v97 c1_i32_68
  let v104 : BitVec 32 := Scalar.addi c0_i32_69 v103
  v104.toNat
def k0_dev3 (d0 : Dev nD) : Nat :=
  let c0_i32_72 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_63 : BitVec 32 := 8#32
  let v98 : BitVec 32 := Scalar.muli v19 c8_i32_63
  let c8_i32_5 : BitVec 32 := 8#32
  let v20 : BitVec 32 := Scalar.remsi v2 c8_i32_5
  let c1_i32_13 : BitVec 32 := 1#32
  let v40 : BitVec 32 := Scalar.addi v20 c1_i32_13
  let c2_i32_15 : BitVec 32 := 2#32
  let c2_i32_14 : BitVec 32 := 2#32
  let v41 : BitVec 32 := Scalar.remsi v20 c2_i32_14
  let v42 : BitVec 32 := Scalar.muli c2_i32_15 v41
  let v43 : BitVec 32 := Scalar.subi v40 v42
  let v99 : BitVec 32 := Scalar.addi v98 v43
  let c1_i32_71 : BitVec 32 := 1#32
  let v105 : BitVec 32 := Scalar.muli v99 c1_i32_71
  let v106 : BitVec 32 := Scalar.addi c0_i32_72 v105
  v106.toNat
def k0_off1 (d0 : Dev nD) (c3_i32_79 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v117 : BitVec 32 := Scalar.addi v19 c3_i32_79
  let c4_i32_80 : BitVec 32 := 4#32
  let v118 : BitVec 32 := Scalar.remsi v117 c4_i32_80
  let c256_i32 : BitVec 32 := 256#32
  let v119 : BitVec 32 := Scalar.muli v118 c256_i32
  let v120 : Index := Scalar.indexCast v119
  let c0_81 : Index := 0#32
  ![v120.toNat, 0]
def k0_dev4 (d0 : Dev nD) : Nat :=
  let c0_i32_90 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_16 : BitVec 32 := 8#32
  let v44 : BitVec 32 := Scalar.addi v2 c8_i32_16
  let c32_i32_17 : BitVec 32 := 32#32
  let v45 : BitVec 32 := Scalar.remsi v44 c32_i32_17
  let c1_i32_89 : BitVec 32 := 1#32
  let v125 : BitVec 32 := Scalar.muli v45 c1_i32_89
  let v126 : BitVec 32 := Scalar.addi c0_i32_90 v125
  v126.toNat
def k0_off2 (d0 : Dev nD) (c3_i32_95 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v135 : BitVec 32 := Scalar.addi v19 c3_i32_95
  let c4_i32_96 : BitVec 32 := 4#32
  let v136 : BitVec 32 := Scalar.remsi v135 c4_i32_96
  let c256_i32_97 : BitVec 32 := 256#32
  let v137 : BitVec 32 := Scalar.muli v136 c256_i32_97
  let v138 : Index := Scalar.indexCast v137
  let c128 : Index := 128#32
  ![v138.toNat, 128]
def k0_dev5 (d0 : Dev nD) : Nat :=
  let c0_i32_105 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_16 : BitVec 32 := 8#32
  let v44 : BitVec 32 := Scalar.addi v2 c8_i32_16
  let c32_i32_17 : BitVec 32 := 32#32
  let v45 : BitVec 32 := Scalar.remsi v44 c32_i32_17
  let c1_i32_104 : BitVec 32 := 1#32
  let v143 : BitVec 32 := Scalar.muli v45 c1_i32_104
  let v144 : BitVec 32 := Scalar.addi c0_i32_105 v143
  v144.toNat
def k0_off3 (d0 : Dev nD) (c3_i32_110 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v153 : BitVec 32 := Scalar.addi v19 c3_i32_110
  let c4_i32_111 : BitVec 32 := 4#32
  let v154 : BitVec 32 := Scalar.remsi v153 c4_i32_111
  let c256_i32_112 : BitVec 32 := 256#32
  let v155 : BitVec 32 := Scalar.muli v154 c256_i32_112
  let v156 : Index := Scalar.indexCast v155
  let c256 : Index := 256#32
  ![v156.toNat, 256]
def k0_dev6 (d0 : Dev nD) : Nat :=
  let c0_i32_120 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_16 : BitVec 32 := 8#32
  let v44 : BitVec 32 := Scalar.addi v2 c8_i32_16
  let c32_i32_17 : BitVec 32 := 32#32
  let v45 : BitVec 32 := Scalar.remsi v44 c32_i32_17
  let c1_i32_119 : BitVec 32 := 1#32
  let v161 : BitVec 32 := Scalar.muli v45 c1_i32_119
  let v162 : BitVec 32 := Scalar.addi c0_i32_120 v161
  v162.toNat
def k0_off4 (d0 : Dev nD) (c3_i32_125 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v171 : BitVec 32 := Scalar.addi v19 c3_i32_125
  let c4_i32_126 : BitVec 32 := 4#32
  let v172 : BitVec 32 := Scalar.remsi v171 c4_i32_126
  let c256_i32_127 : BitVec 32 := 256#32
  let v173 : BitVec 32 := Scalar.muli v172 c256_i32_127
  let v174 : Index := Scalar.indexCast v173
  let c384 : Index := 384#32
  ![v174.toNat, 384]
def k0_dev7 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_16 : BitVec 32 := 8#32
  let v44 : BitVec 32 := Scalar.addi v2 c8_i32_16
  let c32_i32_17 : BitVec 32 := 32#32
  let v45 : BitVec 32 := Scalar.remsi v44 c32_i32_17
  let c1_i32_133 : BitVec 32 := 1#32
  let v179 : BitVec 32 := Scalar.muli v45 c1_i32_133
  let v180 : BitVec 32 := Scalar.addi c0_i32_134 v179
  v180.toNat
def k0_off5 (d0 : Dev nD) (c3_i32_239 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v317 : BitVec 32 := Scalar.addi v37 c3_i32_239
  let c4_i32_240 : BitVec 32 := 4#32
  let v318 : BitVec 32 := Scalar.remsi v317 c4_i32_240
  let c256_i32_241 : BitVec 32 := 256#32
  let v319 : BitVec 32 := Scalar.muli v318 c256_i32_241
  let v320 : Index := Scalar.indexCast v319
  let c0_242 : Index := 0#32
  ![v320.toNat, 0]
def k0_dev8 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v50 : BitVec 32 := Scalar.muli v19 c8_i32_20
  let c8_i32_5 : BitVec 32 := 8#32
  let v20 : BitVec 32 := Scalar.remsi v2 c8_i32_5
  let c7_i32_29 : BitVec 32 := 7#32
  let v63 : BitVec 1 := Scalar.cmpi .eq v20 c7_i32_29
  let c0_i32_30 : BitVec 32 := 0#32
  let c6_i32_27 : BitVec 32 := 6#32
  let v61 : BitVec 1 := Scalar.cmpi .eq v20 c6_i32_27
  let c1_i32_28 : BitVec 32 := 1#32
  let c5_i32_26 : BitVec 32 := 5#32
  let v59 : BitVec 1 := Scalar.cmpi .eq v20 c5_i32_26
  let c6_i32 : BitVec 32 := 6#32
  let c4_i32_25 : BitVec 32 := 4#32
  let v57 : BitVec 1 := Scalar.cmpi .eq v20 c4_i32_25
  let c7_i32 : BitVec 32 := 7#32
  let c3_i32_24 : BitVec 32 := 3#32
  let v55 : BitVec 1 := Scalar.cmpi .eq v20 c3_i32_24
  let c4_i32 : BitVec 32 := 4#32
  let c2_i32_23 : BitVec 32 := 2#32
  let v53 : BitVec 1 := Scalar.cmpi .eq v20 c2_i32_23
  let c5_i32 : BitVec 32 := 5#32
  let c1_i32_21 : BitVec 32 := 1#32
  let v51 : BitVec 1 := Scalar.cmpi .eq v20 c1_i32_21
  let c2_i32_22 : BitVec 32 := 2#32
  let c3_i32 : BitVec 32 := 3#32
  let v52 : BitVec 32 := Scalar.select v51 c2_i32_22 c3_i32
  let v54 : BitVec 32 := Scalar.select v53 c5_i32 v52
  let v56 : BitVec 32 := Scalar.select v55 c4_i32 v54
  let v58 : BitVec 32 := Scalar.select v57 c7_i32 v56
  let v60 : BitVec 32 := Scalar.select v59 c6_i32 v58
  let v62 : BitVec 32 := Scalar.select v61 c1_i32_28 v60
  let v64 : BitVec 32 := Scalar.select v63 c0_i32_30 v62
  let v65 : BitVec 32 := Scalar.addi v50 v64
  let c1_i32_250 : BitVec 32 := 1#32
  let v325 : BitVec 32 := Scalar.muli v65 c1_i32_250
  let v326 : BitVec 32 := Scalar.addi c0_i32_251 v325
  v326.toNat
def k0_off6 (d0 : Dev nD) (c3_i32_256 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v335 : BitVec 32 := Scalar.addi v37 c3_i32_256
  let c4_i32_257 : BitVec 32 := 4#32
  let v336 : BitVec 32 := Scalar.remsi v335 c4_i32_257
  let c256_i32_258 : BitVec 32 := 256#32
  let v337 : BitVec 32 := Scalar.muli v336 c256_i32_258
  let v338 : Index := Scalar.indexCast v337
  let c128_259 : Index := 128#32
  ![v338.toNat, 128]
def k0_dev9 (d0 : Dev nD) : Nat :=
  let c0_i32_268 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v50 : BitVec 32 := Scalar.muli v19 c8_i32_20
  let c8_i32_5 : BitVec 32 := 8#32
  let v20 : BitVec 32 := Scalar.remsi v2 c8_i32_5
  let c7_i32_29 : BitVec 32 := 7#32
  let v63 : BitVec 1 := Scalar.cmpi .eq v20 c7_i32_29
  let c0_i32_30 : BitVec 32 := 0#32
  let c6_i32_27 : BitVec 32 := 6#32
  let v61 : BitVec 1 := Scalar.cmpi .eq v20 c6_i32_27
  let c1_i32_28 : BitVec 32 := 1#32
  let c5_i32_26 : BitVec 32 := 5#32
  let v59 : BitVec 1 := Scalar.cmpi .eq v20 c5_i32_26
  let c6_i32 : BitVec 32 := 6#32
  let c4_i32_25 : BitVec 32 := 4#32
  let v57 : BitVec 1 := Scalar.cmpi .eq v20 c4_i32_25
  let c7_i32 : BitVec 32 := 7#32
  let c3_i32_24 : BitVec 32 := 3#32
  let v55 : BitVec 1 := Scalar.cmpi .eq v20 c3_i32_24
  let c4_i32 : BitVec 32 := 4#32
  let c2_i32_23 : BitVec 32 := 2#32
  let v53 : BitVec 1 := Scalar.cmpi .eq v20 c2_i32_23
  let c5_i32 : BitVec 32 := 5#32
  let c1_i32_21 : BitVec 32 := 1#32
  let v51 : BitVec 1 := Scalar.cmpi .eq v20 c1_i32_21
  let c2_i32_22 : BitVec 32 := 2#32
  let c3_i32 : BitVec 32 := 3#32
  let v52 : BitVec 32 := Scalar.select v51 c2_i32_22 c3_i32
  let v54 : BitVec 32 := Scalar.select v53 c5_i32 v52
  let v56 : BitVec 32 := Scalar.select v55 c4_i32 v54
  let v58 : BitVec 32 := Scalar.select v57 c7_i32 v56
  let v60 : BitVec 32 := Scalar.select v59 c6_i32 v58
  let v62 : BitVec 32 := Scalar.select v61 c1_i32_28 v60
  let v64 : BitVec 32 := Scalar.select v63 c0_i32_30 v62
  let v65 : BitVec 32 := Scalar.addi v50 v64
  let c1_i32_267 : BitVec 32 := 1#32
  let v343 : BitVec 32 := Scalar.muli v65 c1_i32_267
  let v344 : BitVec 32 := Scalar.addi c0_i32_268 v343
  v344.toNat
def k0_off7 (d0 : Dev nD) (c3_i32_273 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v353 : BitVec 32 := Scalar.addi v37 c3_i32_273
  let c4_i32_274 : BitVec 32 := 4#32
  let v354 : BitVec 32 := Scalar.remsi v353 c4_i32_274
  let c256_i32_275 : BitVec 32 := 256#32
  let v355 : BitVec 32 := Scalar.muli v354 c256_i32_275
  let v356 : Index := Scalar.indexCast v355
  let c256_276 : Index := 256#32
  ![v356.toNat, 256]
def k0_dev10 (d0 : Dev nD) : Nat :=
  let c0_i32_285 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v50 : BitVec 32 := Scalar.muli v19 c8_i32_20
  let c8_i32_5 : BitVec 32 := 8#32
  let v20 : BitVec 32 := Scalar.remsi v2 c8_i32_5
  let c7_i32_29 : BitVec 32 := 7#32
  let v63 : BitVec 1 := Scalar.cmpi .eq v20 c7_i32_29
  let c0_i32_30 : BitVec 32 := 0#32
  let c6_i32_27 : BitVec 32 := 6#32
  let v61 : BitVec 1 := Scalar.cmpi .eq v20 c6_i32_27
  let c1_i32_28 : BitVec 32 := 1#32
  let c5_i32_26 : BitVec 32 := 5#32
  let v59 : BitVec 1 := Scalar.cmpi .eq v20 c5_i32_26
  let c6_i32 : BitVec 32 := 6#32
  let c4_i32_25 : BitVec 32 := 4#32
  let v57 : BitVec 1 := Scalar.cmpi .eq v20 c4_i32_25
  let c7_i32 : BitVec 32 := 7#32
  let c3_i32_24 : BitVec 32 := 3#32
  let v55 : BitVec 1 := Scalar.cmpi .eq v20 c3_i32_24
  let c4_i32 : BitVec 32 := 4#32
  let c2_i32_23 : BitVec 32 := 2#32
  let v53 : BitVec 1 := Scalar.cmpi .eq v20 c2_i32_23
  let c5_i32 : BitVec 32 := 5#32
  let c1_i32_21 : BitVec 32 := 1#32
  let v51 : BitVec 1 := Scalar.cmpi .eq v20 c1_i32_21
  let c2_i32_22 : BitVec 32 := 2#32
  let c3_i32 : BitVec 32 := 3#32
  let v52 : BitVec 32 := Scalar.select v51 c2_i32_22 c3_i32
  let v54 : BitVec 32 := Scalar.select v53 c5_i32 v52
  let v56 : BitVec 32 := Scalar.select v55 c4_i32 v54
  let v58 : BitVec 32 := Scalar.select v57 c7_i32 v56
  let v60 : BitVec 32 := Scalar.select v59 c6_i32 v58
  let v62 : BitVec 32 := Scalar.select v61 c1_i32_28 v60
  let v64 : BitVec 32 := Scalar.select v63 c0_i32_30 v62
  let v65 : BitVec 32 := Scalar.addi v50 v64
  let c1_i32_284 : BitVec 32 := 1#32
  let v361 : BitVec 32 := Scalar.muli v65 c1_i32_284
  let v362 : BitVec 32 := Scalar.addi c0_i32_285 v361
  v362.toNat
def k0_off8 (d0 : Dev nD) (c3_i32_290 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v371 : BitVec 32 := Scalar.addi v37 c3_i32_290
  let c4_i32_291 : BitVec 32 := 4#32
  let v372 : BitVec 32 := Scalar.remsi v371 c4_i32_291
  let c256_i32_292 : BitVec 32 := 256#32
  let v373 : BitVec 32 := Scalar.muli v372 c256_i32_292
  let v374 : Index := Scalar.indexCast v373
  let c384_293 : Index := 384#32
  ![v374.toNat, 384]
def k0_dev11 (d0 : Dev nD) : Nat :=
  let c0_i32_302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v50 : BitVec 32 := Scalar.muli v19 c8_i32_20
  let c8_i32_5 : BitVec 32 := 8#32
  let v20 : BitVec 32 := Scalar.remsi v2 c8_i32_5
  let c7_i32_29 : BitVec 32 := 7#32
  let v63 : BitVec 1 := Scalar.cmpi .eq v20 c7_i32_29
  let c0_i32_30 : BitVec 32 := 0#32
  let c6_i32_27 : BitVec 32 := 6#32
  let v61 : BitVec 1 := Scalar.cmpi .eq v20 c6_i32_27
  let c1_i32_28 : BitVec 32 := 1#32
  let c5_i32_26 : BitVec 32 := 5#32
  let v59 : BitVec 1 := Scalar.cmpi .eq v20 c5_i32_26
  let c6_i32 : BitVec 32 := 6#32
  let c4_i32_25 : BitVec 32 := 4#32
  let v57 : BitVec 1 := Scalar.cmpi .eq v20 c4_i32_25
  let c7_i32 : BitVec 32 := 7#32
  let c3_i32_24 : BitVec 32 := 3#32
  let v55 : BitVec 1 := Scalar.cmpi .eq v20 c3_i32_24
  let c4_i32 : BitVec 32 := 4#32
  let c2_i32_23 : BitVec 32 := 2#32
  let v53 : BitVec 1 := Scalar.cmpi .eq v20 c2_i32_23
  let c5_i32 : BitVec 32 := 5#32
  let c1_i32_21 : BitVec 32 := 1#32
  let v51 : BitVec 1 := Scalar.cmpi .eq v20 c1_i32_21
  let c2_i32_22 : BitVec 32 := 2#32
  let c3_i32 : BitVec 32 := 3#32
  let v52 : BitVec 32 := Scalar.select v51 c2_i32_22 c3_i32
  let v54 : BitVec 32 := Scalar.select v53 c5_i32 v52
  let v56 : BitVec 32 := Scalar.select v55 c4_i32 v54
  let v58 : BitVec 32 := Scalar.select v57 c7_i32 v56
  let v60 : BitVec 32 := Scalar.select v59 c6_i32 v58
  let v62 : BitVec 32 := Scalar.select v61 c1_i32_28 v60
  let v64 : BitVec 32 := Scalar.select v63 c0_i32_30 v62
  let v65 : BitVec 32 := Scalar.addi v50 v64
  let c1_i32_301 : BitVec 32 := 1#32
  let v379 : BitVec 32 := Scalar.muli v65 c1_i32_301
  let v380 : BitVec 32 := Scalar.addi c0_i32_302 v379
  v380.toNat
def k0_dev12 (d0 : Dev nD) : Nat :=
  let c0_i32_340 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_16 : BitVec 32 := 8#32
  let v44 : BitVec 32 := Scalar.addi v2 c8_i32_16
  let c32_i32_17 : BitVec 32 := 32#32
  let v45 : BitVec 32 := Scalar.remsi v44 c32_i32_17
  let c1_i32_339 : BitVec 32 := 1#32
  let v414 : BitVec 32 := Scalar.muli v45 c1_i32_339
  let v415 : BitVec 32 := Scalar.addi c0_i32_340 v414
  v415.toNat
def k0_dev13 (d0 : Dev nD) : Nat :=
  let c0_i32_379 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v50 : BitVec 32 := Scalar.muli v19 c8_i32_20
  let c8_i32_5 : BitVec 32 := 8#32
  let v20 : BitVec 32 := Scalar.remsi v2 c8_i32_5
  let c7_i32_29 : BitVec 32 := 7#32
  let v63 : BitVec 1 := Scalar.cmpi .eq v20 c7_i32_29
  let c0_i32_30 : BitVec 32 := 0#32
  let c6_i32_27 : BitVec 32 := 6#32
  let v61 : BitVec 1 := Scalar.cmpi .eq v20 c6_i32_27
  let c1_i32_28 : BitVec 32 := 1#32
  let c5_i32_26 : BitVec 32 := 5#32
  let v59 : BitVec 1 := Scalar.cmpi .eq v20 c5_i32_26
  let c6_i32 : BitVec 32 := 6#32
  let c4_i32_25 : BitVec 32 := 4#32
  let v57 : BitVec 1 := Scalar.cmpi .eq v20 c4_i32_25
  let c7_i32 : BitVec 32 := 7#32
  let c3_i32_24 : BitVec 32 := 3#32
  let v55 : BitVec 1 := Scalar.cmpi .eq v20 c3_i32_24
  let c4_i32 : BitVec 32 := 4#32
  let c2_i32_23 : BitVec 32 := 2#32
  let v53 : BitVec 1 := Scalar.cmpi .eq v20 c2_i32_23
  let c5_i32 : BitVec 32 := 5#32
  let c1_i32_21 : BitVec 32 := 1#32
  let v51 : BitVec 1 := Scalar.cmpi .eq v20 c1_i32_21
  let c2_i32_22 : BitVec 32 := 2#32
  let c3_i32 : BitVec 32 := 3#32
  let v52 : BitVec 32 := Scalar.select v51 c2_i32_22 c3_i32
  let v54 : BitVec 32 := Scalar.select v53 c5_i32 v52
  let v56 : BitVec 32 := Scalar.select v55 c4_i32 v54
  let v58 : BitVec 32 := Scalar.select v57 c7_i32 v56
  let v60 : BitVec 32 := Scalar.select v59 c6_i32 v58
  let v62 : BitVec 32 := Scalar.select v61 c1_i32_28 v60
  let v64 : BitVec 32 := Scalar.select v63 c0_i32_30 v62
  let v65 : BitVec 32 := Scalar.addi v50 v64
  let c1_i32_378 : BitVec 32 := 1#32
  let v449 : BitVec 32 := Scalar.muli v65 c1_i32_378
  let v450 : BitVec 32 := Scalar.addi c0_i32_379 v449
  v450.toNat
def k0_dev14 (d0 : Dev nD) : Nat :=
  let c0_i32_417 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_16 : BitVec 32 := 8#32
  let v44 : BitVec 32 := Scalar.addi v2 c8_i32_16
  let c32_i32_17 : BitVec 32 := 32#32
  let v45 : BitVec 32 := Scalar.remsi v44 c32_i32_17
  let c1_i32_416 : BitVec 32 := 1#32
  let v484 : BitVec 32 := Scalar.muli v45 c1_i32_416
  let v485 : BitVec 32 := Scalar.addi c0_i32_417 v484
  v485.toNat
def k0_dev15 (d0 : Dev nD) : Nat :=
  let c0_i32_456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v50 : BitVec 32 := Scalar.muli v19 c8_i32_20
  let c8_i32_5 : BitVec 32 := 8#32
  let v20 : BitVec 32 := Scalar.remsi v2 c8_i32_5
  let c7_i32_29 : BitVec 32 := 7#32
  let v63 : BitVec 1 := Scalar.cmpi .eq v20 c7_i32_29
  let c0_i32_30 : BitVec 32 := 0#32
  let c6_i32_27 : BitVec 32 := 6#32
  let v61 : BitVec 1 := Scalar.cmpi .eq v20 c6_i32_27
  let c1_i32_28 : BitVec 32 := 1#32
  let c5_i32_26 : BitVec 32 := 5#32
  let v59 : BitVec 1 := Scalar.cmpi .eq v20 c5_i32_26
  let c6_i32 : BitVec 32 := 6#32
  let c4_i32_25 : BitVec 32 := 4#32
  let v57 : BitVec 1 := Scalar.cmpi .eq v20 c4_i32_25
  let c7_i32 : BitVec 32 := 7#32
  let c3_i32_24 : BitVec 32 := 3#32
  let v55 : BitVec 1 := Scalar.cmpi .eq v20 c3_i32_24
  let c4_i32 : BitVec 32 := 4#32
  let c2_i32_23 : BitVec 32 := 2#32
  let v53 : BitVec 1 := Scalar.cmpi .eq v20 c2_i32_23
  let c5_i32 : BitVec 32 := 5#32
  let c1_i32_21 : BitVec 32 := 1#32
  let v51 : BitVec 1 := Scalar.cmpi .eq v20 c1_i32_21
  let c2_i32_22 : BitVec 32 := 2#32
  let c3_i32 : BitVec 32 := 3#32
  let v52 : BitVec 32 := Scalar.select v51 c2_i32_22 c3_i32
  let v54 : BitVec 32 := Scalar.select v53 c5_i32 v52
  let v56 : BitVec 32 := Scalar.select v55 c4_i32 v54
  let v58 : BitVec 32 := Scalar.select v57 c7_i32 v56
  let v60 : BitVec 32 := Scalar.select v59 c6_i32 v58
  let v62 : BitVec 32 := Scalar.select v61 c1_i32_28 v60
  let v64 : BitVec 32 := Scalar.select v63 c0_i32_30 v62
  let v65 : BitVec 32 := Scalar.addi v50 v64
  let c1_i32_455 : BitVec 32 := 1#32
  let v519 : BitVec 32 := Scalar.muli v65 c1_i32_455
  let v520 : BitVec 32 := Scalar.addi c0_i32_456 v519
  v520.toNat
def k0_dev16 (d0 : Dev nD) : Nat :=
  let c0_i32_494 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_16 : BitVec 32 := 8#32
  let v44 : BitVec 32 := Scalar.addi v2 c8_i32_16
  let c32_i32_17 : BitVec 32 := 32#32
  let v45 : BitVec 32 := Scalar.remsi v44 c32_i32_17
  let c1_i32_493 : BitVec 32 := 1#32
  let v554 : BitVec 32 := Scalar.muli v45 c1_i32_493
  let v555 : BitVec 32 := Scalar.addi c0_i32_494 v554
  v555.toNat
def k0_dev17 (d0 : Dev nD) : Nat :=
  let c0_i32_533 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v50 : BitVec 32 := Scalar.muli v19 c8_i32_20
  let c8_i32_5 : BitVec 32 := 8#32
  let v20 : BitVec 32 := Scalar.remsi v2 c8_i32_5
  let c7_i32_29 : BitVec 32 := 7#32
  let v63 : BitVec 1 := Scalar.cmpi .eq v20 c7_i32_29
  let c0_i32_30 : BitVec 32 := 0#32
  let c6_i32_27 : BitVec 32 := 6#32
  let v61 : BitVec 1 := Scalar.cmpi .eq v20 c6_i32_27
  let c1_i32_28 : BitVec 32 := 1#32
  let c5_i32_26 : BitVec 32 := 5#32
  let v59 : BitVec 1 := Scalar.cmpi .eq v20 c5_i32_26
  let c6_i32 : BitVec 32 := 6#32
  let c4_i32_25 : BitVec 32 := 4#32
  let v57 : BitVec 1 := Scalar.cmpi .eq v20 c4_i32_25
  let c7_i32 : BitVec 32 := 7#32
  let c3_i32_24 : BitVec 32 := 3#32
  let v55 : BitVec 1 := Scalar.cmpi .eq v20 c3_i32_24
  let c4_i32 : BitVec 32 := 4#32
  let c2_i32_23 : BitVec 32 := 2#32
  let v53 : BitVec 1 := Scalar.cmpi .eq v20 c2_i32_23
  let c5_i32 : BitVec 32 := 5#32
  let c1_i32_21 : BitVec 32 := 1#32
  let v51 : BitVec 1 := Scalar.cmpi .eq v20 c1_i32_21
  let c2_i32_22 : BitVec 32 := 2#32
  let c3_i32 : BitVec 32 := 3#32
  let v52 : BitVec 32 := Scalar.select v51 c2_i32_22 c3_i32
  let v54 : BitVec 32 := Scalar.select v53 c5_i32 v52
  let v56 : BitVec 32 := Scalar.select v55 c4_i32 v54
  let v58 : BitVec 32 := Scalar.select v57 c7_i32 v56
  let v60 : BitVec 32 := Scalar.select v59 c6_i32 v58
  let v62 : BitVec 32 := Scalar.select v61 c1_i32_28 v60
  let v64 : BitVec 32 := Scalar.select v63 c0_i32_30 v62
  let v65 : BitVec 32 := Scalar.addi v50 v64
  let c1_i32_532 : BitVec 32 := 1#32
  let v589 : BitVec 32 := Scalar.muli v65 c1_i32_532
  let v590 : BitVec 32 := Scalar.addi c0_i32_533 v589
  v590.toNat
def k0_dev18 (d0 : Dev nD) : Nat :=
  let c0_i32_570 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_16 : BitVec 32 := 8#32
  let v44 : BitVec 32 := Scalar.addi v2 c8_i32_16
  let c32_i32_17 : BitVec 32 := 32#32
  let v45 : BitVec 32 := Scalar.remsi v44 c32_i32_17
  let c1_i32_569 : BitVec 32 := 1#32
  let v624 : BitVec 32 := Scalar.muli v45 c1_i32_569
  let v625 : BitVec 32 := Scalar.addi c0_i32_570 v624
  v625.toNat
def k0_dev19 (d0 : Dev nD) : Nat :=
  let c0_i32_609 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v50 : BitVec 32 := Scalar.muli v19 c8_i32_20
  let c8_i32_5 : BitVec 32 := 8#32
  let v20 : BitVec 32 := Scalar.remsi v2 c8_i32_5
  let c7_i32_29 : BitVec 32 := 7#32
  let v63 : BitVec 1 := Scalar.cmpi .eq v20 c7_i32_29
  let c0_i32_30 : BitVec 32 := 0#32
  let c6_i32_27 : BitVec 32 := 6#32
  let v61 : BitVec 1 := Scalar.cmpi .eq v20 c6_i32_27
  let c1_i32_28 : BitVec 32 := 1#32
  let c5_i32_26 : BitVec 32 := 5#32
  let v59 : BitVec 1 := Scalar.cmpi .eq v20 c5_i32_26
  let c6_i32 : BitVec 32 := 6#32
  let c4_i32_25 : BitVec 32 := 4#32
  let v57 : BitVec 1 := Scalar.cmpi .eq v20 c4_i32_25
  let c7_i32 : BitVec 32 := 7#32
  let c3_i32_24 : BitVec 32 := 3#32
  let v55 : BitVec 1 := Scalar.cmpi .eq v20 c3_i32_24
  let c4_i32 : BitVec 32 := 4#32
  let c2_i32_23 : BitVec 32 := 2#32
  let v53 : BitVec 1 := Scalar.cmpi .eq v20 c2_i32_23
  let c5_i32 : BitVec 32 := 5#32
  let c1_i32_21 : BitVec 32 := 1#32
  let v51 : BitVec 1 := Scalar.cmpi .eq v20 c1_i32_21
  let c2_i32_22 : BitVec 32 := 2#32
  let c3_i32 : BitVec 32 := 3#32
  let v52 : BitVec 32 := Scalar.select v51 c2_i32_22 c3_i32
  let v54 : BitVec 32 := Scalar.select v53 c5_i32 v52
  let v56 : BitVec 32 := Scalar.select v55 c4_i32 v54
  let v58 : BitVec 32 := Scalar.select v57 c7_i32 v56
  let v60 : BitVec 32 := Scalar.select v59 c6_i32 v58
  let v62 : BitVec 32 := Scalar.select v61 c1_i32_28 v60
  let v64 : BitVec 32 := Scalar.select v63 c0_i32_30 v62
  let v65 : BitVec 32 := Scalar.addi v50 v64
  let c1_i32_608 : BitVec 32 := 1#32
  let v659 : BitVec 32 := Scalar.muli v65 c1_i32_608
  let v660 : BitVec 32 := Scalar.addi c0_i32_609 v659
  v660.toNat
def k0_dev20 (d0 : Dev nD) : Nat :=
  let c0_i32_647 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_16 : BitVec 32 := 8#32
  let v44 : BitVec 32 := Scalar.addi v2 c8_i32_16
  let c32_i32_17 : BitVec 32 := 32#32
  let v45 : BitVec 32 := Scalar.remsi v44 c32_i32_17
  let c1_i32_646 : BitVec 32 := 1#32
  let v694 : BitVec 32 := Scalar.muli v45 c1_i32_646
  let v695 : BitVec 32 := Scalar.addi c0_i32_647 v694
  v695.toNat
def k0_dev21 (d0 : Dev nD) : Nat :=
  let c0_i32_686 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v50 : BitVec 32 := Scalar.muli v19 c8_i32_20
  let c8_i32_5 : BitVec 32 := 8#32
  let v20 : BitVec 32 := Scalar.remsi v2 c8_i32_5
  let c7_i32_29 : BitVec 32 := 7#32
  let v63 : BitVec 1 := Scalar.cmpi .eq v20 c7_i32_29
  let c0_i32_30 : BitVec 32 := 0#32
  let c6_i32_27 : BitVec 32 := 6#32
  let v61 : BitVec 1 := Scalar.cmpi .eq v20 c6_i32_27
  let c1_i32_28 : BitVec 32 := 1#32
  let c5_i32_26 : BitVec 32 := 5#32
  let v59 : BitVec 1 := Scalar.cmpi .eq v20 c5_i32_26
  let c6_i32 : BitVec 32 := 6#32
  let c4_i32_25 : BitVec 32 := 4#32
  let v57 : BitVec 1 := Scalar.cmpi .eq v20 c4_i32_25
  let c7_i32 : BitVec 32 := 7#32
  let c3_i32_24 : BitVec 32 := 3#32
  let v55 : BitVec 1 := Scalar.cmpi .eq v20 c3_i32_24
  let c4_i32 : BitVec 32 := 4#32
  let c2_i32_23 : BitVec 32 := 2#32
  let v53 : BitVec 1 := Scalar.cmpi .eq v20 c2_i32_23
  let c5_i32 : BitVec 32 := 5#32
  let c1_i32_21 : BitVec 32 := 1#32
  let v51 : BitVec 1 := Scalar.cmpi .eq v20 c1_i32_21
  let c2_i32_22 : BitVec 32 := 2#32
  let c3_i32 : BitVec 32 := 3#32
  let v52 : BitVec 32 := Scalar.select v51 c2_i32_22 c3_i32
  let v54 : BitVec 32 := Scalar.select v53 c5_i32 v52
  let v56 : BitVec 32 := Scalar.select v55 c4_i32 v54
  let v58 : BitVec 32 := Scalar.select v57 c7_i32 v56
  let v60 : BitVec 32 := Scalar.select v59 c6_i32 v58
  let v62 : BitVec 32 := Scalar.select v61 c1_i32_28 v60
  let v64 : BitVec 32 := Scalar.select v63 c0_i32_30 v62
  let v65 : BitVec 32 := Scalar.addi v50 v64
  let c1_i32_685 : BitVec 32 := 1#32
  let v729 : BitVec 32 := Scalar.muli v65 c1_i32_685
  let v730 : BitVec 32 := Scalar.addi c0_i32_686 v729
  v730.toNat
def k0_dev22 (d0 : Dev nD) : Nat :=
  let c0_i32_724 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_16 : BitVec 32 := 8#32
  let v44 : BitVec 32 := Scalar.addi v2 c8_i32_16
  let c32_i32_17 : BitVec 32 := 32#32
  let v45 : BitVec 32 := Scalar.remsi v44 c32_i32_17
  let c1_i32_723 : BitVec 32 := 1#32
  let v764 : BitVec 32 := Scalar.muli v45 c1_i32_723
  let v765 : BitVec 32 := Scalar.addi c0_i32_724 v764
  v765.toNat
def k0_dev23 (d0 : Dev nD) : Nat :=
  let c0_i32_763 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v50 : BitVec 32 := Scalar.muli v19 c8_i32_20
  let c8_i32_5 : BitVec 32 := 8#32
  let v20 : BitVec 32 := Scalar.remsi v2 c8_i32_5
  let c7_i32_29 : BitVec 32 := 7#32
  let v63 : BitVec 1 := Scalar.cmpi .eq v20 c7_i32_29
  let c0_i32_30 : BitVec 32 := 0#32
  let c6_i32_27 : BitVec 32 := 6#32
  let v61 : BitVec 1 := Scalar.cmpi .eq v20 c6_i32_27
  let c1_i32_28 : BitVec 32 := 1#32
  let c5_i32_26 : BitVec 32 := 5#32
  let v59 : BitVec 1 := Scalar.cmpi .eq v20 c5_i32_26
  let c6_i32 : BitVec 32 := 6#32
  let c4_i32_25 : BitVec 32 := 4#32
  let v57 : BitVec 1 := Scalar.cmpi .eq v20 c4_i32_25
  let c7_i32 : BitVec 32 := 7#32
  let c3_i32_24 : BitVec 32 := 3#32
  let v55 : BitVec 1 := Scalar.cmpi .eq v20 c3_i32_24
  let c4_i32 : BitVec 32 := 4#32
  let c2_i32_23 : BitVec 32 := 2#32
  let v53 : BitVec 1 := Scalar.cmpi .eq v20 c2_i32_23
  let c5_i32 : BitVec 32 := 5#32
  let c1_i32_21 : BitVec 32 := 1#32
  let v51 : BitVec 1 := Scalar.cmpi .eq v20 c1_i32_21
  let c2_i32_22 : BitVec 32 := 2#32
  let c3_i32 : BitVec 32 := 3#32
  let v52 : BitVec 32 := Scalar.select v51 c2_i32_22 c3_i32
  let v54 : BitVec 32 := Scalar.select v53 c5_i32 v52
  let v56 : BitVec 32 := Scalar.select v55 c4_i32 v54
  let v58 : BitVec 32 := Scalar.select v57 c7_i32 v56
  let v60 : BitVec 32 := Scalar.select v59 c6_i32 v58
  let v62 : BitVec 32 := Scalar.select v61 c1_i32_28 v60
  let v64 : BitVec 32 := Scalar.select v63 c0_i32_30 v62
  let v65 : BitVec 32 := Scalar.addi v50 v64
  let c1_i32_762 : BitVec 32 := 1#32
  let v799 : BitVec 32 := Scalar.muli v65 c1_i32_762
  let v800 : BitVec 32 := Scalar.addi c0_i32_763 v799
  v800.toNat
def k0_dev24 (d0 : Dev nD) : Nat :=
  let c0_i32_801 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_16 : BitVec 32 := 8#32
  let v44 : BitVec 32 := Scalar.addi v2 c8_i32_16
  let c32_i32_17 : BitVec 32 := 32#32
  let v45 : BitVec 32 := Scalar.remsi v44 c32_i32_17
  let c1_i32_800 : BitVec 32 := 1#32
  let v834 : BitVec 32 := Scalar.muli v45 c1_i32_800
  let v835 : BitVec 32 := Scalar.addi c0_i32_801 v834
  v835.toNat
def k0_dev25 (d0 : Dev nD) : Nat :=
  let c0_i32_840 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v50 : BitVec 32 := Scalar.muli v19 c8_i32_20
  let c8_i32_5 : BitVec 32 := 8#32
  let v20 : BitVec 32 := Scalar.remsi v2 c8_i32_5
  let c7_i32_29 : BitVec 32 := 7#32
  let v63 : BitVec 1 := Scalar.cmpi .eq v20 c7_i32_29
  let c0_i32_30 : BitVec 32 := 0#32
  let c6_i32_27 : BitVec 32 := 6#32
  let v61 : BitVec 1 := Scalar.cmpi .eq v20 c6_i32_27
  let c1_i32_28 : BitVec 32 := 1#32
  let c5_i32_26 : BitVec 32 := 5#32
  let v59 : BitVec 1 := Scalar.cmpi .eq v20 c5_i32_26
  let c6_i32 : BitVec 32 := 6#32
  let c4_i32_25 : BitVec 32 := 4#32
  let v57 : BitVec 1 := Scalar.cmpi .eq v20 c4_i32_25
  let c7_i32 : BitVec 32 := 7#32
  let c3_i32_24 : BitVec 32 := 3#32
  let v55 : BitVec 1 := Scalar.cmpi .eq v20 c3_i32_24
  let c4_i32 : BitVec 32 := 4#32
  let c2_i32_23 : BitVec 32 := 2#32
  let v53 : BitVec 1 := Scalar.cmpi .eq v20 c2_i32_23
  let c5_i32 : BitVec 32 := 5#32
  let c1_i32_21 : BitVec 32 := 1#32
  let v51 : BitVec 1 := Scalar.cmpi .eq v20 c1_i32_21
  let c2_i32_22 : BitVec 32 := 2#32
  let c3_i32 : BitVec 32 := 3#32
  let v52 : BitVec 32 := Scalar.select v51 c2_i32_22 c3_i32
  let v54 : BitVec 32 := Scalar.select v53 c5_i32 v52
  let v56 : BitVec 32 := Scalar.select v55 c4_i32 v54
  let v58 : BitVec 32 := Scalar.select v57 c7_i32 v56
  let v60 : BitVec 32 := Scalar.select v59 c6_i32 v58
  let v62 : BitVec 32 := Scalar.select v61 c1_i32_28 v60
  let v64 : BitVec 32 := Scalar.select v63 c0_i32_30 v62
  let v65 : BitVec 32 := Scalar.addi v50 v64
  let c1_i32_839 : BitVec 32 := 1#32
  let v869 : BitVec 32 := Scalar.muli v65 c1_i32_839
  let v870 : BitVec 32 := Scalar.addi c0_i32_840 v869
  v870.toNat
def k0_dev26 (d0 : Dev nD) : Nat :=
  let c0_i32_877 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_16 : BitVec 32 := 8#32
  let v44 : BitVec 32 := Scalar.addi v2 c8_i32_16
  let c32_i32_17 : BitVec 32 := 32#32
  let v45 : BitVec 32 := Scalar.remsi v44 c32_i32_17
  let c1_i32_876 : BitVec 32 := 1#32
  let v904 : BitVec 32 := Scalar.muli v45 c1_i32_876
  let v905 : BitVec 32 := Scalar.addi c0_i32_877 v904
  v905.toNat
def k0_dev27 (d0 : Dev nD) : Nat :=
  let c0_i32_916 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v50 : BitVec 32 := Scalar.muli v19 c8_i32_20
  let c8_i32_5 : BitVec 32 := 8#32
  let v20 : BitVec 32 := Scalar.remsi v2 c8_i32_5
  let c7_i32_29 : BitVec 32 := 7#32
  let v63 : BitVec 1 := Scalar.cmpi .eq v20 c7_i32_29
  let c0_i32_30 : BitVec 32 := 0#32
  let c6_i32_27 : BitVec 32 := 6#32
  let v61 : BitVec 1 := Scalar.cmpi .eq v20 c6_i32_27
  let c1_i32_28 : BitVec 32 := 1#32
  let c5_i32_26 : BitVec 32 := 5#32
  let v59 : BitVec 1 := Scalar.cmpi .eq v20 c5_i32_26
  let c6_i32 : BitVec 32 := 6#32
  let c4_i32_25 : BitVec 32 := 4#32
  let v57 : BitVec 1 := Scalar.cmpi .eq v20 c4_i32_25
  let c7_i32 : BitVec 32 := 7#32
  let c3_i32_24 : BitVec 32 := 3#32
  let v55 : BitVec 1 := Scalar.cmpi .eq v20 c3_i32_24
  let c4_i32 : BitVec 32 := 4#32
  let c2_i32_23 : BitVec 32 := 2#32
  let v53 : BitVec 1 := Scalar.cmpi .eq v20 c2_i32_23
  let c5_i32 : BitVec 32 := 5#32
  let c1_i32_21 : BitVec 32 := 1#32
  let v51 : BitVec 1 := Scalar.cmpi .eq v20 c1_i32_21
  let c2_i32_22 : BitVec 32 := 2#32
  let c3_i32 : BitVec 32 := 3#32
  let v52 : BitVec 32 := Scalar.select v51 c2_i32_22 c3_i32
  let v54 : BitVec 32 := Scalar.select v53 c5_i32 v52
  let v56 : BitVec 32 := Scalar.select v55 c4_i32 v54
  let v58 : BitVec 32 := Scalar.select v57 c7_i32 v56
  let v60 : BitVec 32 := Scalar.select v59 c6_i32 v58
  let v62 : BitVec 32 := Scalar.select v61 c1_i32_28 v60
  let v64 : BitVec 32 := Scalar.select v63 c0_i32_30 v62
  let v65 : BitVec 32 := Scalar.addi v50 v64
  let c1_i32_915 : BitVec 32 := 1#32
  let v939 : BitVec 32 := Scalar.muli v65 c1_i32_915
  let v940 : BitVec 32 := Scalar.addi c0_i32_916 v939
  v940.toNat
def k0_off9 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c256_i32_943 : BitVec 32 := 256#32
  let v965 : BitVec 32 := Scalar.muli v19 c256_i32_943
  let v966 : Index := Scalar.indexCast v965
  let c0_944 : Index := 0#32
  ![v966.toNat, 0]
def k0_off10 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c256_i32_969 : BitVec 32 := 256#32
  let v988 : BitVec 32 := Scalar.muli v37 c256_i32_969
  let v989 : Index := Scalar.indexCast v988
  let c0_970 : Index := 0#32
  ![v989.toNat, 0]
def k0_off11 (d0 : Dev nD) (c1_i32_973 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v995 : BitVec 32 := Scalar.addi v37 c1_i32_973
  let c4_i32_974 : BitVec 32 := 4#32
  let v996 : BitVec 32 := Scalar.remsi v995 c4_i32_974
  let c64_i32 : BitVec 32 := 64#32
  let v997 : BitVec 32 := Scalar.muli v996 c64_i32
  let v998 : Index := Scalar.indexCast v997
  let c0_975 : Index := 0#32
  ![v998.toNat, 0]
def k0_dev28 (d0 : Dev nD) : Nat :=
  let c0_i32_984 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v50 : BitVec 32 := Scalar.muli v19 c8_i32_20
  let c8_i32_5 : BitVec 32 := 8#32
  let v20 : BitVec 32 := Scalar.remsi v2 c8_i32_5
  let c7_i32_29 : BitVec 32 := 7#32
  let v63 : BitVec 1 := Scalar.cmpi .eq v20 c7_i32_29
  let c0_i32_30 : BitVec 32 := 0#32
  let c6_i32_27 : BitVec 32 := 6#32
  let v61 : BitVec 1 := Scalar.cmpi .eq v20 c6_i32_27
  let c1_i32_28 : BitVec 32 := 1#32
  let c5_i32_26 : BitVec 32 := 5#32
  let v59 : BitVec 1 := Scalar.cmpi .eq v20 c5_i32_26
  let c6_i32 : BitVec 32 := 6#32
  let c4_i32_25 : BitVec 32 := 4#32
  let v57 : BitVec 1 := Scalar.cmpi .eq v20 c4_i32_25
  let c7_i32 : BitVec 32 := 7#32
  let c3_i32_24 : BitVec 32 := 3#32
  let v55 : BitVec 1 := Scalar.cmpi .eq v20 c3_i32_24
  let c4_i32 : BitVec 32 := 4#32
  let c2_i32_23 : BitVec 32 := 2#32
  let v53 : BitVec 1 := Scalar.cmpi .eq v20 c2_i32_23
  let c5_i32 : BitVec 32 := 5#32
  let c1_i32_21 : BitVec 32 := 1#32
  let v51 : BitVec 1 := Scalar.cmpi .eq v20 c1_i32_21
  let c2_i32_22 : BitVec 32 := 2#32
  let c3_i32 : BitVec 32 := 3#32
  let v52 : BitVec 32 := Scalar.select v51 c2_i32_22 c3_i32
  let v54 : BitVec 32 := Scalar.select v53 c5_i32 v52
  let v56 : BitVec 32 := Scalar.select v55 c4_i32 v54
  let v58 : BitVec 32 := Scalar.select v57 c7_i32 v56
  let v60 : BitVec 32 := Scalar.select v59 c6_i32 v58
  let v62 : BitVec 32 := Scalar.select v61 c1_i32_28 v60
  let v64 : BitVec 32 := Scalar.select v63 c0_i32_30 v62
  let v65 : BitVec 32 := Scalar.addi v50 v64
  let c1_i32_983 : BitVec 32 := 1#32
  let v1003 : BitVec 32 := Scalar.muli v65 c1_i32_983
  let v1004 : BitVec 32 := Scalar.addi c0_i32_984 v1003
  v1004.toNat
def k0_off12 (d0 : Dev nD) (c1_i32_989 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v1013 : BitVec 32 := Scalar.addi v19 c1_i32_989
  let c4_i32_990 : BitVec 32 := 4#32
  let v1014 : BitVec 32 := Scalar.remsi v1013 c4_i32_990
  let c64_i32_991 : BitVec 32 := 64#32
  let v1015 : BitVec 32 := Scalar.muli v1014 c64_i32_991
  let v1016 : Index := Scalar.indexCast v1015
  let c0_992 : Index := 0#32
  ![v1016.toNat, 0]
def k0_dev29 (d0 : Dev nD) : Nat :=
  let c0_i32_1001 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_16 : BitVec 32 := 8#32
  let v44 : BitVec 32 := Scalar.addi v2 c8_i32_16
  let c32_i32_17 : BitVec 32 := 32#32
  let v45 : BitVec 32 := Scalar.remsi v44 c32_i32_17
  let c1_i32_1000 : BitVec 32 := 1#32
  let v1021 : BitVec 32 := Scalar.muli v45 c1_i32_1000
  let v1022 : BitVec 32 := Scalar.addi c0_i32_1001 v1021
  v1022.toNat
def k0_dev30 (d0 : Dev nD) : Nat :=
  let c0_i32_1018 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_31 : BitVec 32 := 8#32
  let v66 : BitVec 32 := Scalar.muli v19 c8_i32_31
  let c8_i32_5 : BitVec 32 := 8#32
  let v20 : BitVec 32 := Scalar.remsi v2 c8_i32_5
  let c7_i32_45 : BitVec 32 := 7#32
  let v79 : BitVec 1 := Scalar.cmpi .eq v20 c7_i32_45
  let c3_i32_46 : BitVec 32 := 3#32
  let c6_i32_43 : BitVec 32 := 6#32
  let v77 : BitVec 1 := Scalar.cmpi .eq v20 c6_i32_43
  let c2_i32_44 : BitVec 32 := 2#32
  let c5_i32_41 : BitVec 32 := 5#32
  let v75 : BitVec 1 := Scalar.cmpi .eq v20 c5_i32_41
  let c1_i32_42 : BitVec 32 := 1#32
  let c4_i32_39 : BitVec 32 := 4#32
  let v73 : BitVec 1 := Scalar.cmpi .eq v20 c4_i32_39
  let c0_i32_40 : BitVec 32 := 0#32
  let c3_i32_37 : BitVec 32 := 3#32
  let v71 : BitVec 1 := Scalar.cmpi .eq v20 c3_i32_37
  let c7_i32_38 : BitVec 32 := 7#32
  let c2_i32_35 : BitVec 32 := 2#32
  let v69 : BitVec 1 := Scalar.cmpi .eq v20 c2_i32_35
  let c6_i32_36 : BitVec 32 := 6#32
  let c1_i32_32 : BitVec 32 := 1#32
  let v67 : BitVec 1 := Scalar.cmpi .eq v20 c1_i32_32
  let c5_i32_33 : BitVec 32 := 5#32
  let c4_i32_34 : BitVec 32 := 4#32
  let v68 : BitVec 32 := Scalar.select v67 c5_i32_33 c4_i32_34
  let v70 : BitVec 32 := Scalar.select v69 c6_i32_36 v68
  let v72 : BitVec 32 := Scalar.select v71 c7_i32_38 v70
  let v74 : BitVec 32 := Scalar.select v73 c0_i32_40 v72
  let v76 : BitVec 32 := Scalar.select v75 c1_i32_42 v74
  let v78 : BitVec 32 := Scalar.select v77 c2_i32_44 v76
  let v80 : BitVec 32 := Scalar.select v79 c3_i32_46 v78
  let v81 : BitVec 32 := Scalar.addi v66 v80
  let c1_i32_1017 : BitVec 32 := 1#32
  let v1039 : BitVec 32 := Scalar.muli v81 c1_i32_1017
  let v1040 : BitVec 32 := Scalar.addi c0_i32_1018 v1039
  v1040.toNat
def k0_dev31 (d0 : Dev nD) : Nat :=
  let c0_i32_1035 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v48 : BitVec 32 := Scalar.addi v2 c16_i32
  let c32_i32_19 : BitVec 32 := 32#32
  let v49 : BitVec 32 := Scalar.remsi v48 c32_i32_19
  let c1_i32_1034 : BitVec 32 := 1#32
  let v1057 : BitVec 32 := Scalar.muli v49 c1_i32_1034
  let v1058 : BitVec 32 := Scalar.addi c0_i32_1035 v1057
  v1058.toNat
def k0_dev32 (d0 : Dev nD) : Nat :=
  let c0_i32_1052 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_47 : BitVec 32 := 8#32
  let v82 : BitVec 32 := Scalar.muli v19 c8_i32_47
  let c8_i32_5 : BitVec 32 := 8#32
  let v20 : BitVec 32 := Scalar.remsi v2 c8_i32_5
  let c7_i32_61 : BitVec 32 := 7#32
  let v95 : BitVec 1 := Scalar.cmpi .eq v20 c7_i32_61
  let c4_i32_62 : BitVec 32 := 4#32
  let c6_i32_59 : BitVec 32 := 6#32
  let v93 : BitVec 1 := Scalar.cmpi .eq v20 c6_i32_59
  let c5_i32_60 : BitVec 32 := 5#32
  let c5_i32_57 : BitVec 32 := 5#32
  let v91 : BitVec 1 := Scalar.cmpi .eq v20 c5_i32_57
  let c2_i32_58 : BitVec 32 := 2#32
  let c4_i32_55 : BitVec 32 := 4#32
  let v89 : BitVec 1 := Scalar.cmpi .eq v20 c4_i32_55
  let c3_i32_56 : BitVec 32 := 3#32
  let c3_i32_53 : BitVec 32 := 3#32
  let v87 : BitVec 1 := Scalar.cmpi .eq v20 c3_i32_53
  let c0_i32_54 : BitVec 32 := 0#32
  let c2_i32_51 : BitVec 32 := 2#32
  let v85 : BitVec 1 := Scalar.cmpi .eq v20 c2_i32_51
  let c1_i32_52 : BitVec 32 := 1#32
  let c1_i32_48 : BitVec 32 := 1#32
  let v83 : BitVec 1 := Scalar.cmpi .eq v20 c1_i32_48
  let c6_i32_49 : BitVec 32 := 6#32
  let c7_i32_50 : BitVec 32 := 7#32
  let v84 : BitVec 32 := Scalar.select v83 c6_i32_49 c7_i32_50
  let v86 : BitVec 32 := Scalar.select v85 c1_i32_52 v84
  let v88 : BitVec 32 := Scalar.select v87 c0_i32_54 v86
  let v90 : BitVec 32 := Scalar.select v89 c3_i32_56 v88
  let v92 : BitVec 32 := Scalar.select v91 c2_i32_58 v90
  let v94 : BitVec 32 := Scalar.select v93 c5_i32_60 v92
  let v96 : BitVec 32 := Scalar.select v95 c4_i32_62 v94
  let v97 : BitVec 32 := Scalar.addi v82 v96
  let c1_i32_1051 : BitVec 32 := 1#32
  let v1075 : BitVec 32 := Scalar.muli v97 c1_i32_1051
  let v1076 : BitVec 32 := Scalar.addi c0_i32_1052 v1075
  v1076.toNat
def k0_dev33 (d0 : Dev nD) : Nat :=
  let c0_i32_1069 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v46 : BitVec 32 := Scalar.addi v2 c24_i32
  let c32_i32_18 : BitVec 32 := 32#32
  let v47 : BitVec 32 := Scalar.remsi v46 c32_i32_18
  let c1_i32_1068 : BitVec 32 := 1#32
  let v1093 : BitVec 32 := Scalar.muli v47 c1_i32_1068
  let v1094 : BitVec 32 := Scalar.addi c0_i32_1069 v1093
  v1094.toNat
def k0_off13 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c256_i32_1096 : BitVec 32 := 256#32
  let v1119 : BitVec 32 := Scalar.muli v19 c256_i32_1096
  let v1120 : Index := Scalar.indexCast v1119
  let c128_1097 : Index := 128#32
  ![v1120.toNat, 128]
def k0_off14 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c256_i32_1122 : BitVec 32 := 256#32
  let v1142 : BitVec 32 := Scalar.muli v37 c256_i32_1122
  let v1143 : Index := Scalar.indexCast v1142
  let c128_1123 : Index := 128#32
  ![v1143.toNat, 128]
def k0_off15 (d0 : Dev nD) (c1_i32_1126 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v1149 : BitVec 32 := Scalar.addi v37 c1_i32_1126
  let c4_i32_1127 : BitVec 32 := 4#32
  let v1150 : BitVec 32 := Scalar.remsi v1149 c4_i32_1127
  let c64_i32_1128 : BitVec 32 := 64#32
  let v1151 : BitVec 32 := Scalar.muli v1150 c64_i32_1128
  let v1152 : Index := Scalar.indexCast v1151
  let c128_1129 : Index := 128#32
  ![v1152.toNat, 128]
def k0_dev34 (d0 : Dev nD) : Nat :=
  let c0_i32_1138 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v50 : BitVec 32 := Scalar.muli v19 c8_i32_20
  let c8_i32_5 : BitVec 32 := 8#32
  let v20 : BitVec 32 := Scalar.remsi v2 c8_i32_5
  let c7_i32_29 : BitVec 32 := 7#32
  let v63 : BitVec 1 := Scalar.cmpi .eq v20 c7_i32_29
  let c0_i32_30 : BitVec 32 := 0#32
  let c6_i32_27 : BitVec 32 := 6#32
  let v61 : BitVec 1 := Scalar.cmpi .eq v20 c6_i32_27
  let c1_i32_28 : BitVec 32 := 1#32
  let c5_i32_26 : BitVec 32 := 5#32
  let v59 : BitVec 1 := Scalar.cmpi .eq v20 c5_i32_26
  let c6_i32 : BitVec 32 := 6#32
  let c4_i32_25 : BitVec 32 := 4#32
  let v57 : BitVec 1 := Scalar.cmpi .eq v20 c4_i32_25
  let c7_i32 : BitVec 32 := 7#32
  let c3_i32_24 : BitVec 32 := 3#32
  let v55 : BitVec 1 := Scalar.cmpi .eq v20 c3_i32_24
  let c4_i32 : BitVec 32 := 4#32
  let c2_i32_23 : BitVec 32 := 2#32
  let v53 : BitVec 1 := Scalar.cmpi .eq v20 c2_i32_23
  let c5_i32 : BitVec 32 := 5#32
  let c1_i32_21 : BitVec 32 := 1#32
  let v51 : BitVec 1 := Scalar.cmpi .eq v20 c1_i32_21
  let c2_i32_22 : BitVec 32 := 2#32
  let c3_i32 : BitVec 32 := 3#32
  let v52 : BitVec 32 := Scalar.select v51 c2_i32_22 c3_i32
  let v54 : BitVec 32 := Scalar.select v53 c5_i32 v52
  let v56 : BitVec 32 := Scalar.select v55 c4_i32 v54
  let v58 : BitVec 32 := Scalar.select v57 c7_i32 v56
  let v60 : BitVec 32 := Scalar.select v59 c6_i32 v58
  let v62 : BitVec 32 := Scalar.select v61 c1_i32_28 v60
  let v64 : BitVec 32 := Scalar.select v63 c0_i32_30 v62
  let v65 : BitVec 32 := Scalar.addi v50 v64
  let c1_i32_1137 : BitVec 32 := 1#32
  let v1157 : BitVec 32 := Scalar.muli v65 c1_i32_1137
  let v1158 : BitVec 32 := Scalar.addi c0_i32_1138 v1157
  v1158.toNat
def k0_off16 (d0 : Dev nD) (c1_i32_1143 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v1167 : BitVec 32 := Scalar.addi v19 c1_i32_1143
  let c4_i32_1144 : BitVec 32 := 4#32
  let v1168 : BitVec 32 := Scalar.remsi v1167 c4_i32_1144
  let c64_i32_1145 : BitVec 32 := 64#32
  let v1169 : BitVec 32 := Scalar.muli v1168 c64_i32_1145
  let v1170 : Index := Scalar.indexCast v1169
  let c128_1146 : Index := 128#32
  ![v1170.toNat, 128]
def k0_dev35 (d0 : Dev nD) : Nat :=
  let c0_i32_1155 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_16 : BitVec 32 := 8#32
  let v44 : BitVec 32 := Scalar.addi v2 c8_i32_16
  let c32_i32_17 : BitVec 32 := 32#32
  let v45 : BitVec 32 := Scalar.remsi v44 c32_i32_17
  let c1_i32_1154 : BitVec 32 := 1#32
  let v1175 : BitVec 32 := Scalar.muli v45 c1_i32_1154
  let v1176 : BitVec 32 := Scalar.addi c0_i32_1155 v1175
  v1176.toNat
def k0_dev36 (d0 : Dev nD) : Nat :=
  let c0_i32_1172 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_31 : BitVec 32 := 8#32
  let v66 : BitVec 32 := Scalar.muli v19 c8_i32_31
  let c8_i32_5 : BitVec 32 := 8#32
  let v20 : BitVec 32 := Scalar.remsi v2 c8_i32_5
  let c7_i32_45 : BitVec 32 := 7#32
  let v79 : BitVec 1 := Scalar.cmpi .eq v20 c7_i32_45
  let c3_i32_46 : BitVec 32 := 3#32
  let c6_i32_43 : BitVec 32 := 6#32
  let v77 : BitVec 1 := Scalar.cmpi .eq v20 c6_i32_43
  let c2_i32_44 : BitVec 32 := 2#32
  let c5_i32_41 : BitVec 32 := 5#32
  let v75 : BitVec 1 := Scalar.cmpi .eq v20 c5_i32_41
  let c1_i32_42 : BitVec 32 := 1#32
  let c4_i32_39 : BitVec 32 := 4#32
  let v73 : BitVec 1 := Scalar.cmpi .eq v20 c4_i32_39
  let c0_i32_40 : BitVec 32 := 0#32
  let c3_i32_37 : BitVec 32 := 3#32
  let v71 : BitVec 1 := Scalar.cmpi .eq v20 c3_i32_37
  let c7_i32_38 : BitVec 32 := 7#32
  let c2_i32_35 : BitVec 32 := 2#32
  let v69 : BitVec 1 := Scalar.cmpi .eq v20 c2_i32_35
  let c6_i32_36 : BitVec 32 := 6#32
  let c1_i32_32 : BitVec 32 := 1#32
  let v67 : BitVec 1 := Scalar.cmpi .eq v20 c1_i32_32
  let c5_i32_33 : BitVec 32 := 5#32
  let c4_i32_34 : BitVec 32 := 4#32
  let v68 : BitVec 32 := Scalar.select v67 c5_i32_33 c4_i32_34
  let v70 : BitVec 32 := Scalar.select v69 c6_i32_36 v68
  let v72 : BitVec 32 := Scalar.select v71 c7_i32_38 v70
  let v74 : BitVec 32 := Scalar.select v73 c0_i32_40 v72
  let v76 : BitVec 32 := Scalar.select v75 c1_i32_42 v74
  let v78 : BitVec 32 := Scalar.select v77 c2_i32_44 v76
  let v80 : BitVec 32 := Scalar.select v79 c3_i32_46 v78
  let v81 : BitVec 32 := Scalar.addi v66 v80
  let c1_i32_1171 : BitVec 32 := 1#32
  let v1193 : BitVec 32 := Scalar.muli v81 c1_i32_1171
  let v1194 : BitVec 32 := Scalar.addi c0_i32_1172 v1193
  v1194.toNat
def k0_dev37 (d0 : Dev nD) : Nat :=
  let c0_i32_1189 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v48 : BitVec 32 := Scalar.addi v2 c16_i32
  let c32_i32_19 : BitVec 32 := 32#32
  let v49 : BitVec 32 := Scalar.remsi v48 c32_i32_19
  let c1_i32_1188 : BitVec 32 := 1#32
  let v1211 : BitVec 32 := Scalar.muli v49 c1_i32_1188
  let v1212 : BitVec 32 := Scalar.addi c0_i32_1189 v1211
  v1212.toNat
def k0_dev38 (d0 : Dev nD) : Nat :=
  let c0_i32_1206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_47 : BitVec 32 := 8#32
  let v82 : BitVec 32 := Scalar.muli v19 c8_i32_47
  let c8_i32_5 : BitVec 32 := 8#32
  let v20 : BitVec 32 := Scalar.remsi v2 c8_i32_5
  let c7_i32_61 : BitVec 32 := 7#32
  let v95 : BitVec 1 := Scalar.cmpi .eq v20 c7_i32_61
  let c4_i32_62 : BitVec 32 := 4#32
  let c6_i32_59 : BitVec 32 := 6#32
  let v93 : BitVec 1 := Scalar.cmpi .eq v20 c6_i32_59
  let c5_i32_60 : BitVec 32 := 5#32
  let c5_i32_57 : BitVec 32 := 5#32
  let v91 : BitVec 1 := Scalar.cmpi .eq v20 c5_i32_57
  let c2_i32_58 : BitVec 32 := 2#32
  let c4_i32_55 : BitVec 32 := 4#32
  let v89 : BitVec 1 := Scalar.cmpi .eq v20 c4_i32_55
  let c3_i32_56 : BitVec 32 := 3#32
  let c3_i32_53 : BitVec 32 := 3#32
  let v87 : BitVec 1 := Scalar.cmpi .eq v20 c3_i32_53
  let c0_i32_54 : BitVec 32 := 0#32
  let c2_i32_51 : BitVec 32 := 2#32
  let v85 : BitVec 1 := Scalar.cmpi .eq v20 c2_i32_51
  let c1_i32_52 : BitVec 32 := 1#32
  let c1_i32_48 : BitVec 32 := 1#32
  let v83 : BitVec 1 := Scalar.cmpi .eq v20 c1_i32_48
  let c6_i32_49 : BitVec 32 := 6#32
  let c7_i32_50 : BitVec 32 := 7#32
  let v84 : BitVec 32 := Scalar.select v83 c6_i32_49 c7_i32_50
  let v86 : BitVec 32 := Scalar.select v85 c1_i32_52 v84
  let v88 : BitVec 32 := Scalar.select v87 c0_i32_54 v86
  let v90 : BitVec 32 := Scalar.select v89 c3_i32_56 v88
  let v92 : BitVec 32 := Scalar.select v91 c2_i32_58 v90
  let v94 : BitVec 32 := Scalar.select v93 c5_i32_60 v92
  let v96 : BitVec 32 := Scalar.select v95 c4_i32_62 v94
  let v97 : BitVec 32 := Scalar.addi v82 v96
  let c1_i32_1205 : BitVec 32 := 1#32
  let v1229 : BitVec 32 := Scalar.muli v97 c1_i32_1205
  let v1230 : BitVec 32 := Scalar.addi c0_i32_1206 v1229
  v1230.toNat
def k0_dev39 (d0 : Dev nD) : Nat :=
  let c0_i32_1223 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v46 : BitVec 32 := Scalar.addi v2 c24_i32
  let c32_i32_18 : BitVec 32 := 32#32
  let v47 : BitVec 32 := Scalar.remsi v46 c32_i32_18
  let c1_i32_1222 : BitVec 32 := 1#32
  let v1247 : BitVec 32 := Scalar.muli v47 c1_i32_1222
  let v1248 : BitVec 32 := Scalar.addi c0_i32_1223 v1247
  v1248.toNat
def k0_off17 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c256_i32_1250 : BitVec 32 := 256#32
  let v1273 : BitVec 32 := Scalar.muli v19 c256_i32_1250
  let v1274 : Index := Scalar.indexCast v1273
  let c256_1251 : Index := 256#32
  ![v1274.toNat, 256]
def k0_off18 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c256_i32_1276 : BitVec 32 := 256#32
  let v1296 : BitVec 32 := Scalar.muli v37 c256_i32_1276
  let v1297 : Index := Scalar.indexCast v1296
  let c256_1277 : Index := 256#32
  ![v1297.toNat, 256]
def k0_off19 (d0 : Dev nD) (c1_i32_1280 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v1303 : BitVec 32 := Scalar.addi v37 c1_i32_1280
  let c4_i32_1281 : BitVec 32 := 4#32
  let v1304 : BitVec 32 := Scalar.remsi v1303 c4_i32_1281
  let c64_i32_1282 : BitVec 32 := 64#32
  let v1305 : BitVec 32 := Scalar.muli v1304 c64_i32_1282
  let v1306 : Index := Scalar.indexCast v1305
  let c256_1283 : Index := 256#32
  ![v1306.toNat, 256]
def k0_dev40 (d0 : Dev nD) : Nat :=
  let c0_i32_1292 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v50 : BitVec 32 := Scalar.muli v19 c8_i32_20
  let c8_i32_5 : BitVec 32 := 8#32
  let v20 : BitVec 32 := Scalar.remsi v2 c8_i32_5
  let c7_i32_29 : BitVec 32 := 7#32
  let v63 : BitVec 1 := Scalar.cmpi .eq v20 c7_i32_29
  let c0_i32_30 : BitVec 32 := 0#32
  let c6_i32_27 : BitVec 32 := 6#32
  let v61 : BitVec 1 := Scalar.cmpi .eq v20 c6_i32_27
  let c1_i32_28 : BitVec 32 := 1#32
  let c5_i32_26 : BitVec 32 := 5#32
  let v59 : BitVec 1 := Scalar.cmpi .eq v20 c5_i32_26
  let c6_i32 : BitVec 32 := 6#32
  let c4_i32_25 : BitVec 32 := 4#32
  let v57 : BitVec 1 := Scalar.cmpi .eq v20 c4_i32_25
  let c7_i32 : BitVec 32 := 7#32
  let c3_i32_24 : BitVec 32 := 3#32
  let v55 : BitVec 1 := Scalar.cmpi .eq v20 c3_i32_24
  let c4_i32 : BitVec 32 := 4#32
  let c2_i32_23 : BitVec 32 := 2#32
  let v53 : BitVec 1 := Scalar.cmpi .eq v20 c2_i32_23
  let c5_i32 : BitVec 32 := 5#32
  let c1_i32_21 : BitVec 32 := 1#32
  let v51 : BitVec 1 := Scalar.cmpi .eq v20 c1_i32_21
  let c2_i32_22 : BitVec 32 := 2#32
  let c3_i32 : BitVec 32 := 3#32
  let v52 : BitVec 32 := Scalar.select v51 c2_i32_22 c3_i32
  let v54 : BitVec 32 := Scalar.select v53 c5_i32 v52
  let v56 : BitVec 32 := Scalar.select v55 c4_i32 v54
  let v58 : BitVec 32 := Scalar.select v57 c7_i32 v56
  let v60 : BitVec 32 := Scalar.select v59 c6_i32 v58
  let v62 : BitVec 32 := Scalar.select v61 c1_i32_28 v60
  let v64 : BitVec 32 := Scalar.select v63 c0_i32_30 v62
  let v65 : BitVec 32 := Scalar.addi v50 v64
  let c1_i32_1291 : BitVec 32 := 1#32
  let v1311 : BitVec 32 := Scalar.muli v65 c1_i32_1291
  let v1312 : BitVec 32 := Scalar.addi c0_i32_1292 v1311
  v1312.toNat
def k0_off20 (d0 : Dev nD) (c1_i32_1297 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v1321 : BitVec 32 := Scalar.addi v19 c1_i32_1297
  let c4_i32_1298 : BitVec 32 := 4#32
  let v1322 : BitVec 32 := Scalar.remsi v1321 c4_i32_1298
  let c64_i32_1299 : BitVec 32 := 64#32
  let v1323 : BitVec 32 := Scalar.muli v1322 c64_i32_1299
  let v1324 : Index := Scalar.indexCast v1323
  let c256_1300 : Index := 256#32
  ![v1324.toNat, 256]
def k0_dev41 (d0 : Dev nD) : Nat :=
  let c0_i32_1309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_16 : BitVec 32 := 8#32
  let v44 : BitVec 32 := Scalar.addi v2 c8_i32_16
  let c32_i32_17 : BitVec 32 := 32#32
  let v45 : BitVec 32 := Scalar.remsi v44 c32_i32_17
  let c1_i32_1308 : BitVec 32 := 1#32
  let v1329 : BitVec 32 := Scalar.muli v45 c1_i32_1308
  let v1330 : BitVec 32 := Scalar.addi c0_i32_1309 v1329
  v1330.toNat
def k0_dev42 (d0 : Dev nD) : Nat :=
  let c0_i32_1326 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_31 : BitVec 32 := 8#32
  let v66 : BitVec 32 := Scalar.muli v19 c8_i32_31
  let c8_i32_5 : BitVec 32 := 8#32
  let v20 : BitVec 32 := Scalar.remsi v2 c8_i32_5
  let c7_i32_45 : BitVec 32 := 7#32
  let v79 : BitVec 1 := Scalar.cmpi .eq v20 c7_i32_45
  let c3_i32_46 : BitVec 32 := 3#32
  let c6_i32_43 : BitVec 32 := 6#32
  let v77 : BitVec 1 := Scalar.cmpi .eq v20 c6_i32_43
  let c2_i32_44 : BitVec 32 := 2#32
  let c5_i32_41 : BitVec 32 := 5#32
  let v75 : BitVec 1 := Scalar.cmpi .eq v20 c5_i32_41
  let c1_i32_42 : BitVec 32 := 1#32
  let c4_i32_39 : BitVec 32 := 4#32
  let v73 : BitVec 1 := Scalar.cmpi .eq v20 c4_i32_39
  let c0_i32_40 : BitVec 32 := 0#32
  let c3_i32_37 : BitVec 32 := 3#32
  let v71 : BitVec 1 := Scalar.cmpi .eq v20 c3_i32_37
  let c7_i32_38 : BitVec 32 := 7#32
  let c2_i32_35 : BitVec 32 := 2#32
  let v69 : BitVec 1 := Scalar.cmpi .eq v20 c2_i32_35
  let c6_i32_36 : BitVec 32 := 6#32
  let c1_i32_32 : BitVec 32 := 1#32
  let v67 : BitVec 1 := Scalar.cmpi .eq v20 c1_i32_32
  let c5_i32_33 : BitVec 32 := 5#32
  let c4_i32_34 : BitVec 32 := 4#32
  let v68 : BitVec 32 := Scalar.select v67 c5_i32_33 c4_i32_34
  let v70 : BitVec 32 := Scalar.select v69 c6_i32_36 v68
  let v72 : BitVec 32 := Scalar.select v71 c7_i32_38 v70
  let v74 : BitVec 32 := Scalar.select v73 c0_i32_40 v72
  let v76 : BitVec 32 := Scalar.select v75 c1_i32_42 v74
  let v78 : BitVec 32 := Scalar.select v77 c2_i32_44 v76
  let v80 : BitVec 32 := Scalar.select v79 c3_i32_46 v78
  let v81 : BitVec 32 := Scalar.addi v66 v80
  let c1_i32_1325 : BitVec 32 := 1#32
  let v1347 : BitVec 32 := Scalar.muli v81 c1_i32_1325
  let v1348 : BitVec 32 := Scalar.addi c0_i32_1326 v1347
  v1348.toNat
def k0_dev43 (d0 : Dev nD) : Nat :=
  let c0_i32_1343 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v48 : BitVec 32 := Scalar.addi v2 c16_i32
  let c32_i32_19 : BitVec 32 := 32#32
  let v49 : BitVec 32 := Scalar.remsi v48 c32_i32_19
  let c1_i32_1342 : BitVec 32 := 1#32
  let v1365 : BitVec 32 := Scalar.muli v49 c1_i32_1342
  let v1366 : BitVec 32 := Scalar.addi c0_i32_1343 v1365
  v1366.toNat
def k0_dev44 (d0 : Dev nD) : Nat :=
  let c0_i32_1360 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_47 : BitVec 32 := 8#32
  let v82 : BitVec 32 := Scalar.muli v19 c8_i32_47
  let c8_i32_5 : BitVec 32 := 8#32
  let v20 : BitVec 32 := Scalar.remsi v2 c8_i32_5
  let c7_i32_61 : BitVec 32 := 7#32
  let v95 : BitVec 1 := Scalar.cmpi .eq v20 c7_i32_61
  let c4_i32_62 : BitVec 32 := 4#32
  let c6_i32_59 : BitVec 32 := 6#32
  let v93 : BitVec 1 := Scalar.cmpi .eq v20 c6_i32_59
  let c5_i32_60 : BitVec 32 := 5#32
  let c5_i32_57 : BitVec 32 := 5#32
  let v91 : BitVec 1 := Scalar.cmpi .eq v20 c5_i32_57
  let c2_i32_58 : BitVec 32 := 2#32
  let c4_i32_55 : BitVec 32 := 4#32
  let v89 : BitVec 1 := Scalar.cmpi .eq v20 c4_i32_55
  let c3_i32_56 : BitVec 32 := 3#32
  let c3_i32_53 : BitVec 32 := 3#32
  let v87 : BitVec 1 := Scalar.cmpi .eq v20 c3_i32_53
  let c0_i32_54 : BitVec 32 := 0#32
  let c2_i32_51 : BitVec 32 := 2#32
  let v85 : BitVec 1 := Scalar.cmpi .eq v20 c2_i32_51
  let c1_i32_52 : BitVec 32 := 1#32
  let c1_i32_48 : BitVec 32 := 1#32
  let v83 : BitVec 1 := Scalar.cmpi .eq v20 c1_i32_48
  let c6_i32_49 : BitVec 32 := 6#32
  let c7_i32_50 : BitVec 32 := 7#32
  let v84 : BitVec 32 := Scalar.select v83 c6_i32_49 c7_i32_50
  let v86 : BitVec 32 := Scalar.select v85 c1_i32_52 v84
  let v88 : BitVec 32 := Scalar.select v87 c0_i32_54 v86
  let v90 : BitVec 32 := Scalar.select v89 c3_i32_56 v88
  let v92 : BitVec 32 := Scalar.select v91 c2_i32_58 v90
  let v94 : BitVec 32 := Scalar.select v93 c5_i32_60 v92
  let v96 : BitVec 32 := Scalar.select v95 c4_i32_62 v94
  let v97 : BitVec 32 := Scalar.addi v82 v96
  let c1_i32_1359 : BitVec 32 := 1#32
  let v1383 : BitVec 32 := Scalar.muli v97 c1_i32_1359
  let v1384 : BitVec 32 := Scalar.addi c0_i32_1360 v1383
  v1384.toNat
def k0_dev45 (d0 : Dev nD) : Nat :=
  let c0_i32_1377 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v46 : BitVec 32 := Scalar.addi v2 c24_i32
  let c32_i32_18 : BitVec 32 := 32#32
  let v47 : BitVec 32 := Scalar.remsi v46 c32_i32_18
  let c1_i32_1376 : BitVec 32 := 1#32
  let v1401 : BitVec 32 := Scalar.muli v47 c1_i32_1376
  let v1402 : BitVec 32 := Scalar.addi c0_i32_1377 v1401
  v1402.toNat
def k0_off21 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c256_i32_1404 : BitVec 32 := 256#32
  let v1427 : BitVec 32 := Scalar.muli v19 c256_i32_1404
  let v1428 : Index := Scalar.indexCast v1427
  let c384_1405 : Index := 384#32
  ![v1428.toNat, 384]
def k0_off22 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c256_i32_1430 : BitVec 32 := 256#32
  let v1450 : BitVec 32 := Scalar.muli v37 c256_i32_1430
  let v1451 : Index := Scalar.indexCast v1450
  let c384_1431 : Index := 384#32
  ![v1451.toNat, 384]
def k0_off23 (d0 : Dev nD) (c1_i32_1434 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v1457 : BitVec 32 := Scalar.addi v37 c1_i32_1434
  let c4_i32_1435 : BitVec 32 := 4#32
  let v1458 : BitVec 32 := Scalar.remsi v1457 c4_i32_1435
  let c64_i32_1436 : BitVec 32 := 64#32
  let v1459 : BitVec 32 := Scalar.muli v1458 c64_i32_1436
  let v1460 : Index := Scalar.indexCast v1459
  let c384_1437 : Index := 384#32
  ![v1460.toNat, 384]
def k0_dev46 (d0 : Dev nD) : Nat :=
  let c0_i32_1446 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v50 : BitVec 32 := Scalar.muli v19 c8_i32_20
  let c8_i32_5 : BitVec 32 := 8#32
  let v20 : BitVec 32 := Scalar.remsi v2 c8_i32_5
  let c7_i32_29 : BitVec 32 := 7#32
  let v63 : BitVec 1 := Scalar.cmpi .eq v20 c7_i32_29
  let c0_i32_30 : BitVec 32 := 0#32
  let c6_i32_27 : BitVec 32 := 6#32
  let v61 : BitVec 1 := Scalar.cmpi .eq v20 c6_i32_27
  let c1_i32_28 : BitVec 32 := 1#32
  let c5_i32_26 : BitVec 32 := 5#32
  let v59 : BitVec 1 := Scalar.cmpi .eq v20 c5_i32_26
  let c6_i32 : BitVec 32 := 6#32
  let c4_i32_25 : BitVec 32 := 4#32
  let v57 : BitVec 1 := Scalar.cmpi .eq v20 c4_i32_25
  let c7_i32 : BitVec 32 := 7#32
  let c3_i32_24 : BitVec 32 := 3#32
  let v55 : BitVec 1 := Scalar.cmpi .eq v20 c3_i32_24
  let c4_i32 : BitVec 32 := 4#32
  let c2_i32_23 : BitVec 32 := 2#32
  let v53 : BitVec 1 := Scalar.cmpi .eq v20 c2_i32_23
  let c5_i32 : BitVec 32 := 5#32
  let c1_i32_21 : BitVec 32 := 1#32
  let v51 : BitVec 1 := Scalar.cmpi .eq v20 c1_i32_21
  let c2_i32_22 : BitVec 32 := 2#32
  let c3_i32 : BitVec 32 := 3#32
  let v52 : BitVec 32 := Scalar.select v51 c2_i32_22 c3_i32
  let v54 : BitVec 32 := Scalar.select v53 c5_i32 v52
  let v56 : BitVec 32 := Scalar.select v55 c4_i32 v54
  let v58 : BitVec 32 := Scalar.select v57 c7_i32 v56
  let v60 : BitVec 32 := Scalar.select v59 c6_i32 v58
  let v62 : BitVec 32 := Scalar.select v61 c1_i32_28 v60
  let v64 : BitVec 32 := Scalar.select v63 c0_i32_30 v62
  let v65 : BitVec 32 := Scalar.addi v50 v64
  let c1_i32_1445 : BitVec 32 := 1#32
  let v1465 : BitVec 32 := Scalar.muli v65 c1_i32_1445
  let v1466 : BitVec 32 := Scalar.addi c0_i32_1446 v1465
  v1466.toNat
def k0_off24 (d0 : Dev nD) (c1_i32_1451 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v1475 : BitVec 32 := Scalar.addi v19 c1_i32_1451
  let c4_i32_1452 : BitVec 32 := 4#32
  let v1476 : BitVec 32 := Scalar.remsi v1475 c4_i32_1452
  let c64_i32_1453 : BitVec 32 := 64#32
  let v1477 : BitVec 32 := Scalar.muli v1476 c64_i32_1453
  let v1478 : Index := Scalar.indexCast v1477
  let c384_1454 : Index := 384#32
  ![v1478.toNat, 384]
def k0_dev47 (d0 : Dev nD) : Nat :=
  let c0_i32_1463 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_16 : BitVec 32 := 8#32
  let v44 : BitVec 32 := Scalar.addi v2 c8_i32_16
  let c32_i32_17 : BitVec 32 := 32#32
  let v45 : BitVec 32 := Scalar.remsi v44 c32_i32_17
  let c1_i32_1462 : BitVec 32 := 1#32
  let v1483 : BitVec 32 := Scalar.muli v45 c1_i32_1462
  let v1484 : BitVec 32 := Scalar.addi c0_i32_1463 v1483
  v1484.toNat
def k0_dev48 (d0 : Dev nD) : Nat :=
  let c0_i32_1480 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_31 : BitVec 32 := 8#32
  let v66 : BitVec 32 := Scalar.muli v19 c8_i32_31
  let c8_i32_5 : BitVec 32 := 8#32
  let v20 : BitVec 32 := Scalar.remsi v2 c8_i32_5
  let c7_i32_45 : BitVec 32 := 7#32
  let v79 : BitVec 1 := Scalar.cmpi .eq v20 c7_i32_45
  let c3_i32_46 : BitVec 32 := 3#32
  let c6_i32_43 : BitVec 32 := 6#32
  let v77 : BitVec 1 := Scalar.cmpi .eq v20 c6_i32_43
  let c2_i32_44 : BitVec 32 := 2#32
  let c5_i32_41 : BitVec 32 := 5#32
  let v75 : BitVec 1 := Scalar.cmpi .eq v20 c5_i32_41
  let c1_i32_42 : BitVec 32 := 1#32
  let c4_i32_39 : BitVec 32 := 4#32
  let v73 : BitVec 1 := Scalar.cmpi .eq v20 c4_i32_39
  let c0_i32_40 : BitVec 32 := 0#32
  let c3_i32_37 : BitVec 32 := 3#32
  let v71 : BitVec 1 := Scalar.cmpi .eq v20 c3_i32_37
  let c7_i32_38 : BitVec 32 := 7#32
  let c2_i32_35 : BitVec 32 := 2#32
  let v69 : BitVec 1 := Scalar.cmpi .eq v20 c2_i32_35
  let c6_i32_36 : BitVec 32 := 6#32
  let c1_i32_32 : BitVec 32 := 1#32
  let v67 : BitVec 1 := Scalar.cmpi .eq v20 c1_i32_32
  let c5_i32_33 : BitVec 32 := 5#32
  let c4_i32_34 : BitVec 32 := 4#32
  let v68 : BitVec 32 := Scalar.select v67 c5_i32_33 c4_i32_34
  let v70 : BitVec 32 := Scalar.select v69 c6_i32_36 v68
  let v72 : BitVec 32 := Scalar.select v71 c7_i32_38 v70
  let v74 : BitVec 32 := Scalar.select v73 c0_i32_40 v72
  let v76 : BitVec 32 := Scalar.select v75 c1_i32_42 v74
  let v78 : BitVec 32 := Scalar.select v77 c2_i32_44 v76
  let v80 : BitVec 32 := Scalar.select v79 c3_i32_46 v78
  let v81 : BitVec 32 := Scalar.addi v66 v80
  let c1_i32_1479 : BitVec 32 := 1#32
  let v1501 : BitVec 32 := Scalar.muli v81 c1_i32_1479
  let v1502 : BitVec 32 := Scalar.addi c0_i32_1480 v1501
  v1502.toNat
def k0_dev49 (d0 : Dev nD) : Nat :=
  let c0_i32_1497 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v48 : BitVec 32 := Scalar.addi v2 c16_i32
  let c32_i32_19 : BitVec 32 := 32#32
  let v49 : BitVec 32 := Scalar.remsi v48 c32_i32_19
  let c1_i32_1496 : BitVec 32 := 1#32
  let v1519 : BitVec 32 := Scalar.muli v49 c1_i32_1496
  let v1520 : BitVec 32 := Scalar.addi c0_i32_1497 v1519
  v1520.toNat
def k0_dev50 (d0 : Dev nD) : Nat :=
  let c0_i32_1514 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_47 : BitVec 32 := 8#32
  let v82 : BitVec 32 := Scalar.muli v19 c8_i32_47
  let c8_i32_5 : BitVec 32 := 8#32
  let v20 : BitVec 32 := Scalar.remsi v2 c8_i32_5
  let c7_i32_61 : BitVec 32 := 7#32
  let v95 : BitVec 1 := Scalar.cmpi .eq v20 c7_i32_61
  let c4_i32_62 : BitVec 32 := 4#32
  let c6_i32_59 : BitVec 32 := 6#32
  let v93 : BitVec 1 := Scalar.cmpi .eq v20 c6_i32_59
  let c5_i32_60 : BitVec 32 := 5#32
  let c5_i32_57 : BitVec 32 := 5#32
  let v91 : BitVec 1 := Scalar.cmpi .eq v20 c5_i32_57
  let c2_i32_58 : BitVec 32 := 2#32
  let c4_i32_55 : BitVec 32 := 4#32
  let v89 : BitVec 1 := Scalar.cmpi .eq v20 c4_i32_55
  let c3_i32_56 : BitVec 32 := 3#32
  let c3_i32_53 : BitVec 32 := 3#32
  let v87 : BitVec 1 := Scalar.cmpi .eq v20 c3_i32_53
  let c0_i32_54 : BitVec 32 := 0#32
  let c2_i32_51 : BitVec 32 := 2#32
  let v85 : BitVec 1 := Scalar.cmpi .eq v20 c2_i32_51
  let c1_i32_52 : BitVec 32 := 1#32
  let c1_i32_48 : BitVec 32 := 1#32
  let v83 : BitVec 1 := Scalar.cmpi .eq v20 c1_i32_48
  let c6_i32_49 : BitVec 32 := 6#32
  let c7_i32_50 : BitVec 32 := 7#32
  let v84 : BitVec 32 := Scalar.select v83 c6_i32_49 c7_i32_50
  let v86 : BitVec 32 := Scalar.select v85 c1_i32_52 v84
  let v88 : BitVec 32 := Scalar.select v87 c0_i32_54 v86
  let v90 : BitVec 32 := Scalar.select v89 c3_i32_56 v88
  let v92 : BitVec 32 := Scalar.select v91 c2_i32_58 v90
  let v94 : BitVec 32 := Scalar.select v93 c5_i32_60 v92
  let v96 : BitVec 32 := Scalar.select v95 c4_i32_62 v94
  let v97 : BitVec 32 := Scalar.addi v82 v96
  let c1_i32_1513 : BitVec 32 := 1#32
  let v1537 : BitVec 32 := Scalar.muli v97 c1_i32_1513
  let v1538 : BitVec 32 := Scalar.addi c0_i32_1514 v1537
  v1538.toNat
def k0_dev51 (d0 : Dev nD) : Nat :=
  let c0_i32_1531 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v46 : BitVec 32 := Scalar.addi v2 c24_i32
  let c32_i32_18 : BitVec 32 := 32#32
  let v47 : BitVec 32 := Scalar.remsi v46 c32_i32_18
  let c1_i32_1530 : BitVec 32 := 1#32
  let v1555 : BitVec 32 := Scalar.muli v47 c1_i32_1530
  let v1556 : BitVec 32 := Scalar.addi c0_i32_1531 v1555
  v1556.toNat
def k0_off25 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c64_i32_1537 : BitVec 32 := 64#32
  let v1566 : BitVec 32 := Scalar.muli v37 c64_i32_1537
  let v1567 : Index := Scalar.indexCast v1566
  let c0_1538 : Index := 0#32
  ![v1567.toNat, 0]
def k0_off26 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c64_i32_1539 : BitVec 32 := 64#32
  let v1569 : BitVec 32 := Scalar.muli v19 c64_i32_1539
  let v1570 : Index := Scalar.indexCast v1569
  let c0_1540 : Index := 0#32
  ![v1570.toNat, 0]
def k0_off27 (d0 : Dev nD) : Fin 2 → Nat :=
  let c1_i32_1677 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c2_i32_1536 : BitVec 32 := 2#32
  let v1565 : BitVec 32 := Scalar.remsi v20 c2_i32_1536
  let v1680 : BitVec 32 := Scalar.subi c1_i32_1677 v1565
  let c32_i32_1678 : BitVec 32 := 32#32
  let v1681 : BitVec 32 := Scalar.muli v1680 c32_i32_1678
  let v1682 : Index := Scalar.indexCast v1681
  let c0_1679 : Index := 0#32
  ![v1682.toNat, 0]
def k0_dev52 (d0 : Dev nD) : Nat :=
  let c0_i32_1688 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_63 : BitVec 32 := 8#32
  let v98 : BitVec 32 := Scalar.muli v19 c8_i32_63
  let c8_i32_5 : BitVec 32 := 8#32
  let v20 : BitVec 32 := Scalar.remsi v2 c8_i32_5
  let c1_i32_13 : BitVec 32 := 1#32
  let v40 : BitVec 32 := Scalar.addi v20 c1_i32_13
  let c2_i32_15 : BitVec 32 := 2#32
  let c2_i32_14 : BitVec 32 := 2#32
  let v41 : BitVec 32 := Scalar.remsi v20 c2_i32_14
  let v42 : BitVec 32 := Scalar.muli c2_i32_15 v41
  let v43 : BitVec 32 := Scalar.subi v40 v42
  let v99 : BitVec 32 := Scalar.addi v98 v43
  let c1_i32_1687 : BitVec 32 := 1#32
  let v1687 : BitVec 32 := Scalar.muli v99 c1_i32_1687
  let v1688 : BitVec 32 := Scalar.addi c0_i32_1688 v1687
  v1688.toNat
def k0_off28 (d0 : Dev nD) : Fin 2 → Nat :=
  let c1_i32_1693 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v38 : BitVec 32 := Scalar.addi v20 v37
  let c2_i32_12 : BitVec 32 := 2#32
  let v39 : BitVec 32 := Scalar.remsi v38 c2_i32_12
  let v1697 : BitVec 32 := Scalar.subi c1_i32_1693 v39
  let c32_i32_1694 : BitVec 32 := 32#32
  let v1698 : BitVec 32 := Scalar.muli v1697 c32_i32_1694
  let v1699 : Index := Scalar.indexCast v1698
  let c0_1695 : Index := 0#32
  ![v1699.toNat, 0]
def k0_dev53 (d0 : Dev nD) : Nat :=
  let c0_i32_1704 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_63 : BitVec 32 := 8#32
  let v98 : BitVec 32 := Scalar.muli v19 c8_i32_63
  let c8_i32_5 : BitVec 32 := 8#32
  let v20 : BitVec 32 := Scalar.remsi v2 c8_i32_5
  let c1_i32_13 : BitVec 32 := 1#32
  let v40 : BitVec 32 := Scalar.addi v20 c1_i32_13
  let c2_i32_15 : BitVec 32 := 2#32
  let c2_i32_14 : BitVec 32 := 2#32
  let v41 : BitVec 32 := Scalar.remsi v20 c2_i32_14
  let v42 : BitVec 32 := Scalar.muli c2_i32_15 v41
  let v43 : BitVec 32 := Scalar.subi v40 v42
  let v99 : BitVec 32 := Scalar.addi v98 v43
  let c1_i32_1703 : BitVec 32 := 1#32
  let v1704 : BitVec 32 := Scalar.muli v99 c1_i32_1703
  let v1705 : BitVec 32 := Scalar.addi c0_i32_1704 v1704
  v1705.toNat
def k0_off29 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c64_i32_1709 : BitVec 32 := 64#32
  let v1714 : BitVec 32 := Scalar.muli v37 c64_i32_1709
  let v1715 : Index := Scalar.indexCast v1714
  let c128_1710 : Index := 128#32
  ![v1715.toNat, 128]
def k0_off30 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c64_i32_1711 : BitVec 32 := 64#32
  let v1717 : BitVec 32 := Scalar.muli v19 c64_i32_1711
  let v1718 : Index := Scalar.indexCast v1717
  let c128_1712 : Index := 128#32
  ![v1718.toNat, 128]
def k0_off31 (d0 : Dev nD) : Fin 2 → Nat :=
  let c1_i32_1849 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c2_i32_1536 : BitVec 32 := 2#32
  let v1565 : BitVec 32 := Scalar.remsi v20 c2_i32_1536
  let v1828 : BitVec 32 := Scalar.subi c1_i32_1849 v1565
  let c32_i32_1850 : BitVec 32 := 32#32
  let v1829 : BitVec 32 := Scalar.muli v1828 c32_i32_1850
  let v1830 : Index := Scalar.indexCast v1829
  let c128_1851 : Index := 128#32
  ![v1830.toNat, 128]
def k0_dev54 (d0 : Dev nD) : Nat :=
  let c0_i32_1860 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_63 : BitVec 32 := 8#32
  let v98 : BitVec 32 := Scalar.muli v19 c8_i32_63
  let c8_i32_5 : BitVec 32 := 8#32
  let v20 : BitVec 32 := Scalar.remsi v2 c8_i32_5
  let c1_i32_13 : BitVec 32 := 1#32
  let v40 : BitVec 32 := Scalar.addi v20 c1_i32_13
  let c2_i32_15 : BitVec 32 := 2#32
  let c2_i32_14 : BitVec 32 := 2#32
  let v41 : BitVec 32 := Scalar.remsi v20 c2_i32_14
  let v42 : BitVec 32 := Scalar.muli c2_i32_15 v41
  let v43 : BitVec 32 := Scalar.subi v40 v42
  let v99 : BitVec 32 := Scalar.addi v98 v43
  let c1_i32_1859 : BitVec 32 := 1#32
  let v1835 : BitVec 32 := Scalar.muli v99 c1_i32_1859
  let v1836 : BitVec 32 := Scalar.addi c0_i32_1860 v1835
  v1836.toNat
def k0_off32 (d0 : Dev nD) : Fin 2 → Nat :=
  let c1_i32_1865 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v38 : BitVec 32 := Scalar.addi v20 v37
  let c2_i32_12 : BitVec 32 := 2#32
  let v39 : BitVec 32 := Scalar.remsi v38 c2_i32_12
  let v1845 : BitVec 32 := Scalar.subi c1_i32_1865 v39
  let c32_i32_1866 : BitVec 32 := 32#32
  let v1846 : BitVec 32 := Scalar.muli v1845 c32_i32_1866
  let v1847 : Index := Scalar.indexCast v1846
  let c128_1867 : Index := 128#32
  ![v1847.toNat, 128]
def k0_dev55 (d0 : Dev nD) : Nat :=
  let c0_i32_1876 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_63 : BitVec 32 := 8#32
  let v98 : BitVec 32 := Scalar.muli v19 c8_i32_63
  let c8_i32_5 : BitVec 32 := 8#32
  let v20 : BitVec 32 := Scalar.remsi v2 c8_i32_5
  let c1_i32_13 : BitVec 32 := 1#32
  let v40 : BitVec 32 := Scalar.addi v20 c1_i32_13
  let c2_i32_15 : BitVec 32 := 2#32
  let c2_i32_14 : BitVec 32 := 2#32
  let v41 : BitVec 32 := Scalar.remsi v20 c2_i32_14
  let v42 : BitVec 32 := Scalar.muli c2_i32_15 v41
  let v43 : BitVec 32 := Scalar.subi v40 v42
  let v99 : BitVec 32 := Scalar.addi v98 v43
  let c1_i32_1875 : BitVec 32 := 1#32
  let v1852 : BitVec 32 := Scalar.muli v99 c1_i32_1875
  let v1853 : BitVec 32 := Scalar.addi c0_i32_1876 v1852
  v1853.toNat
def k0_off33 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c64_i32_1881 : BitVec 32 := 64#32
  let v1862 : BitVec 32 := Scalar.muli v37 c64_i32_1881
  let v1863 : Index := Scalar.indexCast v1862
  let c256_1882 : Index := 256#32
  ![v1863.toNat, 256]
def k0_off34 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c64_i32_1883 : BitVec 32 := 64#32
  let v1865 : BitVec 32 := Scalar.muli v19 c64_i32_1883
  let v1866 : Index := Scalar.indexCast v1865
  let c256_1884 : Index := 256#32
  ![v1866.toNat, 256]
def k0_off35 (d0 : Dev nD) : Fin 2 → Nat :=
  let c1_i32_2021 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c2_i32_1536 : BitVec 32 := 2#32
  let v1565 : BitVec 32 := Scalar.remsi v20 c2_i32_1536
  let v1976 : BitVec 32 := Scalar.subi c1_i32_2021 v1565
  let c32_i32_2022 : BitVec 32 := 32#32
  let v1977 : BitVec 32 := Scalar.muli v1976 c32_i32_2022
  let v1978 : Index := Scalar.indexCast v1977
  let c256_2023 : Index := 256#32
  ![v1978.toNat, 256]
def k0_dev56 (d0 : Dev nD) : Nat :=
  let c0_i32_2032 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_63 : BitVec 32 := 8#32
  let v98 : BitVec 32 := Scalar.muli v19 c8_i32_63
  let c8_i32_5 : BitVec 32 := 8#32
  let v20 : BitVec 32 := Scalar.remsi v2 c8_i32_5
  let c1_i32_13 : BitVec 32 := 1#32
  let v40 : BitVec 32 := Scalar.addi v20 c1_i32_13
  let c2_i32_15 : BitVec 32 := 2#32
  let c2_i32_14 : BitVec 32 := 2#32
  let v41 : BitVec 32 := Scalar.remsi v20 c2_i32_14
  let v42 : BitVec 32 := Scalar.muli c2_i32_15 v41
  let v43 : BitVec 32 := Scalar.subi v40 v42
  let v99 : BitVec 32 := Scalar.addi v98 v43
  let c1_i32_2031 : BitVec 32 := 1#32
  let v1983 : BitVec 32 := Scalar.muli v99 c1_i32_2031
  let v1984 : BitVec 32 := Scalar.addi c0_i32_2032 v1983
  v1984.toNat
def k0_off36 (d0 : Dev nD) : Fin 2 → Nat :=
  let c1_i32_2037 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v38 : BitVec 32 := Scalar.addi v20 v37
  let c2_i32_12 : BitVec 32 := 2#32
  let v39 : BitVec 32 := Scalar.remsi v38 c2_i32_12
  let v1993 : BitVec 32 := Scalar.subi c1_i32_2037 v39
  let c32_i32_2038 : BitVec 32 := 32#32
  let v1994 : BitVec 32 := Scalar.muli v1993 c32_i32_2038
  let v1995 : Index := Scalar.indexCast v1994
  let c256_2039 : Index := 256#32
  ![v1995.toNat, 256]
def k0_dev57 (d0 : Dev nD) : Nat :=
  let c0_i32_2048 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_63 : BitVec 32 := 8#32
  let v98 : BitVec 32 := Scalar.muli v19 c8_i32_63
  let c8_i32_5 : BitVec 32 := 8#32
  let v20 : BitVec 32 := Scalar.remsi v2 c8_i32_5
  let c1_i32_13 : BitVec 32 := 1#32
  let v40 : BitVec 32 := Scalar.addi v20 c1_i32_13
  let c2_i32_15 : BitVec 32 := 2#32
  let c2_i32_14 : BitVec 32 := 2#32
  let v41 : BitVec 32 := Scalar.remsi v20 c2_i32_14
  let v42 : BitVec 32 := Scalar.muli c2_i32_15 v41
  let v43 : BitVec 32 := Scalar.subi v40 v42
  let v99 : BitVec 32 := Scalar.addi v98 v43
  let c1_i32_2047 : BitVec 32 := 1#32
  let v2000 : BitVec 32 := Scalar.muli v99 c1_i32_2047
  let v2001 : BitVec 32 := Scalar.addi c0_i32_2048 v2000
  v2001.toNat
def k0_off37 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c64_i32_2053 : BitVec 32 := 64#32
  let v2010 : BitVec 32 := Scalar.muli v37 c64_i32_2053
  let v2011 : Index := Scalar.indexCast v2010
  let c384_2054 : Index := 384#32
  ![v2011.toNat, 384]
def k0_off38 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c64_i32_2055 : BitVec 32 := 64#32
  let v2013 : BitVec 32 := Scalar.muli v19 c64_i32_2055
  let v2014 : Index := Scalar.indexCast v2013
  let c384_2056 : Index := 384#32
  ![v2014.toNat, 384]
def k0_off39 (d0 : Dev nD) : Fin 2 → Nat :=
  let c1_i32_2193 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c2_i32_1536 : BitVec 32 := 2#32
  let v1565 : BitVec 32 := Scalar.remsi v20 c2_i32_1536
  let v2124 : BitVec 32 := Scalar.subi c1_i32_2193 v1565
  let c32_i32_2194 : BitVec 32 := 32#32
  let v2125 : BitVec 32 := Scalar.muli v2124 c32_i32_2194
  let v2126 : Index := Scalar.indexCast v2125
  let c384_2195 : Index := 384#32
  ![v2126.toNat, 384]
def k0_dev58 (d0 : Dev nD) : Nat :=
  let c0_i32_2204 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_63 : BitVec 32 := 8#32
  let v98 : BitVec 32 := Scalar.muli v19 c8_i32_63
  let c8_i32_5 : BitVec 32 := 8#32
  let v20 : BitVec 32 := Scalar.remsi v2 c8_i32_5
  let c1_i32_13 : BitVec 32 := 1#32
  let v40 : BitVec 32 := Scalar.addi v20 c1_i32_13
  let c2_i32_15 : BitVec 32 := 2#32
  let c2_i32_14 : BitVec 32 := 2#32
  let v41 : BitVec 32 := Scalar.remsi v20 c2_i32_14
  let v42 : BitVec 32 := Scalar.muli c2_i32_15 v41
  let v43 : BitVec 32 := Scalar.subi v40 v42
  let v99 : BitVec 32 := Scalar.addi v98 v43
  let c1_i32_2203 : BitVec 32 := 1#32
  let v2131 : BitVec 32 := Scalar.muli v99 c1_i32_2203
  let v2132 : BitVec 32 := Scalar.addi c0_i32_2204 v2131
  v2132.toNat
def k0_off40 (d0 : Dev nD) : Fin 2 → Nat :=
  let c1_i32_2209 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v38 : BitVec 32 := Scalar.addi v20 v37
  let c2_i32_12 : BitVec 32 := 2#32
  let v39 : BitVec 32 := Scalar.remsi v38 c2_i32_12
  let v2141 : BitVec 32 := Scalar.subi c1_i32_2209 v39
  let c32_i32_2210 : BitVec 32 := 32#32
  let v2142 : BitVec 32 := Scalar.muli v2141 c32_i32_2210
  let v2143 : Index := Scalar.indexCast v2142
  let c384_2211 : Index := 384#32
  ![v2143.toNat, 384]
def k0_dev59 (d0 : Dev nD) : Nat :=
  let c0_i32_2220 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_63 : BitVec 32 := 8#32
  let v98 : BitVec 32 := Scalar.muli v19 c8_i32_63
  let c8_i32_5 : BitVec 32 := 8#32
  let v20 : BitVec 32 := Scalar.remsi v2 c8_i32_5
  let c1_i32_13 : BitVec 32 := 1#32
  let v40 : BitVec 32 := Scalar.addi v20 c1_i32_13
  let c2_i32_15 : BitVec 32 := 2#32
  let c2_i32_14 : BitVec 32 := 2#32
  let v41 : BitVec 32 := Scalar.remsi v20 c2_i32_14
  let v42 : BitVec 32 := Scalar.muli c2_i32_15 v41
  let v43 : BitVec 32 := Scalar.subi v40 v42
  let v99 : BitVec 32 := Scalar.addi v98 v43
  let c1_i32_2219 : BitVec 32 := 1#32
  let v2148 : BitVec 32 := Scalar.muli v99 c1_i32_2219
  let v2149 : BitVec 32 := Scalar.addi c0_i32_2220 v2148
  v2149.toNat
def k0_off41 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c2_i32_1536 : BitVec 32 := 2#32
  let v1565 : BitVec 32 := Scalar.remsi v20 c2_i32_1536
  let c32_i32_2247 : BitVec 32 := 32#32
  let v2174 : BitVec 32 := Scalar.muli v1565 c32_i32_2247
  let v2175 : Index := Scalar.indexCast v2174
  let c0_2248 : Index := 0#32
  ![v2175.toNat, 0]
def k0_off42 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v38 : BitVec 32 := Scalar.addi v20 v37
  let c2_i32_12 : BitVec 32 := 2#32
  let v39 : BitVec 32 := Scalar.remsi v38 c2_i32_12
  let c32_i32_2271 : BitVec 32 := 32#32
  let v2194 : BitVec 32 := Scalar.muli v39 c32_i32_2271
  let v2195 : Index := Scalar.indexCast v2194
  let c0_2272 : Index := 0#32
  ![v2195.toNat, 0]
def k0_off43 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c2_i32_1536 : BitVec 32 := 2#32
  let v1565 : BitVec 32 := Scalar.remsi v20 c2_i32_1536
  let c32_i32_2299 : BitVec 32 := 32#32
  let v2220 : BitVec 32 := Scalar.muli v1565 c32_i32_2299
  let v2221 : Index := Scalar.indexCast v2220
  let c128_2300 : Index := 128#32
  ![v2221.toNat, 128]
def k0_off44 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v38 : BitVec 32 := Scalar.addi v20 v37
  let c2_i32_12 : BitVec 32 := 2#32
  let v39 : BitVec 32 := Scalar.remsi v38 c2_i32_12
  let c32_i32_2323 : BitVec 32 := 32#32
  let v2240 : BitVec 32 := Scalar.muli v39 c32_i32_2323
  let v2241 : Index := Scalar.indexCast v2240
  let c128_2324 : Index := 128#32
  ![v2241.toNat, 128]
def k0_off45 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c2_i32_1536 : BitVec 32 := 2#32
  let v1565 : BitVec 32 := Scalar.remsi v20 c2_i32_1536
  let c32_i32_2351 : BitVec 32 := 32#32
  let v2266 : BitVec 32 := Scalar.muli v1565 c32_i32_2351
  let v2267 : Index := Scalar.indexCast v2266
  let c256_2352 : Index := 256#32
  ![v2267.toNat, 256]
def k0_off46 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v38 : BitVec 32 := Scalar.addi v20 v37
  let c2_i32_12 : BitVec 32 := 2#32
  let v39 : BitVec 32 := Scalar.remsi v38 c2_i32_12
  let c32_i32_2375 : BitVec 32 := 32#32
  let v2286 : BitVec 32 := Scalar.muli v39 c32_i32_2375
  let v2287 : Index := Scalar.indexCast v2286
  let c256_2376 : Index := 256#32
  ![v2287.toNat, 256]
def k0_off47 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c2_i32_1536 : BitVec 32 := 2#32
  let v1565 : BitVec 32 := Scalar.remsi v20 c2_i32_1536
  let c32_i32_2403 : BitVec 32 := 32#32
  let v2312 : BitVec 32 := Scalar.muli v1565 c32_i32_2403
  let v2313 : Index := Scalar.indexCast v2312
  let c384_2404 : Index := 384#32
  ![v2313.toNat, 384]
def k0_off48 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v38 : BitVec 32 := Scalar.addi v20 v37
  let c2_i32_12 : BitVec 32 := 2#32
  let v39 : BitVec 32 := Scalar.remsi v38 c2_i32_12
  let c32_i32_2427 : BitVec 32 := 32#32
  let v2332 : BitVec 32 := Scalar.muli v39 c32_i32_2427
  let v2333 : Index := Scalar.indexCast v2332
  let c384_2428 : Index := 384#32
  ![v2333.toNat, 384]
abbrev stage0_0 : Fin 1 → Memref sig .tc .vmem S1024x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S_, .f32⟩
  | .hbm, ⟨14, _⟩ => ⟨S1024x1024, .f32⟩
  | .hbm, ⟨15, _⟩ => ⟨S1024x1024, .f32⟩
  | .hbm, ⟨16, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== Proof.Body.Steps.lean ====
/- The kernel's body as a sequence of steps over its twelve landing and sending buffers: a lane is one
   family of copies (its buffers, its semaphores and the device each copy goes to), and the body is the
   same few steps — read a block, fill a slot and send it, wait for a slot and read it — on six lanes. -/
module

public import proofs.«01_k».proof.Proof.Gen.KernelIdeal.Skeleton
public import proofs.«01_k».proof.Proof.Gen.KernelIdeal.Frame

@[expose] public section

noncomputable section

namespace Cert.Proof.K

open Idealize.ShloMosaic Idealize.ShloMosaic.TcCoe Idealize.SL.Sem Cert.KernelIdeal Cert.KernelIdeal.Gen

variable {F : FTy → Type} [FloatOps F]

/-- The kernel's programs. -/
abbrev Pg (F : FTy → Type) [FloatOps F] (α : Type) := Prog (TpuEff nD τ sig (Elt F) Λ₀ .tc) α

/-- `n` slots of `r` rows of 128. -/
abbrev Sh3 (n r : ℕ) : Shape := ⟨3, ![n, r, 128]⟩
/-- One slot: `r` rows of 128. -/
abbrev Sh2 (r : ℕ) : Shape := ⟨2, ![r, 128]⟩

theorem slot_inb {n r : ℕ} (i : Fin n) : ∀ a, (![i.val, 0, 0] : Fin 3 → ℕ) a + (Sh3 1 r).size a ≤ (Sh3 n r).size a := by
  intro a; have := i.isLt; fin_cases a <;> simp <;> omega

/-- Slot `i`'s rectangle of its buffer. -/
@[implicit_reducible] def slotR {n r : ℕ} (i : Fin n) : Rect (Sh3 n r) := Rect.unit (s := Sh3 n r) ![i.val, 0, 0] (Sh3 1 r).size (slot_inb i)

theorem squeezes3 (r : ℕ) : (Sh3 1 r).Squeezes (Sh2 r) := by
  simp [Shape.Squeezes, List.ofFn_succ, Shape.dropsOnes]

theorem casts32 (r : ℕ) : (Sh3 1 r).ShapeCasts (Sh2 r) := (squeezes3 r).numel_eq
theorem casts23 (r : ℕ) : (Sh2 r).ShapeCasts (Sh3 1 r) := (squeezes3 r).numel_eq.symm

/-- Slot `i` of a buffer, as a copy names it. -/
def slot {n r : ℕ} (b : Memref sig .tc .vmem (Sh3 n r) .f32) (i : Fin n) : Memref sig .tc .vmem (Sh2 r) .f32 :=
  (b.slice (slotR i) (fun _ => rfl)).squeeze (Sh2 r) (squeezes3 r)

/-- Semaphore `i` of an array. -/
def semOf {n : ℕ} (S : DmaSems sig ⟨1, ![n]⟩) (i : Fin n) : DmaSem sig :=
  ((S.slice (Rect.unit (s := ⟨1, ![n]⟩) ![i.val] S1.size (by intro a; have := i.isLt; fin_cases a; simp; omega)) ).squeeze S_ squeezes_S1_S_).sem

/-- One family of copies: the buffer its slots are sent from, the one they land in, the two semaphore
    arrays, and the device slot `i` goes to. -/
structure Lane where
  n : ℕ
  r : ℕ
  hr : 0 < r
  sb : Memref sig .tc .vmem (Sh3 n r) .f32
  rb : Memref sig .tc .vmem (Sh3 n r) .f32
  ss : DmaSems sig ⟨1, ![n]⟩
  rs : DmaSems sig ⟨1, ![n]⟩
  tgt : Fin n → Dev nD → Dev nD

namespace Lane
variable (l : Lane)
theorem pos1 : 0 < (Sh3 1 l.r).numel := by simp [Shape.numel, Fin.prod_univ_succ, l.hr]
theorem pos2 : 0 < (Sh2 l.r).numel := by simp [Shape.numel, Fin.prod_univ_succ, l.hr]

/-- Read a landed slot. -/
def get (i : Fin l.n) : Pg F (Vec F (Sh3 1 l.r) .f32) :=
  Prog.lift (.load l.rb (slotR i).toLoadRect (View.loadsAt_vmem l.pos1))
/-- Fill a sending slot (the body reads it first and drops what it read). -/
def put (i : Fin l.n) (w : Vec F (Sh3 1 l.r) .f32) : Pg F PUnit := do
  let _ : Vec F (Sh3 1 l.r) .f32 ← Prog.lift (.load l.sb (slotR i).toLoadRect (View.loadsAt_vmem l.pos1))
  Prog.lift (.store l.sb (slotR i) w Finset.univ (View.stores_vmem_bits_univ l.pos1 rfl) (.inl rfl))
/-- Send a slot. -/
def copy (d : Dev nD) (i : Fin l.n) : Pg F PUnit :=
  Prog.lift (.enqueueDma (slot l.sb i) (.remote (Dev.tc (l.tgt i d)) (slot l.rb i) (.dma (semOf l.ss i))) (.dma (semOf l.rs i))
    ((View.wordExact_bits rfl).reshape _ _) ((View.wordExact_bits rfl).reshape _ _) ⟨⟨rfl, Or.inl rfl⟩, trivial⟩)
/-- Fill a slot with a block of rows and send it. -/
def send (d : Dev nD) (i : Fin l.n) (v : FVec F (Sh2 l.r) .f32) : Pg F PUnit := do
  l.put i (shapeCast (Sh3 1 l.r) v (casts23 l.r))
  l.copy d i
/-- Wait for the slot sent to have left and for the slot awaited to have landed. -/
def wait (i : Fin l.n) : Pg F PUnit := do
  Prog.lift (.waitDma2 (semOf l.ss i) (slot l.rb i) (slot l.sb i) ((View.wordExact_bits rfl).reshape _ _) ((View.wordExact_bits rfl).reshape _ _))
  Prog.lift (.waitDma2 (semOf l.rs i) (slot l.sb i) (slot l.rb i) ((View.wordExact_bits rfl).reshape _ _) ((View.wordExact_bits rfl).reshape _ _))
/-- A landed slot as rows. -/
abbrev rows (u : Vec F (Sh3 1 l.r) .f32) : FVec F (Sh2 l.r) .f32 := shapeCast (Sh2 l.r) u (casts32 l.r)
end Lane

end Cert.Proof.K

end
-- ==== Proof.Body.Prog.lean ====
/- The kernel's body written as its steps on six lanes, and that the printed body is it. -/
module

public import proofs.«01_k».proof.Proof.Body.Steps
public import Idealize.ShloMosaic.Lib.Pipeline.Regions

@[expose] public section

noncomputable section

namespace Cert.Proof.K

open Idealize.ShloMosaic Idealize.ShloMosaic.TcCoe Idealize.SL.Sem Cert.KernelIdeal Cert.KernelIdeal.Gen

variable {F : FTy → Type} [FloatOps F]

/-! ## The lanes -/

/-- The devices the copies go to, as the kernel computes them. -/
def zUp (d : Dev nD) : Dev nD := ⟨k0_dev4 d, k0_dev4_lt d⟩
def yUp (d : Dev nD) : Dev nD := ⟨k0_dev8 d, k0_dev8_lt d⟩
def xPt (d : Dev nD) : Dev nD := ⟨k0_dev52 d, k0_dev52_lt d⟩
def yAt (e : Fin 3) (d : Dev nD) : Dev nD :=
  match e with
  | 0 => ⟨k0_dev28 d, k0_dev28_lt d⟩ | 1 => ⟨k0_dev30 d, k0_dev30_lt d⟩ | 2 => ⟨k0_dev32 d, k0_dev32_lt d⟩
def zAt (e : Fin 3) (d : Dev nD) : Dev nD :=
  match e with
  | 0 => ⟨k0_dev29 d, k0_dev29_lt d⟩ | 1 => ⟨k0_dev31 d, k0_dev31_lt d⟩ | 2 => ⟨k0_dev33 d, k0_dev33_lt d⟩

/-- The third coordinate of slot `3 h + e`. -/
def e3 (i : Fin 12) : Fin 3 := ⟨i.val % 3, Nat.mod_lt _ (by decide)⟩

@[reducible] def A1 : Lane := ⟨12, 256, by decide, Memref.whole cc0_scratch6, Memref.whole cc0_scratch7, cc0_scratch18, cc0_scratch19, fun _ => zUp⟩
@[reducible] def A2 : Lane := ⟨12, 64, by decide, Memref.whole cc0_scratch8, Memref.whole cc0_scratch9, cc0_scratch20, cc0_scratch21, fun i => yAt (e3 i)⟩
@[reducible] def A3 : Lane := ⟨4, 32, by decide, Memref.whole cc0_scratch10, Memref.whole cc0_scratch11, cc0_scratch22, cc0_scratch23, fun _ => xPt⟩
@[reducible] def B1 : Lane := ⟨12, 256, by decide, Memref.whole cc0_scratch12, Memref.whole cc0_scratch13, cc0_scratch24, cc0_scratch25, fun _ => yUp⟩
@[reducible] def B2 : Lane := ⟨12, 64, by decide, Memref.whole cc0_scratch14, Memref.whole cc0_scratch15, cc0_scratch26, cc0_scratch27, fun i => zAt (e3 i)⟩
@[reducible] def B3 : Lane := ⟨4, 32, by decide, Memref.whole cc0_scratch16, Memref.whole cc0_scratch17, cc0_scratch28, cc0_scratch29, fun _ => xPt⟩

/-- Slot `3 h + e`. -/
@[reducible] def at3 (h : Fin 4) (e : Fin 3) : Fin 12 := ⟨3 * h.val + e.val, by omega⟩

/-! ## The blocks the body reads and writes -/

section Blocks
variable (d : Dev nD) (h : Fin 4)

/-- A tick's word: 3 less the tick. -/
@[reducible] def tickW (s : Fin 3) : BitVec 32 := BitVec.ofNat 32 (1 + (2 - s.val))

/-- A block of columns `128 h …` at the rows `o` gives. -/
@[reducible] def offOf (o : Fin 2 → ℕ) : Fin 2 → ℕ := ![o 0, 128 * h.val]

theorem offOf_inb {o : Fin 2 → ℕ} {R r C : ℕ} (hC : 512 ≤ C) (ho : o 0 + r ≤ R) :
    ∀ a, offOf h o a + (Sh2 r).size a ≤ (⟨2, ![R, C]⟩ : Shape).size a := by
  intro a; have := h.isLt; fin_cases a <;> simp <;> omega

/-- Read the block of `r` rows and 128 columns at `offOf h o`. -/
def blk {R C r : ℕ} (b : Memref sig .tc .vmem ⟨2, ![R, C]⟩ .f32) (o : Fin 2 → ℕ) (hC : 512 ≤ C) (ho : o 0 + r ≤ R) (hr : 0 < (Sh2 r).numel) :
    Pg F (Vec F (Sh2 r) .f32) :=
  Prog.lift (.load b (Rect.unit (s := ⟨2, ![R, C]⟩) (offOf h o) (Sh2 r).size (offOf_inb h hC ho)).toLoadRect (View.loadsAt_vmem hr))

/-- Write the block of `r` rows and 128 columns at columns `c` (read first and dropped). -/
def putAt {R C : ℕ} (r : ℕ) (b : Memref sig .tc .vmem ⟨2, ![R, C]⟩ .f32) (c : ℕ) (hi : ∀ a, (![0, c] : Fin 2 → ℕ) a + (Sh2 r).size a ≤ (⟨2, ![R, C]⟩ : Shape).size a)
    (hr : 0 < (Sh2 r).numel) (w : Vec F (Sh2 r) .f32) : Pg F PUnit := do
  let _ : Vec F (Sh2 r) .f32 ← Prog.lift (.load b (Rect.unit (s := ⟨2, ![R, C]⟩) ![0, c] (Sh2 r).size hi).toLoadRect (View.loadsAt_vmem hr))
  Prog.lift (.store b (Rect.unit (s := ⟨2, ![R, C]⟩) ![0, c] (Sh2 r).size hi) w Finset.univ (View.stores_vmem_bits_univ hr rfl) (.inl rfl))

end Blocks

/-- Every one of the list in turn. -/
def each {ι : Type} : List ι → (ι → Pg F PUnit) → Pg F PUnit
  | [], _ => pure ⟨⟩
  | i :: is, f => f i >>= fun _ => each is f

abbrev hs : List (Fin 4) := [0, 1, 2, 3]
abbrev es : List (Fin 3) := [0, 1, 2]

abbrev mP : Memref sig .tc .vmem S1024x1024 .f32 := Memref.whole cc0_scratch0
abbrev mY : Memref sig .tc .vmem S1024x512 .f32 := Memref.whole cc0_scratch1
abbrev mSa : Memref sig .tc .vmem S256x512 .f32 := Memref.whole cc0_scratch2
abbrev mSb : Memref sig .tc .vmem S256x512 .f32 := Memref.whole cc0_scratch3
abbrev mTa : Memref sig .tc .vmem S64x512 .f32 := Memref.whole cc0_scratch4
abbrev mTb : Memref sig .tc .vmem S64x512 .f32 := Memref.whole cc0_scratch5
abbrev mX : Memref sig .tc .vmem S1024x32 .f32 := Memref.whole cc0_stg0_0
abbrev mW : Memref sig .tc .vmem S32x1024 .f32 := Memref.whole cc0_stg1_0
abbrev mO : Memref sig .tc .vmem S32x1024 .f32 := Memref.whole cc0_stg2_0

theorem tick_le (s : Fin 3) : 1 + (2 - s.val) = 1 + (⟨2 - s.val, by omega⟩ : Fin 3).val := rfl

section Parts
variable (d : Dev nD) (h : Fin 4)

/-- The block of partial products tick `s` of the first chain reads. -/
def blkP (s : Fin 3) : Pg F (Vec F (Sh2 256) .f32) :=
  blk h mP (k0_off1 d (tickW s)) (by decide) (k0_off1_inb d ⟨2 - s.val, by omega⟩ 0) A1.pos2
def blkY (s : Fin 3) : Pg F (Vec F (Sh2 256) .f32) :=
  blk h mY (k0_off5 d (tickW s)) (by decide) (k0_off5_inb d ⟨2 - s.val, by omega⟩ 0) B1.pos2
def blkPown : Pg F (Vec F (Sh2 256) .f32) := blk h mP (k0_off9 d) (by decide) (k0_off9_inb d 0) A1.pos2
def blkYown : Pg F (Vec F (Sh2 256) .f32) := blk h mY (k0_off10 d) (by decide) (k0_off10_inb d 0) B1.pos2
def blkSa (e : Fin 3) : Pg F (Vec F (Sh2 64) .f32) :=
  blk h mSa (k0_off11 d (BitVec.ofNat 32 (1 + e.val))) (by decide) (k0_off11_inb d e 0) A2.pos2
def blkSb (e : Fin 3) : Pg F (Vec F (Sh2 64) .f32) :=
  blk h mSb (k0_off12 d (BitVec.ofNat 32 (1 + e.val))) (by decide) (k0_off12_inb d e 0) B2.pos2
def blkSaOwn : Pg F (Vec F (Sh2 64) .f32) := blk h mSa (k0_off25 d) (by decide) (k0_off25_inb d 0) A2.pos2
def blkSbOwn : Pg F (Vec F (Sh2 64) .f32) := blk h mSb (k0_off26 d) (by decide) (k0_off26_inb d 0) B2.pos2
def blkTa : Pg F (Vec F (Sh2 32) .f32) := blk h mTa (k0_off27 d) (by decide) (k0_off27_inb d 0) A3.pos2
def blkTb : Pg F (Vec F (Sh2 32) .f32) := blk h mTb (k0_off28 d) (by decide) (k0_off28_inb d 0) B3.pos2
def blkTaOwn : Pg F (Vec F (Sh2 32) .f32) := blk h mTa (k0_off41 d) (by decide) (k0_off41_inb d 0) A3.pos2
def blkTbOwn : Pg F (Vec F (Sh2 32) .f32) := blk h mTb (k0_off42 d) (by decide) (k0_off42_inb d 0) B3.pos2

/-- A chain's first tick. -/
def first (l : Lane) (i : Fin l.n) (b : Pg F (Vec F (Sh2 l.r) .f32)) : Pg F PUnit := do
  let v ← b
  l.send d i v
/-- A chain's later tick: add what landed in slot `j`. -/
def next (l : Lane) (j i : Fin l.n) (b : Pg F (Vec F (Sh2 l.r) .f32)) : Pg F PUnit := do
  let v ← b
  l.wait j
  let u ← l.get j
  l.send d i (addf v (l.rows u))

theorem inbO {r R C c : ℕ} (hr : r ≤ R) (hc : c + 128 ≤ C) : ∀ a, (![0, c] : Fin 2 → ℕ) a + (Sh2 r).size a ≤ (⟨2, ![R, C]⟩ : Shape).size a := by
  intro a; fin_cases a <;> simp <;> omega

/-- A chain's last landing, added to this device's own block. -/
def fin1 (l : Lane) (j : Fin l.n) (b : Pg F (Vec F (Sh2 l.r) .f32)) (p : Vec F (Sh2 l.r) .f32 → Pg F PUnit) : Pg F PUnit := do
  l.wait j
  let u ← l.get j
  let v ← b
  p (shapeCast (Sh2 l.r) (addf (l.rows u) v) rfl)

/-- One more landing added. -/
def acc (l : Lane) (j : Fin l.n) (a : Vec F (Sh2 l.r) .f32) : Pg F (Vec F (Sh2 l.r) .f32) := do
  l.wait j
  let u ← l.get j
  pure (addf a (l.rows u))

def phase1 : Pg F PUnit := do
  fin1 A1 (at3 h 2) (blkPown d h) (putAt 256 mSa (128 * h.val) (inbO (by decide) (by omega)) A1.pos2)
  fin1 B1 (at3 h 2) (blkYown d h) (putAt 256 mSb (128 * h.val) (inbO (by decide) (by omega)) A1.pos2)
  each es fun e => do
    first d A2 (at3 h e) (blkSa d h e)
    first d B2 (at3 h e) (blkSb d h e)

def phase2 : Pg F PUnit := do
  let a0 ← blkSaOwn d h
  let b0 ← blkSbOwn d h
  let a1 ← acc A2 (at3 h 0) a0
  let b1 ← acc B2 (at3 h 0) b0
  let a2 ← acc A2 (at3 h 1) a1
  let b2 ← acc B2 (at3 h 1) b1
  let a3 ← acc A2 (at3 h 2) a2
  let b3 ← acc B2 (at3 h 2) b2
  putAt 64 mTa (128 * h.val) (inbO (by decide) (by omega)) A2.pos2 (shapeCast (Sh2 64) a3 rfl)
  putAt 64 mTb (128 * h.val) (inbO (by decide) (by omega)) A2.pos2 (shapeCast (Sh2 64) b3 rfl)
  first d A3 h (blkTa d h)
  first d B3 h (blkTb d h)

/-- What the kernel writes: `t · 1/(1 + exp (-t))`. -/
abbrev gate {r : ℕ} (t : FVec F (Sh2 r) .f32) : FVec F (Sh2 r) .f32 := mulf t (logistic t)

def tail : Pg F PUnit := do
  A3.wait h
  let u ← A3.get h
  let v ← blkTaOwn d h
  B3.wait h
  let u' ← B3.get h
  let v' ← blkTbOwn d h
  putAt 32 mO (128 * h.val) (inbO (by decide) (by omega)) A3.pos2 (gate (addf (A3.rows u) v))
  putAt 32 mO (512 + 128 * h.val) (inbO (by decide) (by omega)) A3.pos2 (gate (addf (B3.rows u') v'))

end Parts

/-- Which chunk of 32 rows of the plane `jp` the pair `(xp, yb)` owns: the inverse of the kernel's table. -/
def kOf (xp : Fin 2) (yb : Fin 4) : ℕ := 2 * yb.val + (xp.val + yb.val) % 2

theorem kOf_lt (xp : Fin 2) (yb : Fin 4) : kOf xp yb < 8 := by unfold kOf; omega

/-- One block of 32 rows moved to its place in the second staging buffer. -/
def move1 (q : Fin 4 × Fin 4 × Fin 2) : Pg F PUnit := do
  let v : Vec F S32x512 .f32 ← Prog.lift (.load mP (Rect.unit (s := S1024x1024) ![32 * (8 * q.2.1.val + kOf q.2.2 q.1), 512] S32x512.size
    (by intro a; have := kOf_lt q.2.2 q.1; fin_cases a <;> simp <;> omega)).toLoadRect (View.loadsAt_vmem h_S32x512))
  let _ : Vec F S32x512 .f32 ← Prog.lift (.load mY (Rect.unit (s := S1024x512) ![256 * q.1.val + 64 * q.2.1.val + 32 * q.2.2.val, 0] S32x512.size
    (by intro a; fin_cases a <;> simp <;> omega)).toLoadRect (View.loadsAt_vmem h_S32x512))
  Prog.lift (.store mY (Rect.unit (s := S1024x512) ![256 * q.1.val + 64 * q.2.1.val + 32 * q.2.2.val, 0] S32x512.size
    (by intro a; fin_cases a <;> simp <;> omega)) (shapeCast S32x512 v rfl) Finset.univ (View.stores_vmem_bits_univ h_S32x512 rfl) (.inl rfl))

abbrev moves : List (Fin 4 × Fin 4 × Fin 2) :=
  [(0,0,0),(0,0,1),(0,1,0),(0,1,1),(0,2,0),(0,2,1),(0,3,0),(0,3,1),(1,0,0),(1,0,1),(1,1,0),(1,1,1),(1,2,0),(1,2,1),(1,3,0),(1,3,1),
   (2,0,0),(2,0,1),(2,1,0),(2,1,1),(2,2,0),(2,2,1),(2,3,0),(2,3,1),(3,0,0),(3,0,1),(3,1,0),(3,1,1),(3,2,0),(3,2,1),(3,3,0),(3,3,1)]

/-- The barrier's semaphore. -/
abbrev barS : Sem sig := (SemArray.scalar (sig.barrier 0 rfl) : Sems sig S_).sem

/-- Signal the three devices that send here first. -/
def greet (d : Dev nD) : Pg F PUnit := do
  semSignalWord (⟨k0_dev1 d, k0_dev1_lt d⟩ : Dev nD) barS 1#32
  semSignalWord (⟨k0_dev2 d, k0_dev2_lt d⟩ : Dev nD) barS 1#32
  semSignalWord (⟨k0_dev3 d, k0_dev3_lt d⟩ : Dev nD) barS 1#32

/-- This device's partial products. -/
def dot : Pg F PUnit := do
  let x : Vec F S1024x32 .f32 ← Prog.lift (.load mX (Rect.unit (s := S1024x32) ![0, 0] S1024x32.size inb_S1024x32_S1024x32_0_0).toLoadRect (View.loadsAt_vmem h_S1024x32))
  let w : Vec F S32x1024 .f32 ← Prog.lift (.load mW (Rect.unit (s := S32x1024) ![0, 0] S32x1024.size inb_S32x1024_S32x1024_0_0).toLoadRect (View.loadsAt_vmem h_S32x1024))
  let _ : Vec F S1024x1024 .f32 ← Prog.lift (.load mP (Rect.unit (s := S1024x1024) ![0, 0] S1024x1024.size inb_S1024x1024_S1024x1024_0_0).toLoadRect (View.loadsAt_vmem h_S1024x1024))
  Prog.lift (.store mP (Rect.unit (s := S1024x1024) ![0, 0] S1024x1024.size inb_S1024x1024_S1024x1024_0_0) (k0_pay3 x w) Finset.univ (View.stores_vmem_bits_univ h_S1024x1024 rfl) (.inl rfl))

/-- The body. -/
def body (d : Dev nD) : Pg F PUnit := do
  greet d
  dot
  semWaitWord barS 3#32
  each hs fun h => first d A1 (at3 h 0) (blkP d h 0)
  each moves move1
  each hs fun h => first d B1 (at3 h 0) (blkY d h 0)
  each hs fun h => do
    next d A1 (at3 h 0) (at3 h 1) (blkP d h 1)
    next d B1 (at3 h 0) (at3 h 1) (blkY d h 1)
  each hs fun h => do
    next d A1 (at3 h 1) (at3 h 2) (blkP d h 2)
    next d B1 (at3 h 1) (at3 h 2) (blkY d h 2)
  each hs fun h => phase1 d h
  each hs fun h => phase2 d h
  each hs fun h => tail d h

set_option maxRecDepth 1000000 in
/-- The printed body is the sequence of steps above, on the device that runs it. -/
theorem body_eq : (bodyAt0 (F := F) t0_0) = (Prog.lift .deviceId >>= body) := by
  chain_rfl

end Cert.Proof.K

end
-- ==== Proof.Run.Cells.lean ====
/- The copies' slots, the semaphore cells they signal, and what every device owes and in which order. -/
module

public import proofs.«01_k».proof.Proof.Body.Prog
public import Idealize.ShloMosaic.Lib.Rounds
public import Idealize.ShloMosaic.Lib.Pipeline

@[expose] public section

noncomputable section

namespace Cert.Proof.K

open Idealize.ShloMosaic Idealize.ShloMosaic.TcCoe Idealize.SL.Sem Cert.KernelIdeal Cert.KernelIdeal.Gen

/-! ## Devices -/

/-- The devices a device tells that its landing buffers are free. -/
def zDn (d : Dev nD) : Dev nD := ⟨k0_dev1 d, k0_dev1_lt d⟩
def yDn (d : Dev nD) : Dev nD := ⟨k0_dev2 d, k0_dev2_lt d⟩
def xPt' (d : Dev nD) : Dev nD := ⟨k0_dev3 d, k0_dev3_lt d⟩

theorem xPt'_eq : ∀ d, xPt' d = xPt d := by decide +kernel
theorem xPt_xPt : ∀ d, xPt (xPt d) = d := by decide +kernel
theorem zDn_zUp : ∀ d, zDn (zUp d) = d := by decide +kernel
theorem zUp_zDn : ∀ d, zUp (zDn d) = d := by decide +kernel
theorem yDn_yUp : ∀ d, yDn (yUp d) = d := by decide +kernel
theorem yUp_yDn : ∀ d, yUp (yDn d) = d := by decide +kernel
theorem zAt2_zUp : ∀ d, zAt 2 (zUp d) = d := by decide +kernel
theorem zAt1_zUp : ∀ d, zAt 1 (zUp d) = zAt 2 d := by decide +kernel
theorem zAt0_zUp : ∀ d, zAt 0 (zUp d) = zAt 1 d := by decide +kernel
theorem yAt2_yUp : ∀ d, yAt 2 (yUp d) = d := by decide +kernel
theorem yAt1_yUp : ∀ d, yAt 1 (yUp d) = yAt 2 d := by decide +kernel
theorem yAt0_yUp : ∀ d, yAt 0 (yUp d) = yAt 1 d := by decide +kernel
theorem yAt_yAt : ∀ (e : Fin 3) d, yAt (2 - e) (yAt e d) = d := by decide +kernel
theorem zAt_zAt : ∀ (e : Fin 3) d, zAt (2 - e) (zAt e d) = d := by decide +kernel

/-! ## Slots -/

/-- The six lanes. -/
@[reducible] def lane : Fin 6 → Lane
  | 0 => A1 | 1 => A2 | 2 => A3 | 3 => B1 | 4 => B2 | 5 => B3

/-- Every copy of the kernel: its lane and its slot there. -/
abbrev X := (k : Fin 6) × Fin (lane k).n

/-- The device slot `i` of a lane comes from. -/
def src : (k : Fin 6) → Fin (lane k).n → Dev nD → Dev nD
  | 0, _ => zDn | 1, i => yAt (2 - e3 i) | 2, _ => xPt | 3, _ => yDn | 4, i => zAt (2 - e3 i) | 5, _ => xPt

theorem src_tgt : ∀ (k : Fin 6) (i : Fin (lane k).n) (d : Dev nD), src k i ((lane k).tgt i d) = d := by decide +kernel
theorem tgt_src : ∀ (k : Fin 6) (i : Fin (lane k).n) (d : Dev nD), (lane k).tgt i (src k i d) = d := by decide +kernel

/-- Where slot `x` goes, as a permutation of the devices. -/
def tgtE (x : X) : Dev nD ≃ Dev nD := ⟨(lane x.1).tgt x.2, src x.1 x.2, src_tgt x.1 x.2, tgt_src x.1 x.2⟩

/-- When a copy is sent: its place in the order every device sends its copies in. -/
def pos : (k : Fin 6) → Fin (lane k).n → ℕ
  | 0, i => match e3 i with | 0 => i.val / 3 | 1 => 8 + 2 * (i.val / 3) | 2 => 16 + 2 * (i.val / 3)
  | 3, i => match e3 i with | 0 => 4 + i.val / 3 | 1 => 9 + 2 * (i.val / 3) | 2 => 17 + 2 * (i.val / 3)
  | 1, i => 24 + 6 * (i.val / 3) + 2 * (i.val % 3)
  | 4, i => 25 + 6 * (i.val / 3) + 2 * (i.val % 3)
  | 2, i => 48 + 2 * i.val
  | 5, i => 49 + 2 * i.val

theorem pos_lt : ∀ (k : Fin 6) (i : Fin (lane k).n), pos k i < 56 := by decide +kernel

/-- The slots in sending order. -/
theorem pos_inj : ∀ (k : Fin 6) (i : Fin (lane k).n) (k' : Fin 6) (i' : Fin (lane k').n), pos k i = pos k' i' → (⟨k, i⟩ : X) = ⟨k', i'⟩ := by
  decide +kernel

/-! ## Semaphores -/

/-- What a device's semaphores are for: the barrier, the leaving of a slot, the landing of one. -/
abbrev Ky := Option (X × Bool)

def csem : Ky → SemLoc sig
  | none => .reg barS
  | some (x, false) => .dma (semOf (lane x.1).ss x.2)
  | some (x, true) => .dma (semOf (lane x.1).rs x.2)

/-- The same as a number: the semaphores are told apart by their places in the program's table. -/
theorem semS_val : ∀ (k : Fin 6) (i : Fin (lane k).n) (k' : Fin 6) (i' : Fin (lane k').n),
    semOf (lane k).ss i = semOf (lane k').ss i' → (⟨k, i⟩ : X) = ⟨k', i'⟩ := by decide +kernel
theorem semR_val : ∀ (k : Fin 6) (i : Fin (lane k).n) (k' : Fin 6) (i' : Fin (lane k').n),
    semOf (lane k).rs i = semOf (lane k').rs i' → (⟨k, i⟩ : X) = ⟨k', i'⟩ := by decide +kernel
theorem semSR_ne : ∀ (k : Fin 6) (i : Fin (lane k).n) (k' : Fin 6) (i' : Fin (lane k').n),
    semOf (lane k).ss i ≠ semOf (lane k').rs i' := by decide +kernel

theorem csem_inj : Function.Injective csem := by
  rintro (_ | ⟨⟨k, i⟩, _ | _⟩) (_ | ⟨⟨k', i'⟩, _ | _⟩) h
  · rfl
  · exact absurd h (by rintro ⟨⟩)
  · exact absurd h (by rintro ⟨⟩)
  · exact absurd h (by rintro ⟨⟩)
  · rw [semS_val k i k' i' (SemLoc.dma.inj h)]
  · exact absurd (SemLoc.dma.inj h) (semSR_ne k i k' i')
  · exact absurd h (by rintro ⟨⟩)
  · exact absurd (SemLoc.dma.inj h).symm (semSR_ne k' i' k i)
  · rw [semR_val k i k' i' (SemLoc.dma.inj h)]

abbrev barCell (c : Dev nD) : GSem nD τ sig := ((c : Thread nD τ), .reg barS)
/-- The cell a slot's leaving signals, and the one its landing does. -/
abbrev sCell (l : Lane) (i : Fin l.n) (c : Dev nD) : GSem nD τ sig := ((c : Thread nD τ), .dma (semOf l.ss i))
abbrev rCell (l : Lane) (i : Fin l.n) (c : Dev nD) : GSem nD τ sig := ((c : Thread nD τ), .dma (semOf l.rs i))
abbrev kcell (ck : Dev nD × Ky) : GSem nD τ sig := ((ck.1 : Thread nD τ), csem ck.2)

theorem kcell_inj : Function.Injective (kcell : Dev nD × Ky → GSem nD τ sig) := by
  rintro ⟨c, k⟩ ⟨c', k'⟩ h
  have h1 : c = c' := congrArg (fun g : GSem nD τ sig => g.1.1) h
  exact Prod.ext h1 (csem_inj (congrArg Prod.snd h))

/-- What a slot's copy is worth. -/
abbrev cr (l : Lane) (i : Fin l.n) : ℕ := (slot l.rb i).view.dmaCredit
theorem cr_pos (l : Lane) (i : Fin l.n) : 0 < cr l i := View.dmaCredit_pos _ l.pos2
theorem cr_send : ∀ (k : Fin 6) (i : Fin (lane k).n), (slot (lane k).sb i).view.dmaCredit = cr (lane k) i
  | 0, _ | 1, _ | 2, _ | 3, _ | 4, _ | 5, _ => rfl

/-- What a semaphore of the table is for. -/
def kindOf : SemLoc sig → Option Ky := Function.partialInv csem
theorem kindOf_csem (k : Ky) : kindOf (csem k) = some k := Function.partialInv_left csem_inj k

/-! ## What a device owes, and the levels -/

/-- The landings device `c` still owes once it has sent the first `p` copies. -/
def owed (c : Dev nD) (p : ℕ) : CellTallies nD τ sig Unit :=
  ∑ x ∈ (Finset.univ : Finset X).filter (fun x => p ≤ pos x.1 x.2), tallyAt (rCell (lane x.1) x.2 ((lane x.1).tgt x.2 c)) () (cr (lane x.1) x.2)

theorem owed_split (k : Fin 6) (i : Fin (lane k).n) (c : Dev nD) :
    owed c (pos k i) = owed c (pos k i + 1) + tallyAt (rCell (lane k) i ((lane k).tgt i c)) () (cr (lane k) i) := by
  unfold owed
  have : (Finset.univ : Finset X).filter (fun x => pos k i ≤ pos x.1 x.2)
      = insert ⟨k, i⟩ ((Finset.univ : Finset X).filter (fun x => pos k i + 1 ≤ pos x.1 x.2)) := by
    ext ⟨k', i'⟩
    simp only [Finset.mem_filter, Finset.mem_univ, true_and, Finset.mem_insert]
    constructor
    · intro h
      rcases Nat.lt_or_eq_of_le h with h | h
      · exact Or.inr h
      · exact Or.inl (pos_inj _ _ _ _ h).symm
    · rintro (h | h)
      · obtain ⟨rfl, h⟩ := Sigma.mk.inj h; exact le_of_eq (by rw [eq_of_heq h])
      · omega
  rw [this, Finset.sum_insert (by simp), add_comm]

theorem owed_all (c : Dev nD) : owed c 56 = 0 := by
  unfold owed
  rw [Finset.filter_false_of_mem fun x _ => by have := pos_lt x.1 x.2; omega, Finset.sum_empty]

/-- The barrier's units device `c` owes besides. -/
def owedBar (c : Dev nD) : CellTallies nD τ sig Unit :=
  tallyAt (barCell (xPt c)) () 1 + tallyAt (barCell (yDn c)) () 1 + tallyAt (barCell (zDn c)) () 1
def O₀ (c : Dev nD) : CellTallies nD τ sig Unit :=
  owed c 0 + tallyAt (barCell (xPt c)) () 1 + tallyAt (barCell (yDn c)) () 1 + tallyAt (barCell (zDn c)) () 1

def L (g : GSem nD τ sig) : Finset Unit := if g.1.2 = .tc then {()} else ∅
/-- The barrier's cell at 1, a landing's after it in sending order, everything else at 0. -/
def lv (g : GSem nD τ sig) (_ : Unit) : ℕ :=
  match kindOf g.2 with
  | some none => 1 | some (some (x, true)) => 2 + pos x.1 x.2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by
  unfold lv; rw [show (barCell c).2 = csem none from rfl, kindOf_csem]
theorem lv_s (k : Fin 6) (i : Fin (lane k).n) (c : Dev nD) : lv (sCell (lane k) i c) () = 0 := by
  unfold lv; rw [show (sCell (lane k) i c).2 = csem (some (⟨k, i⟩, false)) from rfl, kindOf_csem]
theorem lv_r (k : Fin 6) (i : Fin (lane k).n) (c : Dev nD) : lv (rCell (lane k) i c) () = 2 + pos k i := by
  unfold lv; rw [show (rCell (lane k) i c).2 = csem (some (⟨k, i⟩, true)) from rfl, kindOf_csem]

theorem sum_tally_pos {ι : Type} {S : Finset ι} {f : ι → CellTallies nD τ sig Unit} {g : GSem nD τ sig} {u : Unit}
    (h : 0 < (∑ x ∈ S, f x) g u) : ∃ x ∈ S, 0 < f x g u := by
  by_contra hn
  push Not at hn
  have : (∑ x ∈ S, f x) g u = 0 := by
    rw [Finset.sum_apply, Finsupp.finset_sum_apply]
    exact Finset.sum_eq_zero fun x hx => Nat.le_zero.mp (hn x hx)
  omega

theorem tally_pos {g g' : GSem nD τ sig} {u : Unit} {n : ℕ} (h : 0 < (tallyAt g' () n : CellTallies nD τ sig Unit) g u) : g = g' := by
  rw [tallyAt_apply] at h
  by_contra hn
  rw [if_neg fun h' => hn h'.1] at h
  exact Nat.lt_irrefl 0 h

theorem owed_pos {c : Dev nD} {p : ℕ} {g : GSem nD τ sig} {u : Unit} (h : 0 < owed c p g u) :
    ∃ (k : Fin 6) (i : Fin (lane k).n), p ≤ pos k i ∧ g = rCell (lane k) i ((lane k).tgt i c) := by
  obtain ⟨⟨k, i⟩, hx, h⟩ := sum_tally_pos h
  exact ⟨k, i, (Finset.mem_filter.mp hx).2, tally_pos h⟩

theorem O₀_pos {c : Dev nD} {g : GSem nD τ sig} {u : Unit} (h : 0 < O₀ c g u) : ∃ d : Dev nD, L g = {()} ∧ 1 ≤ lv g () ∧ g.1 = (d : Thread nD τ) := by
  unfold O₀ at h
  simp only [Pi.add_apply, Finsupp.add_apply] at h
  have : 0 < owed c 0 g u ∨ 0 < (tallyAt (barCell (xPt c)) () 1 : CellTallies nD τ sig Unit) g u
      ∨ 0 < (tallyAt (barCell (yDn c)) () 1 : CellTallies nD τ sig Unit) g u ∨ 0 < (tallyAt (barCell (zDn c)) () 1 : CellTallies nD τ sig Unit) g u := by omega
  rcases this with h | h | h | h
  · obtain ⟨k, i, -, rfl⟩ := owed_pos h
    exact ⟨_, L_tc _ _, by rw [lv_r]; omega, rfl⟩
  all_goals
    rw [tally_pos h]
    exact ⟨_, L_tc _ _, by rw [lv_bar], rfl⟩

end Cert.Proof.K

end
-- ==== Proof.Run.Vals.lean ====
/- What every buffer holds and every copy carries, as a function of the devices' two input blocks. -/
module

public import proofs.«01_k».proof.Proof.Run.Cells

@[expose] public section

noncomputable section

namespace Cert.Proof.K

open Idealize.ShloMosaic Idealize.ShloMosaic.TcCoe Idealize.SL.Sem Cert.KernelIdeal Cert.KernelIdeal.Gen

variable {F : FTy → Type} [FloatOps F]

/-- The index `(i, j)` of a block of rows of 128. -/
def ij {r C : ℕ} (i : Fin r) (j : Fin C) : (⟨2, ![r, C]⟩ : Shape).Idx :=
  fun a => ⟨(![i.val, j.val] : Fin 2 → ℕ) a, by fin_cases a <;> simp⟩

/-- Four strips of 128 columns side by side. -/
def cols {R : ℕ} (V : Fin 4 → Vec F (Sh2 R) .f32) : Vec F ⟨2, ![R, 512]⟩ .f32 := fun q =>
  V ⟨(q 1).val / 128, by have : (q 1).val < 512 := (q 1).isLt; omega⟩ (ij (q 0) ⟨(q 1).val % 128, Nat.mod_lt _ (by decide)⟩)

/-- What `blk` reads of contents `f`. -/
def rd {R C r : ℕ} (h : Fin 4) (o : Fin 2 → ℕ) (hC : 512 ≤ C) (ho : o 0 + r ≤ R)
    (f : Vec F ⟨2, ![R, C]⟩ .f32) : Vec F (Sh2 r) .f32 :=
  fun j => f ((Rect.unit (s := ⟨2, ![R, C]⟩) (offOf h o) (Sh2 r).size (offOf_inb h hC ho)).emb j)

section Rd
variable (d : Dev nD) (h : Fin 4)
def rdP (s : Fin 3) (f : Vec F S1024x1024 .f32) : Vec F (Sh2 256) .f32 := rd h (k0_off1 d (tickW s)) (by decide) (k0_off1_inb d ⟨2 - s.val, by omega⟩ 0) f
def rdY (s : Fin 3) (f : Vec F S1024x512 .f32) : Vec F (Sh2 256) .f32 := rd h (k0_off5 d (tickW s)) (by decide) (k0_off5_inb d ⟨2 - s.val, by omega⟩ 0) f
def rdPown (f : Vec F S1024x1024 .f32) : Vec F (Sh2 256) .f32 := rd h (k0_off9 d) (by decide) (k0_off9_inb d 0) f
def rdYown (f : Vec F S1024x512 .f32) : Vec F (Sh2 256) .f32 := rd h (k0_off10 d) (by decide) (k0_off10_inb d 0) f
def rdSa (e : Fin 3) (f : Vec F S256x512 .f32) : Vec F (Sh2 64) .f32 := rd h (k0_off11 d (BitVec.ofNat 32 (1 + e.val))) (by decide) (k0_off11_inb d e 0) f
def rdSb (e : Fin 3) (f : Vec F S256x512 .f32) : Vec F (Sh2 64) .f32 := rd h (k0_off12 d (BitVec.ofNat 32 (1 + e.val))) (by decide) (k0_off12_inb d e 0) f
def rdSaOwn (f : Vec F S256x512 .f32) : Vec F (Sh2 64) .f32 := rd h (k0_off25 d) (by decide) (k0_off25_inb d 0) f
def rdSbOwn (f : Vec F S256x512 .f32) : Vec F (Sh2 64) .f32 := rd h (k0_off26 d) (by decide) (k0_off26_inb d 0) f
def rdTa (f : Vec F S64x512 .f32) : Vec F (Sh2 32) .f32 := rd h (k0_off27 d) (by decide) (k0_off27_inb d 0) f
def rdTb (f : Vec F S64x512 .f32) : Vec F (Sh2 32) .f32 := rd h (k0_off28 d) (by decide) (k0_off28_inb d 0) f
def rdTaOwn (f : Vec F S64x512 .f32) : Vec F (Sh2 32) .f32 := rd h (k0_off41 d) (by decide) (k0_off41_inb d 0) f
def rdTbOwn (f : Vec F S64x512 .f32) : Vec F (Sh2 32) .f32 := rd h (k0_off42 d) (by decide) (k0_off42_inb d 0) f
end Rd

variable (x : Dev nD → Vec F S1024x32 .f32) (w : Dev nD → Vec F S32x1024 .f32)

/-- Device `c`'s partial products. -/
def Pv (c : Dev nD) : Vec F S1024x1024 .f32 := k0_pay3 (x c) (w c)

/-- The row of the partial products that row `q` of the second staging buffer is a copy of. -/
def rowOf (q : Fin 1024) : Fin 1024 :=
  ⟨32 * (8 * (q.val / 64 % 4) + kOf ⟨q.val / 32 % 2, by omega⟩ ⟨q.val / 256, by omega⟩) + q.val % 32,
    by have := kOf_lt ⟨q.val / 32 % 2, by omega⟩ ⟨q.val / 256, by omega⟩; omega⟩

/-- The second staging buffer: the right half, its rows in the order the second half of the sums takes them. -/
def Yv (c : Dev nD) : Vec F S1024x512 .f32 := fun q =>
  Pv x w c (ij (rowOf (q 0)) ⟨512 + (q 1).val, by have : (q 1).val < 512 := (q 1).isLt; omega⟩)

section Chain
variable (h : Fin 4)

/-- The first chain's sums (left half). -/
def a1v : Fin 3 → Dev nD → Vec F (Sh2 256) .f32
  | 0, c => rdP c h 0 (Pv x w c)
  | 1, c => addf (rdP c h 1 (Pv x w c)) (rdP (zDn c) h 0 (Pv x w (zDn c)))
  | 2, c => addf (rdP c h 2 (Pv x w c)) (addf (rdP (zDn c) h 1 (Pv x w (zDn c))) (rdP (zDn (zDn c)) h 0 (Pv x w (zDn (zDn c)))))
def saV (c : Dev nD) : Vec F (Sh2 256) .f32 :=
  shapeCast (Sh2 256) (addf (a1v x w h 2 (zDn c)) (rdPown c h (Pv x w c))) rfl

/-- The first chain's sums (right half). -/
def b1v : Fin 3 → Dev nD → Vec F (Sh2 256) .f32
  | 0, c => rdY c h 0 (Yv x w c)
  | 1, c => addf (rdY c h 1 (Yv x w c)) (rdY (yDn c) h 0 (Yv x w (yDn c)))
  | 2, c => addf (rdY c h 2 (Yv x w c)) (addf (rdY (yDn c) h 1 (Yv x w (yDn c))) (rdY (yDn (yDn c)) h 0 (Yv x w (yDn (yDn c)))))
def sbV (c : Dev nD) : Vec F (Sh2 256) .f32 :=
  shapeCast (Sh2 256) (addf (b1v x w h 2 (yDn c)) (rdYown c h (Yv x w c))) rfl
end Chain

def saF (c : Dev nD) : Vec F S256x512 .f32 := cols fun h => saV x w h c
def sbF (c : Dev nD) : Vec F S256x512 .f32 := cols fun h => sbV x w h c

def a2v (h : Fin 4) (e : Fin 3) (c : Dev nD) : Vec F (Sh2 64) .f32 := rdSa c h e (saF x w c)
def b2v (h : Fin 4) (e : Fin 3) (c : Dev nD) : Vec F (Sh2 64) .f32 := rdSb c h e (sbF x w c)
def taV (h : Fin 4) (c : Dev nD) : Vec F (Sh2 64) .f32 :=
  shapeCast (Sh2 64) (addf (addf (addf (rdSaOwn c h (saF x w c)) (a2v x w h 0 (yAt 2 c))) (a2v x w h 1 (yAt 1 c))) (a2v x w h 2 (yAt 0 c))) rfl
def tbV (h : Fin 4) (c : Dev nD) : Vec F (Sh2 64) .f32 :=
  shapeCast (Sh2 64) (addf (addf (addf (rdSbOwn c h (sbF x w c)) (b2v x w h 0 (zAt 2 c))) (b2v x w h 1 (zAt 1 c))) (b2v x w h 2 (zAt 0 c))) rfl

def taF (c : Dev nD) : Vec F S64x512 .f32 := cols fun h => taV x w h c
def tbF (c : Dev nD) : Vec F S64x512 .f32 := cols fun h => tbV x w h c

def a3v (h : Fin 4) (c : Dev nD) : Vec F (Sh2 32) .f32 := rdTa c h (taF x w c)
def b3v (h : Fin 4) (c : Dev nD) : Vec F (Sh2 32) .f32 := rdTb c h (tbF x w c)

/-- The whole sums of device `c`'s rows, a strip of the left and one of the right half. -/
def yaV (h : Fin 4) (c : Dev nD) : Vec F (Sh2 32) .f32 := addf (a3v x w h (xPt c)) (rdTaOwn c h (taF x w c))
def ybV (h : Fin 4) (c : Dev nD) : Vec F (Sh2 32) .f32 := addf (b3v x w h (xPt c)) (rdTbOwn c h (tbF x w c))

/-- The result block of device `c`. -/
def outF (c : Dev nD) : Vec F S32x1024 .f32 := fun q =>
  if hq : (q 1).val < 512 then cols (fun h => gate (yaV x w h c)) (ij (q 0) ⟨(q 1).val, hq⟩)
  else cols (fun h => gate (ybV x w h c)) (ij (q 0) ⟨(q 1).val - 512, by have : (q 1).val < 1024 := (q 1).isLt; omega⟩)

/-- The strip of a slot. -/
@[reducible] def h3 (i : Fin 12) : Fin 4 := ⟨i.val / 3, by omega⟩
theorem h3_at3 (h : Fin 4) (e : Fin 3) : h3 (at3 h e) = h := Fin.ext (by simp [at3, h3]; omega)
theorem e3_at3 (h : Fin 4) (e : Fin 3) : e3 (at3 h e) = e := Fin.ext (by simp [at3, e3])

/-- What lands in a slot on device `c`. -/
def landV : (k : Fin 6) → (i : Fin (lane k).n) → Dev nD → Vec F (Sh2 (lane k).r) .f32
  | 0, i, c => a1v x w (h3 i) (e3 i) (zDn c)
  | 1, i, c => a2v x w (h3 i) (e3 i) (yAt (2 - e3 i) c)
  | 2, i, c => a3v x w i (xPt c)
  | 3, i, c => b1v x w (h3 i) (e3 i) (yDn c)
  | 4, i, c => b2v x w (h3 i) (e3 i) (zAt (2 - e3 i) c)
  | 5, i, c => b3v x w i (xPt c)

end Cert.Proof.K

end
-- ==== Proof.Run.Proto.lean ====
/- The protocol: what each signal hands over, and the rules a device's steps follow it by. -/
module

public import proofs.«01_k».proof.Proof.Run.Vals
public import Idealize.ShloMosaic.Lib.Pipeline.Launch
public import Idealize.ShloMosaic.Lib.Pipeline.Kit
public import Idealize.ShloMosaic.Lib.Tactic

@[expose] public section

noncomputable section

namespace Cert.Proof.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Slots held -/

/-- Slot `i` of device `c`'s landing buffer at some contents. -/
def land (l : Lane) (i : Fin l.n) (c : Dev nD) : sProp 𝕄 :=
  iprop(∃ f, (slot l.rb i).view.loc (c : Thread nD τ) ↦[(slot l.rb i).view.set]{fullShare} f)
/-- Slot `i` of device `c`'s sending buffer at some contents. -/
def sOwn (l : Lane) (i : Fin l.n) (c : Dev nD) : sProp 𝕄 :=
  iprop(∃ f, (slot l.sb i).view.loc (c : Thread nD τ) ↦[(slot l.sb i).view.set]{fullShare} f)
/-- Slot `i` of device `c`'s landing buffer holding `v`. -/
def landed (l : Lane) (i : Fin l.n) (c : Dev nD) (v : Vec F (Sh2 l.r) .f32) : sProp 𝕄 :=
  owns (c : Thread nD τ) (slot l.rb i) fullShare v

instance land_storable (l : Lane) (i : Fin l.n) (c : Dev nD) : BI.Storable (upEmb : UEmb _ 𝕄) (land (F := F) l i c) := by unfold land; infer_instance
instance sOwn_storable (l : Lane) (i : Fin l.n) (c : Dev nD) : BI.Storable (upEmb : UEmb _ 𝕄) (sOwn (F := F) l i c) := by unfold sOwn; infer_instance
instance landed_storable (l : Lane) (i : Fin l.n) (c : Dev nD) (v) : BI.Storable (upEmb : UEmb _ 𝕄) (landed (F := F) l i c v) := by unfold landed; infer_instance

/-! ## What each signal hands over -/

/-- What the first chain of the left half hands over with what it sends: the landing slots that the exchange after the
    right half's chain needs, a device's own three to begin with, one kept at every tick. -/
def handA (h : Fin 4) : Fin 3 → Dev nD → sProp 𝕄
  | 0, c => iprop(land B2 (at3 h 0) (zAt 2 c) ∗ land B2 (at3 h 1) (zAt 2 c) ∗ land B2 (at3 h 2) (zAt 2 c))
  | 1, c => iprop(land B2 (at3 h 0) (zAt 1 c) ∗ land B2 (at3 h 1) (zAt 1 c))
  | 2, c => land B2 (at3 h 0) (zAt 0 c)
/-- And that of the right half. -/
def handB (h : Fin 4) : Fin 3 → Dev nD → sProp 𝕄
  | 0, c => iprop(land A2 (at3 h 0) (yAt 2 c) ∗ land A2 (at3 h 1) (yAt 2 c) ∗ land A2 (at3 h 2) (yAt 2 c))
  | 1, c => iprop(land A2 (at3 h 0) (yAt 1 c) ∗ land A2 (at3 h 1) (yAt 1 c))
  | 2, c => land A2 (at3 h 0) (yAt 0 c)

instance handA_storable (h : Fin 4) (s : Fin 3) (c : Dev nD) : BI.Storable (upEmb : UEmb _ 𝕄) (handA (F := F) h s c) := by
  fin_cases s <;> dsimp only [handA] <;> infer_instance
instance handB_storable (h : Fin 4) (s : Fin 3) (c : Dev nD) : BI.Storable (upEmb : UEmb _ 𝕄) (handB (F := F) h s c) := by
  fin_cases s <;> dsimp only [handB] <;> infer_instance

/-- What a landing on device `c` hands over besides the landed rows. -/
def hand : (k : Fin 6) → Fin (lane k).n → Dev nD → sProp 𝕄
  | 0, i, c => handA (h3 i) (e3 i) c
  | 3, i, c => handB (h3 i) (e3 i) c
  | _, _, _ => iprop(emp)

instance hand_storable (k : Fin 6) (i : Fin (lane k).n) (c : Dev nD) : BI.Storable (upEmb : UEmb _ 𝕄) (hand (F := F) k i c) := by
  unfold hand; split <;> infer_instance

/-- What the three signals of device `c`'s barrier hand over: the landing slots it sends to first. -/
def barPay (c : Dev nD) : Fin 3 → sProp 𝕄
  | 0 => iprop(bigSep Finset.univ fun i : Fin 12 => land A1 i (zUp c))
  | 1 => iprop(bigSep Finset.univ fun i : Fin 12 => land B1 i (yUp c))
  | 2 => iprop((bigSep Finset.univ fun i : Fin 4 => land A3 i (xPt c)) ∗ bigSep Finset.univ fun i : Fin 4 => land B3 i (xPt c))

instance barPay_storable (c : Dev nD) (d : Fin 3) : BI.Storable (upEmb : UEmb _ 𝕄) (barPay (F := F) c d) := by
  fin_cases d <;> dsimp only [barPay] <;> infer_instance

variable (V : (k : Fin 6) → (i : Fin (lane k).n) → Dev nD → Vec F (Sh2 (lane k).r) .f32)

/-- One round on every cell: a barrier's has three duties of a unit, a copy's two cells one each of its credit. -/
def Rd : Rounds.Schedule (GSem nD τ sig) (Fin 3) 𝕄 where
  duties g r := if r = 0 ∧ g.1.2 = .tc then
    (match kindOf g.2 with | some none => Finset.univ | some (some _) => {0} | none => ∅) else ∅
  unitless _ := False
  amount g _ _ := match kindOf g.2 with | some (some (x, _)) => cr (lane x.1) x.2 | _ => 1
  payload g _ d := match kindOf g.2 with
    | some none => barPay g.1.1 d
    | some (some (x, false)) => sOwn (lane x.1) x.2 g.1.1
    | some (some (x, true)) => iprop(landed (lane x.1) x.2 g.1.1 (V x.1 x.2 g.1.1) ∗ hand x.1 x.2 g.1.1)
    | none => iprop(emp)
  amount_pos g _ _ _ := by
    rcases kindOf g.2 with _ | _ | ⟨x, _⟩ <;> first | exact Nat.one_pos | exact cr_pos _ _

instance Rd_payload_storable (g : GSem nD τ sig) (r : ℕ) (d : Fin 3) : BI.Storable (upEmb : UEmb _ 𝕄) ((Rd (F := F) V).payload g r d) := by
  dsimp only [Rd]
  rcases kindOf g.2 with _ | _ | ⟨x, _ | _⟩ <;> dsimp only <;> infer_instance

/-- A slot's part of the protocol: `v` lands on each device, `E` is handed over with it, and `p` is its place in the order. -/
structure Ok (l : Lane) (i : Fin l.n) (v : Dev nD → Vec F (Sh2 l.r) .f32) (E : Dev nD → sProp 𝕄) (p : ℕ) : Prop where
  dS : ∀ c, (Rd V).duties (sCell l i c) 0 = {0}
  dR : ∀ c, (Rd V).duties (rCell l i c) 0 = {0}
  aS : ∀ c d, (Rd V).amount (sCell l i c) 0 d = cr l i
  aR : ∀ c d, (Rd V).amount (rCell l i c) 0 d = cr l i
  pS : ∀ c d, (Rd V).payload (sCell l i c) 0 d = sOwn l i c
  pR : ∀ c d, (Rd V).payload (rCell l i c) 0 d = iprop(landed l i c (v c) ∗ E c)
  kS : ∀ c, ∃ ck : Dev nD × Ky, kcell ck = sCell l i c
  kR : ∀ c, ∃ ck : Dev nD × Ky, kcell ck = rCell l i c
  lS : ∀ c, lv (sCell l i c) () = 0
  lR : ∀ c, lv (rCell l i c) () = 2 + p
  crS : (slot l.sb i).view.dmaCredit = cr l i
  split : ∀ c, owed c p = owed c (p + 1) + tallyAt (rCell l i (l.tgt i c)) () (cr l i)

theorem ok (k : Fin 6) (i : Fin (lane k).n) : Ok V (lane k) i (V k i) (hand k i) (pos k i) where
  dS c := by dsimp only [Rd]; rw [if_pos ⟨rfl, rfl⟩, show SemLoc.dma (semOf (lane k).ss i) = csem (some (⟨k, i⟩, false)) from rfl, kindOf_csem]
  dR c := by dsimp only [Rd]; rw [if_pos ⟨rfl, rfl⟩, show SemLoc.dma (semOf (lane k).rs i) = csem (some (⟨k, i⟩, true)) from rfl, kindOf_csem]
  aS c d := by dsimp only [Rd]; rw [show SemLoc.dma (semOf (lane k).ss i) = csem (some (⟨k, i⟩, false)) from rfl, kindOf_csem]
  aR c d := by dsimp only [Rd]; rw [show SemLoc.dma (semOf (lane k).rs i) = csem (some (⟨k, i⟩, true)) from rfl, kindOf_csem]
  pS c d := by dsimp only [Rd]; rw [show SemLoc.dma (semOf (lane k).ss i) = csem (some (⟨k, i⟩, false)) from rfl, kindOf_csem]
  pR c d := by dsimp only [Rd]; rw [show SemLoc.dma (semOf (lane k).rs i) = csem (some (⟨k, i⟩, true)) from rfl, kindOf_csem]
  kS c := ⟨(c, some (⟨k, i⟩, false)), rfl⟩
  kR c := ⟨(c, some (⟨k, i⟩, true)), rfl⟩
  lS := lv_s k i
  lR := lv_r k i
  crS := cr_send k i
  split := owed_split k i

theorem duties_bar (c : Dev nD) : (Rd (F := F) V).duties (barCell c) 0 = Finset.univ := by
  dsimp only [Rd]; rw [if_pos ⟨rfl, rfl⟩, show SemLoc.reg barS = csem none from rfl, kindOf_csem]
theorem amount_bar (c : Dev nD) (d : Fin 3) : (Rd (F := F) V).amount (barCell c) 0 d = 1 := by
  dsimp only [Rd]; rw [show SemLoc.reg barS = csem none from rfl, kindOf_csem]
theorem payload_bar (c : Dev nD) (d : Fin 3) : (Rd (F := F) V).payload (barCell c) 0 d = barPay c d := by
  dsimp only [Rd]; rw [show SemLoc.reg barS = csem none from rfl, kindOf_csem]
theorem duties_later (g : GSem nD τ sig) : ∀ r, 1 ≤ r → (Rd (F := F) V).duties g r = ∅ :=
  fun r hr => by dsimp only [Rd]; rw [if_neg fun h => by omega]
theorem expect_bar (c : Dev nD) : (Rd (F := F) V).expect (barCell c) 0 = 3 := by
  unfold Schedule.expect Schedule.amountOf
  rw [duties_bar, Finset.sum_congr rfl fun d _ => amount_bar V c d]; rfl

/-! ## What every device knows -/

/-- Every cell's invariant, that its round has begun, and the levels. -/
def cellKnown (g : GSem nD τ sig) : sProp 𝕄 := iprop((∃ κ : ℕ, cellInv ER (Rd V) κ g) ∗ reached ER g 0)
def known : sProp 𝕄 := iprop((bigSep Finset.univ fun ck : Dev nD × Ky => cellKnown V (kcell ck)) ∗ levAts L lv)

instance cellKnown_persistent (g : GSem nD τ sig) : BI.Persistent (cellKnown (F := F) V g) := by unfold cellKnown; infer_instance
instance known_persistent : BI.Persistent (known (F := F) V) := by unfold known; infer_instance

theorem known_at (g : GSem nD τ sig) (hg : ∃ ck : Dev nD × Ky, kcell ck = g) : known (F := F) V ⊢ cellKnown V g := by
  obtain ⟨ck, rfl⟩ := hg
  unfold known
  exact sep_elim_left.trans (bigSep_elim (Finset.mem_univ ck))

theorem known_lev : known (F := F) V ⊢ levAts L lv := by unfold known; exact sep_elim_right

theorem known_bar (c : Dev nD) : known (F := F) V ⊢ cellKnown V (barCell c) := known_at V _ ⟨(c, none), rfl⟩

/-- A wait on a cell below everything still owed. -/
theorem mayWait₀ (c : Dev nD) (sm : SemLoc sig) (p : ℕ) {a : ℕ} (h : lv ((c : Thread nD τ), sm) () = a) (ha : a < 2 + p) :
    (levAts L lv : sProp 𝕄) ⊢ MayWait (c : Thread nD τ) sm () (owed c p) :=
  MayOwe.of_cut (L := L) (lev := lv) a (fun q hq => by rw [Finset.mem_singleton.mp hq, L_tc]; exact Finset.mem_singleton_self _)
    (fun g u hg => by obtain ⟨k, i, -, rfl⟩ := owed_pos hg; exact Finset.mem_singleton_self _)
    (fun q hq => by rw [Finset.mem_singleton.mp hq, h])
    (fun g u hg => by obtain ⟨k, i, hp, rfl⟩ := owed_pos hg; rw [lv_r]; omega)

set_option maxRecDepth 20000 in
theorem mayWait (c : Dev nD) (sm : SemLoc sig) (p : ℕ) {a : ℕ} (h : lv ((c : Thread nD τ), sm) () = a) (ha : a < 2 + p) :
    known (F := F) V ⊢ MayWait (c : Thread nD τ) sm () (owed c p) :=
  (known_lev V).trans (mayWait₀ c sm p h ha)

/-- What device `c` owes once it has sent the first `p` copies. -/
def Ow (c : Dev nD) (p : ℕ) : sProp 𝕄 := iprop(∃ W, owes (c : Thread nD τ) (owed c p) W)

/-! ## A slot before it is sent, while it travels, and after -/

def Rdy (l : Lane) (i : Fin l.n) (c : Dev nD) : sProp 𝕄 :=
  iprop(sOwn l i c ∗ atPos ER (sCell l i c) 0 ∅ 0 ∗ atPos ER (rCell l i c) 0 ∅ 0
    ∗ dutyTok ER (sCell l i c) 0 0 ∗ dutyTok ER (rCell l i (l.tgt i c)) 0 0 ∗ cred (tallyAt (rCell l i c) () (cr l i)))
def Snt (l : Lane) (i : Fin l.n) (c : Dev nD) : sProp 𝕄 :=
  iprop(atPos ER (sCell l i c) 0 ∅ 0 ∗ atPos ER (rCell l i c) 0 ∅ 0
    ∗ cred (tallyAt (sCell l i c) () (cr l i)) ∗ cred (tallyAt (rCell l i c) () (cr l i)))
def Wtd (l : Lane) (i : Fin l.n) (c : Dev nD) : sProp 𝕄 :=
  iprop(sOwn l i c ∗ land l i c ∗ semVal (sCell l i c) 0 ∗ semVal (rCell l i c) 0)

/-! ## The steps -/

abbrev 𝒱₀ : Variants := Variants.none

/-- Running `prog` on device `c`. -/
abbrev WP (c : Dev nD) {α : Type} (prog : Pg F α) (Q : α → sProp 𝕄) : sProp 𝕄 :=
  wp frame (wpE (defs₀ (F := F)) 𝒱₀ (c : Thread nD τ) none) Set.univ prog Q

/-- From `P`, and what every device knows, `prog` on device `c` goes on at some result and its `Q`. -/
def Tr (c : Dev nD) {α : Type} (P : sProp 𝕄) (prog : Pg F α) (Q : α → sProp 𝕄) : Prop :=
  ∀ (β : Type) (k : α → Pg F β) (K : β → sProp 𝕄), iprop(known V ∗ P) ⊢ iprop((∀ v, Q v -∗ WP c (k v) K) -∗ WP c (prog >>= k) K)

section Tr
variable {V} {c : Dev nD} {α β : Type} {P P' R : sProp (MT nD τ sig Unit (Elt F) ℕ UU ℕ)} {a : Pg F α} {Q Q' : α → sProp (MT nD τ sig Unit (Elt F) ℕ UU ℕ)}

theorem Tr.pre (h : P ⊢ P') (t : Tr V c P' a Q) : Tr V c P a Q := fun β k K => (sep_mono_right h).trans (t β k K)
theorem Tr.post (t : Tr V c P a Q) (h : ∀ v, Q v ⊢ Q' v) : Tr V c P a Q' := fun β k K => by
  iintro H Hk
  iapply (t β k K) $$ H
  iintro %v HQ
  iapply Hk
  iapply (h v) $$ HQ
theorem Tr.seq {k : α → Pg F β} {Q₂ : β → sProp 𝕄} (t : Tr V c P a Q) (h : ∀ v, Tr V c (Q v) (k v) Q₂) : Tr V c P (a >>= k) Q₂ := fun γ k' K => by
  rw [show (a >>= k) >>= k' = a >>= fun v => k v >>= k' from bind_assoc a k k']
  iintro ⟨#HK, H⟩ Hk
  iapply (t γ (fun v => k v >>= k') K) $$ [H]
  · iframe HK H
  iintro %v HQ
  iapply ((h v) γ k' K) $$ [HQ]
  · iframe HK HQ
  iexact Hk
theorem Tr.frame (t : Tr V c P a Q) (R : sProp 𝕄) : Tr V c iprop(P ∗ R) a (fun v => iprop(Q v ∗ R)) := fun β k K => by
  iintro ⟨#HK, H, HR⟩ Hk
  iapply (t β k K) $$ [H]
  · iframe HK H
  iintro %v HQ
  iapply Hk
  iframe HQ HR
theorem Tr.ret {v : α} (h : P ⊢ Q v) : Tr V c P (pure v) Q := fun β k K => by
  rw [show (pure v >>= k) = k v from pure_bind v k]
  iintro ⟨-, H⟩ Hk
  iapply Hk
  iapply h $$ H
end Tr

theorem slot_set {n r : ℕ} (b : Memref sig .tc .vmem (Sh3 n r) .f32) (i : Fin n) :
    (slot b i).view.set = (b.access (slotR i)).set := by
  exact View.set_reshape (b.access (slotR i)) _

theorem load_slot {n r : ℕ} (b : Memref sig .tc .vmem (Sh3 n r) .f32) (i : Fin n) (c : Dev nD) {q : PosShare TreeShare}
    {f : Buf (Elt F) ((slot b i).view.loc (c : Thread nD τ))} {α : Type} {hl : b.view.LoadsAt (slotR i).toLoadRect} {k : Vec F (Sh3 1 r) .f32 → Pg F α} {Q : α → sProp 𝕄} :
    ((slot b i).view.loc (c : Thread nD τ) ↦[(slot b i).view.set]{q} f)
      ⊢ iprop((((slot b i).view.loc (c : Thread nD τ) ↦[(slot b i).view.set]{q} f) -∗ WP c (k ((b.access (slotR i)).read (Elt F) f)) Q)
        -∗ WP c (.op (.load b (slotR i).toLoadRect hl) k) Q) :=
  wp_load_rect 𝒱₀ (c : Thread nD τ) none Set.univ (m := b) (r := slotR i) (S := (slot b i).view.set) (f := f) (by rw [slot_set])

theorem store_slot {n r : ℕ} (b : Memref sig .tc .vmem (Sh3 n r) .f32) (i : Fin n) (c : Dev nD) {w : Vec F (Sh3 1 r) .f32}
    {f : Buf (Elt F) ((slot b i).view.loc (c : Thread nD τ))} {α : Type} {hx : (b.access (slotR i)).Stores Finset.univ} {hm} {k : PUnit → Pg F α} {Q : α → sProp 𝕄} :
    ((slot b i).view.loc (c : Thread nD τ) ↦[(slot b i).view.set]{fullShare} f)
      ⊢ iprop((((slot b i).view.loc (c : Thread nD τ) ↦[(slot b i).view.set]{fullShare} ((b.access (slotR i)).write (Elt F) f w Finset.univ)) -∗ WP c (k ⟨⟩) Q)
        -∗ WP c (.op (.store b (slotR i) w Finset.univ hx hm) k) Q) :=
  wp_store 𝒱₀ (c : Thread nD τ) none Set.univ (m := b) (r := slotR i) (S := (slot b i).view.set) (f := f) (by rw [slot_set]; exact View.setOn_subset_set _ _)

variable {V} {l : Lane} {i : Fin l.n} {v : Dev nD → Vec F (Sh2 l.r) .f32} {p : ℕ}

theorem read_put {n r : ℕ} (b : Memref sig .tc .vmem (Sh3 n r) .f32) (i : Fin n) (f : (b.access (slotR i)).ty.Contents (Elt F)) (u : Vec F (Sh2 r) .f32) :
    (fun j => (b.access (slotR i)).read (Elt F) ((b.access (slotR i)).write (Elt F) f (shapeCast (Sh3 1 r) u (casts23 r)) Finset.univ)
      (Shape.reshapeEquiv (casts32 r) j)) = u := by
  rw [View.read_write_univ]
  funext j
  show u (Shape.reshapeEquiv _ (Shape.reshapeEquiv _ j)) = u j
  congr 1
  simp [Shape.reshapeEquiv]

/-- Reading a landed slot. -/
theorem tr_get (c : Dev nD) (u : Vec F (Sh2 l.r) .f32) :
    Tr V c (landed l i c u) (l.get i) (fun y => iprop(⌜l.rows y = u⌝ ∗ landed l i c u)) := by
  intro β k K
  unfold landed owns Lane.get
  simp only [Prog.lift, Prog.bind_op, Prog.bind_ret]
  iintro ⟨-, %f, %hf, H⟩ Hk
  iapply (load_slot l.rb i c) $$ H
  iintro H
  iapply Hk
  isplitr
  · ipureintro; rw [← hf]; rfl
  · iexists f; isplitr
    · ipureintro; exact hf
    · iexact H

/-- Filling a sending slot. -/
theorem tr_put (c : Dev nD) (u : Vec F (Sh2 l.r) .f32) :
    Tr V c (sOwn l i c) (l.put i (shapeCast (Sh3 1 l.r) u (casts23 l.r))) (fun _ => owns (c : Thread nD τ) (slot l.sb i) fullShare u) := by
  intro β k K
  unfold sOwn Lane.put
  simp only [Prog.lift, Prog.bind_op, Prog.bind_ret]
  iintro ⟨-, %f, H⟩ Hk
  iapply (load_slot l.sb i c) $$ H
  iintro H
  iapply (store_slot l.sb i c) $$ H
  iintro H
  iapply Hk
  unfold owns
  iexists _
  isplitr
  rotate_left
  · iexact H
  · ipureintro
    exact read_put l.sb i f u

/-- Sending a slot filled with `u`, the receiver's slot at hand. -/
theorem tr_send {EE : Dev nD → sProp (MT nD τ sig Unit (Elt F) ℕ UU ℕ)} (o : Ok V l i v EE p) (c : Dev nD) (u : Vec F (Sh2 l.r) .f32) (hv : v (l.tgt i c) = u) :
    Tr V c iprop(Rdy l i c ∗ land l i (l.tgt i c) ∗ EE (l.tgt i c) ∗ Ow c p) (l.send c i u) (fun _ => iprop(Snt l i c ∗ Ow c (p + 1))) := by
  intro β k K
  unfold Rdy Snt Ow Lane.send
  iintro ⟨#HK, ⟨Hs, HaS, HaR, HtS, HtR, HcR⟩, Hl, HE, ⟨%W, HO⟩⟩ Hk
  iapply ((tr_put (V := V) (i := i) c u) β (fun _ => l.copy c i >>= k) K) $$ [Hs]
  · iframe HK Hs
  iintro %_ Hs
  unfold land
  icases Hl with ⟨%fd, Hl⟩
  unfold owns
  icases Hs with ⟨%fs, %hfs, Hs⟩
  unfold Lane.copy
  simp only [Prog.lift, Prog.bind_op, Prog.bind_ret]
  ihave HkS := (known_at V _ (o.kS c)) $$ HK
  ihave HkR := (known_at V _ (o.kR (l.tgt i c))) $$ HK
  unfold cellKnown
  icases HkS with ⟨⟨%κ₁, HIS⟩, HrS⟩
  icases HkR with ⟨⟨%κ₂, HIR⟩, HrR⟩
  iapply (Rounds.wp_send_pointsTo_with 𝒱₀ ER (Rd V) (c : Thread nD τ) none (c' := (l.tgt i c : Thread nD τ)) (κ₁ := κ₁) (κ₂ := κ₂)
    (r₁ := 0) (r₂ := 0) (d₁ := 0) (d₂ := 0) (fd := fd) (fs := fs) (F := EE (l.tgt i c)) (q := fullShare)
    (by rw [o.dS]; exact Finset.mem_singleton_self _) (by rw [o.dR]; exact Finset.mem_singleton_self _)
    () () (cr l i) rfl (o.aS c 0) (o.aR _ 0) (owed c (p + 1)) (o.split c) (W := W)
    (by rw [o.pS]; unfold sOwn; iintro H; iexists fs; iexact H)
    (by
      rw [o.pR, hv]
      iintro ⟨H, HE⟩
      isplitl [H]
      · unfold landed
        rw [← hfs]
        ihave H := (owns_intro (l.tgt i c : Thread nD τ) (slot l.rb i) fullShare _) $$ H
        rw [View.read_write_univ]
        iexact H
      · iexact HE)) $$ [Hs Hl HE HO HtS HtR HIS HIR HrS HrR]
  · isplitl [HIS]; · iexact HIS
    isplitl [HIR]; · iexact HIR
    isplitl [Hs]; · iexact Hs
    isplitl [Hl HE]
    · isplitl [Hl]; · iexact Hl
      iexact HE
    isplitl [HO]; · iexact HO
    isplitl [HtS]; · iexact HtS
    isplitl [HrS]; · iexact HrS
    isplitl [HtR]; · iexact HtR
    iexact HrR
  iintro ⟨HcS, HO⟩
  iapply Hk
  isplitr [HO]
  · isplitl [HaS]; · iexact HaS
    isplitl [HaR]; · iexact HaR
    isplitl [HcS]; · iexact HcS
    iexact HcR
  · iexists W; iexact HO

theorem rest_one (g : GSem nD τ sig) (hd : (Rd V).duties g 0 = {0}) :
    bigSep ((Rd V).duties g 0 \ ∅) (fun d => (Rd V).payload g 0 d) = (Rd V).payload g 0 0 := by
  rw [Finset.sdiff_empty, hd, bigSep_singleton]

theorem expect_one (g : GSem nD τ sig) (n : ℕ) (hd : (Rd V).duties g 0 = {0}) (ha : (Rd V).amount g 0 0 = n) : (Rd V).expect g 0 = n := by
  unfold Schedule.expect Schedule.amountOf; rw [hd, Finset.sum_singleton, ha]

/-- What a device has of a slot it has waited for. -/
def Got (l : Lane) (i : Fin l.n) (c : Dev nD) (u : Vec F (Sh2 l.r) .f32) : sProp 𝕄 :=
  iprop(sOwn l i c ∗ landed l i c u ∗ semVal (sCell l i c) 0 ∗ semVal (rCell l i c) 0)

/-- Waiting for a slot, everything owed being sent later than it. -/
theorem tr_wait {EE : Dev nD → sProp (MT nD τ sig Unit (Elt F) ℕ UU ℕ)} (o : Ok V l i v EE p) (c : Dev nD) (p' : ℕ) (hp : p < p') :
    Tr V c iprop(Snt l i c ∗ Ow c p') (l.wait i) (fun _ => iprop(Got l i c (v c) ∗ EE c ∗ Ow c p')) := by
  intro β k K
  unfold Snt Ow Lane.wait Got
  simp only [Prog.lift, Prog.bind_op, Prog.bind_ret]
  iintro ⟨#HK, ⟨HaS, HaR, HcS, HcR⟩, ⟨%W, HO⟩⟩ Hk
  ihave HkS := (known_at V _ (o.kS c)) $$ HK
  ihave HkR := (known_at V _ (o.kR c)) $$ HK
  unfold cellKnown
  icases HkS with ⟨⟨%κ₁, #HIS⟩, HrS⟩
  icases HkR with ⟨⟨%κ₂, #HIR⟩, HrR⟩
  iapply (Rounds.wp_wait_rest_token 𝒱₀ ER (Rd V) (c : Thread nD τ) none (κ := κ₁) (sm := .dma (semOf l.ss i)) (k' := (slot l.sb i).view.dmaCredit)
      (w := .waitDma2 (semOf l.ss i) (slot l.rb i) (slot l.sb i) ((View.wordExact_bits rfl).reshape _ _) ((View.wordExact_bits rfl).reshape _ _))
      (wpE_waitDma2_eq 𝒱₀ (c : Thread nD τ) none Set.univ) (Set.mem_univ _) () (O := owed c p') (W := W) (R := 0) (m := 0) (T := ∅)
      (by rw [Nat.zero_add, expect_one _ _ (o.dS c) (o.aS c 0)])) $$ [HcS HO HaS]
  · isplitr; · iexact HIS
    isplitl [HcS]; · rw [o.crS]; iexact HcS
    isplitl [HO]; · iexact HO
    isplitr; · iapply (mayWait V c _ p' (o.lS c) (by omega)); iexact HK
    iexact HaS
  iintro ⟨HO, HaS, -, Hpay⟩
  ihave Hs := (Entails.of_eq ((rest_one _ (o.dS c)).trans (o.pS c 0))) $$ Hpay
  iapply (Rounds.wp_wait_rest_token 𝒱₀ ER (Rd V) (c : Thread nD τ) none (κ := κ₂) (sm := .dma (semOf l.rs i)) (k' := (slot l.rb i).view.dmaCredit)
      (w := .waitDma2 (semOf l.rs i) (slot l.sb i) (slot l.rb i) ((View.wordExact_bits rfl).reshape _ _) ((View.wordExact_bits rfl).reshape _ _))
      (wpE_waitDma2_eq 𝒱₀ (c : Thread nD τ) none Set.univ) (Set.mem_univ _) () (O := owed c p') (R := 0) (m := 0) (T := ∅)
      (by rw [Nat.zero_add, expect_one _ _ (o.dR c) (o.aR c 0)])) $$ [HcR HO HaR]
  · isplitr; · iexact HIR
    isplitl [HcR]; · iexact HcR
    isplitl [HO]; · iexact HO
    isplitr; · iapply (mayWait V c _ p' (o.lR c) (by omega)); iexact HK
    iexact HaR
  iintro ⟨HO, HaR, -, Hpay⟩
  ihave Hl := (Entails.of_eq ((rest_one _ (o.dR c)).trans (o.pR c 0))) $$ Hpay
  icases Hl with ⟨Hl, HE⟩
  imod (Rounds.cell_close ER (Rd V) (Set.mem_univ κ₁) (fun h => h) (R := 0 + 1) (duties_later V (sCell l i c))) $$ [HaS] with HzS
  · isplitr; · iexact HIS
    iexact HaS
  imod (Rounds.cell_close ER (Rd V) (Set.mem_univ κ₂) (fun h => h) (R := 0 + 1) (duties_later V (rCell l i c))) $$ [HaR] with HzR
  · isplitr; · iexact HIR
    iexact HaR
  iapply Hk
  isplitr [HE HO]
  · isplitl [Hs]; · iexact Hs
    isplitl [Hl]; · iexact Hl
    isplitl [HzS]; · iexact HzS
    iexact HzR
  isplitl [HE]; · iexact HE
  iexists _; iexact HO

theorem got_wtd (c : Dev nD) (u : Vec F (Sh2 l.r) .f32) : Got l i c u ⊢ Wtd l i c := by
  unfold Got Wtd landed owns land
  iintro ⟨Hs, ⟨%f, -, Hl⟩, H1, H2⟩
  isplitl [Hs]; · iexact Hs
  isplitl [Hl]; · iexists f; iexact Hl
  isplitl [H1]; · iexact H1
  iexact H2

/-- Waiting for a slot and reading it. -/
theorem tr_take {EE : Dev nD → sProp (MT nD τ sig Unit (Elt F) ℕ UU ℕ)} (o : Ok V l i v EE p) (c : Dev nD) (p' : ℕ) (hp : p < p') :
    Tr V c iprop(Snt l i c ∗ Ow c p') (l.wait i >>= fun _ => l.get i) (fun y => iprop(⌜l.rows y = v c⌝ ∗ Wtd l i c ∗ EE c ∗ Ow c p')) := by
  intro β k K
  rw [bind_assoc]
  iintro ⟨#HK, H⟩ Hk
  iapply (tr_wait o c p' hp β _ K) $$ [H]
  · iframe HK H
  iintro %_ ⟨HG, HE, HO⟩
  unfold Got
  icases HG with ⟨Hs, Hl, H1, H2⟩
  iapply (tr_get (V := V) (i := i) c (v c) β _ K) $$ [Hl]
  · iframe HK Hl
  iintro %y ⟨%hy, Hl⟩
  iapply Hk
  isplitr; · ipureintro; exact hy
  iframe HE HO
  iapply (got_wtd c (v c))
  unfold Got
  iframe Hs Hl H1 H2

end Cert.Proof.K

end
-- ==== Proof.Run.Parts.lean ====
/- The parts of the body: reading and writing blocks of a buffer, the ticks of a chain, and the steps that end one. -/
module

public import proofs.«01_k».proof.Proof.Run.Proto

@[expose] public section

noncomputable section

namespace Cert.Proof.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A buffer known in part -/

/-- All of a buffer, its elements where `D` holds those of `V`. -/
def part {s : Shape} (b : Memref sig .tc .vmem s .f32) (c : Dev nD) (D : s.Idx → Prop) (V : Vec F s .f32) : sProp 𝕄 :=
  iprop(∃ f, ⌜∀ q, D q → b.view.read (Elt F) f q = V q⌝ ∗ (b.view.loc (c : Thread nD τ) ↦[Finset.univ]{fullShare} f))

theorem part_mono {s : Shape} {b : Memref sig .tc .vmem s .f32} {c : Dev nD} {D D' : s.Idx → Prop} {V V' : Vec F s .f32}
    (h : ∀ q, D' q → D q ∧ V q = V' q) : part b c D V ⊢ part b c D' V' := by
  unfold part
  iintro ⟨%f, %hf, H⟩
  iexists f
  isplitr
  · ipureintro; intro q hq; rw [hf q (h q hq).1, (h q hq).2]
  · iexact H

variable {Vl : (k : Fin 6) → (i : Fin (lane k).n) → Dev nD → Vec F (Sh2 (lane k).r) .f32}

/-- Reading a rectangle where the buffer is known. -/
theorem tr_load {s : Shape} (b : Memref sig .tc .vmem s .f32) (c : Dev nD) (D : s.Idx → Prop) (V : Vec F s .f32) (r : Rect s) {hl : b.view.LoadsAt r.toLoadRect}
    (h : ∀ j, D (r.emb j)) :
    Tr Vl c (part b c D V) (Prog.lift (.load b r.toLoadRect hl)) (fun v => iprop(⌜v = fun j => V (r.emb j)⌝ ∗ part b c D V)) := by
  intro β k K
  unfold part
  simp only [Prog.lift, Prog.bind_op, Prog.bind_ret]
  iintro ⟨-, %f, %hf, H⟩ Hk
  iapply (wp_load_rect 𝒱₀ (c : Thread nD τ) none Set.univ (m := b) (r := r) (Finset.subset_univ _)) $$ H
  iintro H
  iapply Hk
  isplitr
  · ipureintro; funext j; exact hf (r.emb j) (h j)
  · iexists f; isplitr
    · ipureintro; exact hf
    · iexact H

/-- Reading a rectangle and dropping what was read. -/
theorem tr_look {s : Shape} (b : Memref sig .tc .vmem s .f32) (c : Dev nD) (D : s.Idx → Prop) (V : Vec F s .f32) (r : Rect s) {hl : b.view.LoadsAt r.toLoadRect} :
    Tr Vl c (part b c D V) (Prog.lift (.load b r.toLoadRect hl)) (fun _ => part b c D V) := by
  intro β k K
  unfold part
  simp only [Prog.lift, Prog.bind_op, Prog.bind_ret]
  iintro ⟨-, %f, %hf, H⟩ Hk
  iapply (wp_load_rect 𝒱₀ (c : Thread nD τ) none Set.univ (m := b) (r := r) (Finset.subset_univ _)) $$ H
  iintro H
  iapply Hk
  iexists f; isplitr
  · ipureintro; exact hf
  · iexact H

/-- Writing a rectangle with what the buffer should hold there. -/
theorem tr_store {s : Shape} (b : Memref sig .tc .vmem s .f32) (c : Dev nD) (D D' : s.Idx → Prop) (V : Vec F s .f32) (r : Rect s) (w : Vec F r.shape .f32)
    {hx : (b.access r).Stores Finset.univ} {hm} (hw : ∀ j, V (r.emb j) = w j) (hD : ∀ q, D' q → D q ∨ ∃ j, r.emb j = q) :
    Tr Vl c (part b c D V) (Prog.lift (.store b r w Finset.univ hx hm)) (fun _ => part b c D' V) := by
  intro β k K
  unfold part
  simp only [Prog.lift, Prog.bind_op, Prog.bind_ret]
  iintro ⟨-, %f, %hf, H⟩ Hk
  iapply (wp_store 𝒱₀ (c : Thread nD τ) none Set.univ (m := b) (r := r) (w := w) (Mk := Finset.univ) (Finset.subset_univ _)) $$ H
  iintro H
  iapply Hk
  iexists _; isplitr
  rotate_left
  · iexact H
  · ipureintro
    intro q hq
    by_cases hj : ∃ j, r.emb j = q
    · obtain ⟨j, rfl⟩ := hj
      rw [hw]
      exact View.read_slice_write_emb r f w (Finset.mem_univ j)
    · refine (View.read_slice_write_of_not_mem r f w Finset.univ fun hm => hj ?_).trans (hf q ((hD q hq).resolve_right hj))
      obtain ⟨j, -, e⟩ := Finset.mem_map.mp hm
      exact ⟨j, e⟩

/-- Reading a block of a strip where the buffer is known. -/
theorem tr_blk {R C r : ℕ} (h : Fin 4) (b : Memref sig .tc .vmem ⟨2, ![R, C]⟩ .f32) (o : Fin 2 → ℕ) (hC : 512 ≤ C) (ho : o 0 + r ≤ R) (hr : 0 < (Sh2 r).numel)
    (c : Dev nD) (D : (⟨2, ![R, C]⟩ : Shape).Idx → Prop) (V : Vec F ⟨2, ![R, C]⟩ .f32) (hD : ∀ q, 128 * h.val ≤ (q 1).val → (q 1).val < 128 * h.val + 128 → D q) :
    Tr Vl c (part b c D V) (blk h b o hC ho hr) (fun v => iprop(⌜v = rd h o hC ho V⌝ ∗ part b c D V)) :=
  tr_load b c D V _ fun j => by
    have e := Rect.emb_apply (Rect.unit (s := ⟨2, ![R, C]⟩) (offOf h o) (Sh2 r).size (offOf_inb h hC ho)) j 1
    have hj : (j 1).val < 128 := (j 1).isLt
    refine hD _ ?_ ?_ <;> rw [e] <;> simp [offOf] <;> omega

/-- The columns written so far. -/
abbrev below (n : ℕ) {R C : ℕ} (q : (⟨2, ![R, C]⟩ : Shape).Idx) : Prop := (q 1).val < n

/-- Writing the strip of columns after those known. -/
theorem tr_putAt {R C : ℕ} (b : Memref sig .tc .vmem ⟨2, ![R, C]⟩ .f32) (o : ℕ) (hi : ∀ a, (![0, o] : Fin 2 → ℕ) a + (Sh2 R).size a ≤ (⟨2, ![R, C]⟩ : Shape).size a)
    (hr : 0 < (Sh2 R).numel) (w : Vec F (Sh2 R) .f32) (c : Dev nD) (D D' : (⟨2, ![R, C]⟩ : Shape).Idx → Prop) (V : Vec F ⟨2, ![R, C]⟩ .f32)
    (hw : ∀ q : (⟨2, ![R, C]⟩ : Shape).Idx, ∀ j : (Sh2 R).Idx, (q 0).val = (j 0).val → (q 1).val = o + (j 1).val → V q = w j)
    (hD : ∀ q, D' q → D q ∨ (o ≤ (q 1).val ∧ (q 1).val < o + 128)) :
    Tr Vl c (part b c D V) (putAt R b o hi hr w) (fun _ => part b c D' V) := by
  unfold putAt
  refine (tr_look b c D V _).seq fun _ => ?_
  refine tr_store b c D D' V (Rect.unit (s := ⟨2, ![R, C]⟩) ![0, o] (Sh2 R).size hi) w ?_ ?_
  · intro j
    refine hw _ j ?_ ?_
    · rw [Rect.emb_apply]; simp
    · rw [Rect.emb_apply]; simp
  · intro q hq
    refine (hD q hq).imp_right fun hc => ?_
    have h0 : (q 0).val < R := (q 0).isLt
    refine ⟨fun a => ⟨(![(q 0).val, (q 1).val - o] : Fin 2 → ℕ) a, ?_⟩, funext fun a => Fin.ext ?_⟩
    · fin_cases a <;> simp <;> omega
    · rw [Rect.emb_apply]
      fin_cases a <;> simp <;> omega

/-! ## The ticks -/

section Ticks
variable {l : Lane} {i j : Fin l.n} {v vj : Dev nD → Vec F (Sh2 l.r) .f32} {E Ej : Dev nD → sProp (MT nD τ sig Unit (Elt F) ℕ UU ℕ)} {p pj : ℕ}
  {c : Dev nD} {B G : sProp (MT nD τ sig Unit (Elt F) ℕ UU ℕ)} {b : Pg F (Vec F (Sh2 l.r) .f32)} {u : Vec F (Sh2 l.r) .f32}

/-- A first tick: the block read is sent. -/
theorem tr_first (o : Ok Vl l i v E p) (hb : Tr Vl c B b (fun y => iprop(⌜y = u⌝ ∗ B))) (hv : v (l.tgt i c) = u) :
    Tr Vl c iprop(B ∗ Rdy l i c ∗ land l i (l.tgt i c) ∗ E (l.tgt i c) ∗ Ow c p) (first c l i b) (fun _ => iprop(B ∗ Snt l i c ∗ Ow c (p + 1))) := by
  intro β k K
  unfold first
  rw [bind_assoc]
  iintro ⟨#HK, HB, HR, Hl, HE, HO⟩ Hk
  iapply (hb β _ K) $$ [HB]
  · iframe HK HB
  iintro %y ⟨%hy, HB⟩
  rw [hy]
  iapply (tr_send o c u hv β k K) $$ [HR Hl HE HO]
  · iframe HK HR Hl HE HO
  iintro %_ ⟨HS, HO⟩
  iapply Hk
  iframe HB HS HO

/-- A later tick: what landed in slot `j` is added to the block read, and the sum is sent. -/
theorem tr_next (oj : Ok Vl l j vj Ej pj) (o : Ok Vl l i v E p) (hp : pj < p) (hb : Tr Vl c B b (fun y => iprop(⌜y = u⌝ ∗ B)))
    (hv : v (l.tgt i c) = addf u (vj c)) (hE : Ej c ⊢ iprop(E (l.tgt i c) ∗ G)) :
    Tr Vl c iprop(B ∗ Snt l j c ∗ Rdy l i c ∗ land l i (l.tgt i c) ∗ Ow c p) (next c l j i b) (fun _ => iprop(B ∗ Wtd l j c ∗ Snt l i c ∗ G ∗ Ow c (p + 1))) := by
  intro β k K
  unfold next
  simp only [bind_assoc]
  iintro ⟨#HK, HB, HS, HR, Hl, HO⟩ Hk
  iapply (hb β _ K) $$ [HB]
  · iframe HK HB
  iintro %y ⟨%hy, HB⟩
  rw [hy, ← bind_assoc]
  iapply (tr_take oj c p hp β _ K) $$ [HS HO]
  · iframe HK HS HO
  iintro %z ⟨%hz, HW, HE, HO⟩
  rw [hz]
  ihave HE := hE $$ HE
  icases HE with ⟨HE, HG⟩
  iapply (tr_send o c _ hv β k K) $$ [HR Hl HE HO]
  · iframe HK HR Hl HE HO
  iintro %_ ⟨HS, HO⟩
  iapply Hk
  iframe HB HW HS HG HO

/-- The last landing of a chain, added to this device's own block and put away. -/
theorem tr_fin1 (oj : Ok Vl l j vj Ej pj) (hp : pj < p) (hb : Tr Vl c B b (fun y => iprop(⌜y = u⌝ ∗ B))) {q : Vec F (Sh2 l.r) .f32 → Pg F PUnit}
    {D D' : sProp (MT nD τ sig Unit (Elt F) ℕ UU ℕ)} (hq : Tr Vl c D (q (shapeCast (Sh2 l.r) (addf (vj c) u) rfl)) (fun _ => D')) :
    Tr Vl c iprop(B ∗ D ∗ Snt l j c ∗ Ow c p) (fin1 l j b q) (fun _ => iprop(B ∗ D' ∗ Wtd l j c ∗ Ej c ∗ Ow c p)) := by
  intro β k K
  unfold fin1
  simp only [bind_assoc]
  iintro ⟨#HK, HB, HD, HS, HO⟩ Hk
  rw [← bind_assoc]
  iapply (tr_take oj c p hp β _ K) $$ [HS HO]
  · iframe HK HS HO
  iintro %z ⟨%hz, HW, HE, HO⟩
  rw [hz]
  iapply (hb β _ K) $$ [HB]
  · iframe HK HB
  iintro %y ⟨%hy, HB⟩
  rw [hy]
  iapply (hq β k K) $$ [HD]
  · iframe HK HD
  iintro %_ HD
  iapply Hk
  iframe HB HD HW HE HO

/-- One more landing added. -/
theorem tr_acc (oj : Ok Vl l j vj Ej pj) (hp : pj < p) (a : Vec F (Sh2 l.r) .f32) :
    Tr Vl c iprop(Snt l j c ∗ Ow c p) (acc l j a) (fun y => iprop(⌜y = addf a (vj c)⌝ ∗ Wtd l j c ∗ Ow c p)) := by
  intro β k K
  unfold acc
  simp only [bind_assoc, pure_bind]
  iintro ⟨#HK, HS, HO⟩ Hk
  rw [← bind_assoc]
  iapply (tr_take oj c p hp β _ K) $$ [HS HO]
  · iframe HK HS HO
  iintro %z ⟨%hz, HW, -, HO⟩
  rw [hz]
  iapply Hk
  isplitr; · ipureintro; rfl
  iframe HW HO
end Ticks

/-! ## The loops -/

theorem strips (S : Fin 4 → sProp 𝕄) : bigSep Finset.univ S = iprop(S 0 ∗ S 1 ∗ S 2 ∗ S 3) := by
  rw [show (Finset.univ : Finset (Fin 4)) = {0, 1, 2, 3} from rfl, bigSep_insert (by decide), bigSep_insert (by decide), bigSep_insert (by decide), bigSep_singleton]
  rfl

/-- A loop over the strips: `R n` after `n` of them. -/
theorem tr_hs {c : Dev nD} {f : Fin 4 → Pg F PUnit} (R : ℕ → sProp 𝕄) (S S' : Fin 4 → sProp 𝕄)
    (t : ∀ h, Tr Vl c iprop(R h.val ∗ S h) (f h) (fun _ => iprop(R (h.val + 1) ∗ S' h))) :
    Tr Vl c iprop(R 0 ∗ bigSep Finset.univ S) (each hs f) (fun _ => iprop(R 4 ∗ bigSep Finset.univ S')) := by
  intro β k K
  simp only [each, bind_assoc, pure_bind]
  rw [strips, strips]
  iintro ⟨#HK, HR, H0, H1, H2, H3⟩ Hk
  iapply (t 0 β _ K) $$ [HR H0]
  · iframe HK HR H0
  iintro %_ ⟨HR, H0⟩
  iapply (t 1 β _ K) $$ [HR H1]
  · iframe HK HR H1
  iintro %_ ⟨HR, H1⟩
  iapply (t 2 β _ K) $$ [HR H2]
  · iframe HK HR H2
  iintro %_ ⟨HR, H2⟩
  iapply (t 3 β _ K) $$ [HR H3]
  · iframe HK HR H3
  iintro %_ ⟨HR, H3⟩
  iapply Hk
  iframe HR H0 H1 H2 H3

end Cert.Proof.K

end
-- ==== Proof.Run.Loops.lean ====
/- The loops of the body: what every strip's slots and the buffers are before and after each. -/
module

public import proofs.«01_k».proof.Proof.Run.Parts

@[expose] public section

noncomputable section

namespace Cert.Proof.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → Vec F S1024x32 .f32) (w : Dev nD → Vec F S32x1024 .f32)

/-! ## The slots of a strip -/

def posA (h : Fin 4) : Fin 3 → ℕ | 0 => h.val | 1 => 8 + 2 * h.val | 2 => 16 + 2 * h.val
def posB (h : Fin 4) : Fin 3 → ℕ | 0 => 4 + h.val | 1 => 9 + 2 * h.val | 2 => 17 + 2 * h.val

theorem Ok.cast {V : (k : Fin 6) → (i : Fin (lane k).n) → Dev nD → Vec F (Sh2 (lane k).r) .f32} {l : Lane} {i : Fin l.n} {v v' : Dev nD → Vec F (Sh2 l.r) .f32}
    {E E' : Dev nD → sProp 𝕄} {p p' : ℕ} (o : Ok V l i v E p) (hv : v = v') (hE : E = E') (hp : p = p') : Ok V l i v' E' p' := by
  subst hv hE hp; exact o

theorem okA (h : Fin 4) (s : Fin 3) : Ok (landV x w) A1 (at3 h s) (fun c => a1v x w h s (zDn c)) (handA h s) (posA h s) :=
  (ok (landV x w) 0 (at3 h s)).cast
    (funext fun c => by show a1v x w (h3 (at3 h s)) (e3 (at3 h s)) (zDn c) = _; rw [h3_at3, e3_at3])
    (funext fun c => by show handA (h3 (at3 h s)) (e3 (at3 h s)) c = _; rw [h3_at3, e3_at3]) (by revert h s; decide +kernel)
theorem okB (h : Fin 4) (s : Fin 3) : Ok (landV x w) B1 (at3 h s) (fun c => b1v x w h s (yDn c)) (handB h s) (posB h s) :=
  (ok (landV x w) 3 (at3 h s)).cast
    (funext fun c => by show b1v x w (h3 (at3 h s)) (e3 (at3 h s)) (yDn c) = _; rw [h3_at3, e3_at3])
    (funext fun c => by show handB (h3 (at3 h s)) (e3 (at3 h s)) c = _; rw [h3_at3, e3_at3]) (by revert h s; decide +kernel)
theorem okA2 (h : Fin 4) (e : Fin 3) : Ok (landV x w) A2 (at3 h e) (fun c => a2v x w h e (yAt (2 - e) c)) (fun _ => iprop(emp)) (24 + 6 * h.val + 2 * e.val) :=
  (ok (landV x w) 1 (at3 h e)).cast
    (funext fun c => by show a2v x w (h3 (at3 h e)) (e3 (at3 h e)) (yAt (2 - e3 (at3 h e)) c) = _; rw [h3_at3, e3_at3])
    rfl (by revert h e; decide +kernel)
theorem okB2 (h : Fin 4) (e : Fin 3) : Ok (landV x w) B2 (at3 h e) (fun c => b2v x w h e (zAt (2 - e) c)) (fun _ => iprop(emp)) (25 + 6 * h.val + 2 * e.val) :=
  (ok (landV x w) 4 (at3 h e)).cast
    (funext fun c => by show b2v x w (h3 (at3 h e)) (e3 (at3 h e)) (zAt (2 - e3 (at3 h e)) c) = _; rw [h3_at3, e3_at3])
    rfl (by revert h e; decide +kernel)
theorem okA3 (h : Fin 4) : Ok (landV x w) A3 h (fun c => a3v x w h (xPt c)) (fun _ => iprop(emp)) (48 + 2 * h.val) := ok (landV x w) 2 h
theorem okB3 (h : Fin 4) : Ok (landV x w) B3 h (fun c => b3v x w h (xPt c)) (fun _ => iprop(emp)) (49 + 2 * h.val) := ok (landV x w) 5 h

/-- A slot ready to be sent, the receiver's at hand. -/
def Go (l : Lane) (i : Fin l.n) (c : Dev nD) : sProp 𝕄 := iprop(Rdy l i c ∗ land l i (l.tgt i c))

section States
variable (c : Dev nD) (h : Fin 4)
/-- A device's own three landing slots of a strip. -/
def ownB2 : sProp 𝕄 := iprop(land B2 (at3 h 0) c ∗ land B2 (at3 h 1) c ∗ land B2 (at3 h 2) c)
def ownA2 : sProp 𝕄 := iprop(land A2 (at3 h 0) c ∗ land A2 (at3 h 1) c ∗ land A2 (at3 h 2) c)
def rdyA2 : sProp 𝕄 := iprop(Rdy A2 (at3 h 0) c ∗ Rdy A2 (at3 h 1) c ∗ Rdy A2 (at3 h 2) c)
def rdyB2 : sProp 𝕄 := iprop(Rdy B2 (at3 h 0) c ∗ Rdy B2 (at3 h 1) c ∗ Rdy B2 (at3 h 2) c)
def sntA2 : sProp 𝕄 := iprop(Snt A2 (at3 h 0) c ∗ Snt A2 (at3 h 1) c ∗ Snt A2 (at3 h 2) c)
def sntB2 : sProp 𝕄 := iprop(Snt B2 (at3 h 0) c ∗ Snt B2 (at3 h 1) c ∗ Snt B2 (at3 h 2) c)
def wtdA2 : sProp 𝕄 := iprop(Wtd A2 (at3 h 0) c ∗ Wtd A2 (at3 h 1) c ∗ Wtd A2 (at3 h 2) c)
def wtdB2 : sProp 𝕄 := iprop(Wtd B2 (at3 h 0) c ∗ Wtd B2 (at3 h 1) c ∗ Wtd B2 (at3 h 2) c)
def wtdA1 : sProp 𝕄 := iprop(Wtd A1 (at3 h 0) c ∗ Wtd A1 (at3 h 1) c ∗ Wtd A1 (at3 h 2) c)
def wtdB1 : sProp 𝕄 := iprop(Wtd B1 (at3 h 0) c ∗ Wtd B1 (at3 h 1) c ∗ Wtd B1 (at3 h 2) c)

/-- The slots of the later exchanges. -/
def St : sProp 𝕄 := iprop((rdyA2 c h ∗ rdyB2 c h) ∗ Go A3 h c ∗ Go B3 h c)
def S0 : sProp 𝕄 := iprop((Go A1 (at3 h 0) c ∗ ownB2 c h ∗ Go A1 (at3 h 1) c ∗ Go A1 (at3 h 2) c)
  ∗ (Go B1 (at3 h 0) c ∗ ownA2 c h ∗ Go B1 (at3 h 1) c ∗ Go B1 (at3 h 2) c) ∗ St c h)
def S1 : sProp 𝕄 := iprop((Snt A1 (at3 h 0) c ∗ Go A1 (at3 h 1) c ∗ Go A1 (at3 h 2) c)
  ∗ (Go B1 (at3 h 0) c ∗ ownA2 c h ∗ Go B1 (at3 h 1) c ∗ Go B1 (at3 h 2) c) ∗ St c h)
def S2 : sProp 𝕄 := iprop((Snt A1 (at3 h 0) c ∗ Go A1 (at3 h 1) c ∗ Go A1 (at3 h 2) c)
  ∗ (Snt B1 (at3 h 0) c ∗ Go B1 (at3 h 1) c ∗ Go B1 (at3 h 2) c) ∗ St c h)
def S3 : sProp 𝕄 := iprop((Wtd A1 (at3 h 0) c ∗ Snt A1 (at3 h 1) c ∗ land B2 (at3 h 2) (zAt 2 c) ∗ Go A1 (at3 h 2) c)
  ∗ (Wtd B1 (at3 h 0) c ∗ Snt B1 (at3 h 1) c ∗ land A2 (at3 h 2) (yAt 2 c) ∗ Go B1 (at3 h 2) c) ∗ St c h)
def S4 : sProp 𝕄 := iprop((Wtd A1 (at3 h 0) c ∗ Wtd A1 (at3 h 1) c ∗ Snt A1 (at3 h 2) c ∗ land B2 (at3 h 2) (zAt 2 c) ∗ land B2 (at3 h 1) (zAt 1 c))
  ∗ (Wtd B1 (at3 h 0) c ∗ Wtd B1 (at3 h 1) c ∗ Snt B1 (at3 h 2) c ∗ land A2 (at3 h 2) (yAt 2 c) ∗ land A2 (at3 h 1) (yAt 1 c)) ∗ St c h)
def S5 : sProp 𝕄 := iprop((wtdA1 c h ∗ wtdB1 c h) ∗ (sntA2 c h ∗ sntB2 c h) ∗ Go A3 h c ∗ Go B3 h c)
def S6 : sProp 𝕄 := iprop((wtdA1 c h ∗ wtdB1 c h) ∗ (wtdA2 c h ∗ wtdB2 c h) ∗ Snt A3 h c ∗ Snt B3 h c)
def S7 : sProp 𝕄 := iprop((wtdA1 c h ∗ wtdB1 c h) ∗ (wtdA2 c h ∗ wtdB2 c h) ∗ Wtd A3 h c ∗ Wtd B3 h c)
end States

/-! ## The buffers -/

def PB (c : Dev nD) : sProp 𝕄 := part mP c (fun _ => True) (Pv x w c)
def YB (c : Dev nD) : sProp 𝕄 := part mY c (fun _ => True) (Yv x w c)
def saB (c : Dev nD) (n : ℕ) : sProp 𝕄 := part mSa c (below n) (saF x w c)
def sbB (c : Dev nD) (n : ℕ) : sProp 𝕄 := part mSb c (below n) (sbF x w c)
def taB (c : Dev nD) (n : ℕ) : sProp 𝕄 := part mTa c (below n) (taF x w c)
def tbB (c : Dev nD) (n : ℕ) : sProp 𝕄 := part mTb c (below n) (tbF x w c)
def outB (c : Dev nD) (n m : ℕ) : sProp 𝕄 := part mO c (fun q => (q 1).val < n ∨ (512 ≤ (q 1).val ∧ (q 1).val < 512 + m)) (outF x w c)

theorem cols_at {R : ℕ} (V : Fin 4 → Vec F (Sh2 R) .f32) (h : Fin 4) (q : (⟨2, ![R, 512]⟩ : Shape).Idx) (j : (Sh2 R).Idx)
    (h0 : (q 0).val = (j 0).val) (h1 : (q 1).val = 128 * h.val + (j 1).val) : cols V q = V h j := by
  have hj : (j 1).val < 128 := (j 1).isLt
  unfold cols
  have e : (⟨(q 1).val / 128, by have : (q 1).val < 512 := (q 1).isLt; omega⟩ : Fin 4) = h := Fin.ext (by simp [h1]; omega)
  rw [e]
  congr 1
  funext a
  fin_cases a <;> apply Fin.ext <;> simp [ij, h0, h1] <;> omega

section Blocks
variable (c : Dev nD) (h : Fin 4)
theorem tr_blkP (s : Fin 3) : Tr (landV x w) c (PB x w c) (blkP c h s) (fun y => iprop(⌜y = rdP c h s (Pv x w c)⌝ ∗ PB x w c)) := tr_blk h mP _ _ _ _ c _ _ fun _ _ _ => trivial
theorem tr_blkY (s : Fin 3) : Tr (landV x w) c (YB x w c) (blkY c h s) (fun y => iprop(⌜y = rdY c h s (Yv x w c)⌝ ∗ YB x w c)) := tr_blk h mY _ _ _ _ c _ _ fun _ _ _ => trivial
theorem tr_blkPown : Tr (landV x w) c (PB x w c) (blkPown c h) (fun y => iprop(⌜y = rdPown c h (Pv x w c)⌝ ∗ PB x w c)) := tr_blk h mP _ _ _ _ c _ _ fun _ _ _ => trivial
theorem tr_blkYown : Tr (landV x w) c (YB x w c) (blkYown c h) (fun y => iprop(⌜y = rdYown c h (Yv x w c)⌝ ∗ YB x w c)) := tr_blk h mY _ _ _ _ c _ _ fun _ _ _ => trivial
variable {n : ℕ} (hn : 128 * h.val + 128 ≤ n)
include hn
theorem tr_blkSa (e : Fin 3) : Tr (landV x w) c (saB x w c n) (blkSa c h e) (fun y => iprop(⌜y = a2v x w h e c⌝ ∗ saB x w c n)) := tr_blk h mSa _ _ _ _ c _ _ fun _ _ hq => lt_of_lt_of_le hq hn
theorem tr_blkSb (e : Fin 3) : Tr (landV x w) c (sbB x w c n) (blkSb c h e) (fun y => iprop(⌜y = b2v x w h e c⌝ ∗ sbB x w c n)) := tr_blk h mSb _ _ _ _ c _ _ fun _ _ hq => lt_of_lt_of_le hq hn
theorem tr_blkSaOwn : Tr (landV x w) c (saB x w c n) (blkSaOwn c h) (fun y => iprop(⌜y = rdSaOwn c h (saF x w c)⌝ ∗ saB x w c n)) := tr_blk h mSa _ _ _ _ c _ _ fun _ _ hq => lt_of_lt_of_le hq hn
theorem tr_blkSbOwn : Tr (landV x w) c (sbB x w c n) (blkSbOwn c h) (fun y => iprop(⌜y = rdSbOwn c h (sbF x w c)⌝ ∗ sbB x w c n)) := tr_blk h mSb _ _ _ _ c _ _ fun _ _ hq => lt_of_lt_of_le hq hn
theorem tr_blkTa : Tr (landV x w) c (taB x w c n) (blkTa c h) (fun y => iprop(⌜y = a3v x w h c⌝ ∗ taB x w c n)) := tr_blk h mTa _ _ _ _ c _ _ fun _ _ hq => lt_of_lt_of_le hq hn
theorem tr_blkTb : Tr (landV x w) c (tbB x w c n) (blkTb c h) (fun y => iprop(⌜y = b3v x w h c⌝ ∗ tbB x w c n)) := tr_blk h mTb _ _ _ _ c _ _ fun _ _ hq => lt_of_lt_of_le hq hn
theorem tr_blkTaOwn : Tr (landV x w) c (taB x w c n) (blkTaOwn c h) (fun y => iprop(⌜y = rdTaOwn c h (taF x w c)⌝ ∗ taB x w c n)) := tr_blk h mTa _ _ _ _ c _ _ fun _ _ hq => lt_of_lt_of_le hq hn
theorem tr_blkTbOwn : Tr (landV x w) c (tbB x w c n) (blkTbOwn c h) (fun y => iprop(⌜y = rdTbOwn c h (tbF x w c)⌝ ∗ tbB x w c n)) := tr_blk h mTb _ _ _ _ c _ _ fun _ _ hq => lt_of_lt_of_le hq hn
end Blocks

/-! ## The first chains -/

section First
variable (c : Dev nD) (h : Fin 4)

theorem loopA : Tr (landV x w) c iprop((PB x w c ∗ Ow c h.val) ∗ S0 c h) (first c A1 (at3 h 0) (blkP c h 0)) (fun _ => iprop((PB x w c ∗ Ow c (h.val + 1)) ∗ S1 c h)) := by
  intro β k K
  unfold S0 S1 Go
  iintro ⟨#HK, ⟨HP, HO⟩, ⟨⟨HR, Hl⟩, HE, HA1, HA2⟩, HB, HT⟩ Hk
  iapply (tr_first (okA x w h 0) (tr_blkP x w c h 0) (by show a1v x w h 0 (zDn (zUp c)) = _; rw [zDn_zUp]; rfl) β k K) $$ [HP HO HR Hl HE]
  · iframe HK HP HR Hl HO
    iapply (show ownB2 c h ⊢ handA h 0 (zUp c) from Entails.of_eq (by simp only [ownB2, handA, zAt2_zUp])) $$ HE
  iintro %_ ⟨HP, HS, HO⟩
  iapply Hk
  iframe HP HO HS HA1 HA2 HB HT

theorem loopB : Tr (landV x w) c iprop((YB x w c ∗ Ow c (4 + h.val)) ∗ S1 c h) (first c B1 (at3 h 0) (blkY c h 0)) (fun _ => iprop((YB x w c ∗ Ow c (4 + (h.val + 1))) ∗ S2 c h)) := by
  intro β k K
  unfold S1 S2 Go
  iintro ⟨#HK, ⟨HP, HO⟩, HA, ⟨⟨HR, Hl⟩, HE, HA1, HA2⟩, HT⟩ Hk
  iapply (tr_first (okB x w h 0) (tr_blkY x w c h 0) (by show b1v x w h 0 (yDn (yUp c)) = _; rw [yDn_yUp]; rfl) β k K) $$ [HP HO HR Hl HE]
  · iframe HK HP HR Hl HO
    iapply (show ownA2 c h ⊢ handB h 0 (yUp c) from Entails.of_eq (by simp only [ownA2, handB, yAt2_yUp])) $$ HE
  iintro %_ ⟨HP, HS, HO⟩
  iapply Hk
  iframe HP HO HS HA1 HA2 HA HT

theorem handA1 : handA (F := F) h 0 c ⊢ iprop(handA h 1 (zUp c) ∗ land B2 (at3 h 2) (zAt 2 c)) := by
  simp only [handA, zAt1_zUp]
  iintro ⟨H0, H1, H2⟩
  iframe H0 H1 H2
theorem handA2 : handA (F := F) h 1 c ⊢ iprop(handA h 2 (zUp c) ∗ land B2 (at3 h 1) (zAt 1 c)) := by
  simp only [handA, zAt0_zUp]
  exact .rfl
theorem handB1 : handB (F := F) h 0 c ⊢ iprop(handB h 1 (yUp c) ∗ land A2 (at3 h 2) (yAt 2 c)) := by
  simp only [handB, yAt1_yUp]
  iintro ⟨H0, H1, H2⟩
  iframe H0 H1 H2
theorem handB2 : handB (F := F) h 1 c ⊢ iprop(handB h 2 (yUp c) ∗ land A2 (at3 h 1) (yAt 1 c)) := by
  simp only [handB, yAt0_yUp]
  exact .rfl

theorem tick1 : Tr (landV x w) c iprop((PB x w c ∗ YB x w c ∗ Ow c (8 + 2 * h.val)) ∗ S2 c h)
    (next c A1 (at3 h 0) (at3 h 1) (blkP c h 1) >>= fun _ => next c B1 (at3 h 0) (at3 h 1) (blkY c h 1))
    (fun _ => iprop((PB x w c ∗ YB x w c ∗ Ow c (8 + 2 * (h.val + 1))) ∗ S3 c h)) := by
  intro β k K
  rw [bind_assoc]
  unfold S2 S3 Go
  iintro ⟨#HK, ⟨HP, HY, HO⟩, ⟨HSA, ⟨HRA, HlA⟩, HA⟩, ⟨HSB, ⟨HRB, HlB⟩, HB⟩, HT⟩ Hk
  iapply (tr_next (okA x w h 0) (okA x w h 1) (by simp [posA]; omega) (tr_blkP x w c h 1) (by show a1v x w h 1 (zDn (zUp c)) = _; rw [zDn_zUp]; rfl) (handA1 c h) β _ K) $$ [HP HO HSA HRA HlA]
  · iframe HK HP HSA HRA HlA HO
  iintro %_ ⟨HP, HWA, HSA, HGA, HO⟩
  iapply (tr_next (okB x w h 0) (okB x w h 1) (by simp [posB]; omega) (tr_blkY x w c h 1) (by show b1v x w h 1 (yDn (yUp c)) = _; rw [yDn_yUp]; rfl) (handB1 c h) β k K) $$ [HY HO HSB HRB HlB]
  · iframe HK HY HSB HRB HlB
    rw [show posB h 1 = posA h 1 + 1 from by simp [posA, posB]; omega]
    iexact HO
  iintro %_ ⟨HY, HWB, HSB, HGB, HO⟩
  rw [show posB h 1 + 1 = 8 + 2 * (h.val + 1) from by simp [posB]; omega]
  iapply Hk
  iframe HP HY HO HWA HSA HGA HA HWB HSB HGB HB HT

theorem tick2 : Tr (landV x w) c iprop((PB x w c ∗ YB x w c ∗ Ow c (16 + 2 * h.val)) ∗ S3 c h)
    (next c A1 (at3 h 1) (at3 h 2) (blkP c h 2) >>= fun _ => next c B1 (at3 h 1) (at3 h 2) (blkY c h 2))
    (fun _ => iprop((PB x w c ∗ YB x w c ∗ Ow c (16 + 2 * (h.val + 1))) ∗ S4 c h)) := by
  intro β k K
  rw [bind_assoc]
  unfold S3 S4 Go
  iintro ⟨#HK, ⟨HP, HY, HO⟩, ⟨HA0, HSA, HA2, HRA, HlA⟩, ⟨HB0, HSB, HB2, HRB, HlB⟩, HT⟩ Hk
  iapply (tr_next (okA x w h 1) (okA x w h 2) (by simp [posA]) (tr_blkP x w c h 2) (by show a1v x w h 2 (zDn (zUp c)) = _; rw [zDn_zUp]; rfl) (handA2 c h) β _ K) $$ [HP HO HSA HRA HlA]
  · iframe HK HP HSA HRA HlA HO
  iintro %_ ⟨HP, HWA, HSA, HGA, HO⟩
  iapply (tr_next (okB x w h 1) (okB x w h 2) (by simp [posB]) (tr_blkY x w c h 2) (by show b1v x w h 2 (yDn (yUp c)) = _; rw [yDn_yUp]; rfl) (handB2 c h) β k K) $$ [HY HO HSB HRB HlB]
  · iframe HK HY HSB HRB HlB
    rw [show posB h 2 = posA h 2 + 1 from by simp [posA, posB]; omega]
    iexact HO
  iintro %_ ⟨HY, HWB, HSB, HGB, HO⟩
  rw [show posB h 2 + 1 = 16 + 2 * (h.val + 1) from by simp [posB]; omega]
  iapply Hk
  iframe HP HY HO HA0 HWA HSA HA2 HGA HB0 HWB HSB HB2 HGB HT
end First

/-! ## The exchanges along the lines and in the pair -/

section Mid
variable (c : Dev nD) (h : Fin 4)

theorem tgtA2 (e : Fin 3) : A2.tgt (at3 h e) c = yAt e c := by show yAt (e3 (at3 h e)) c = _; rw [e3_at3]
theorem tgtB2 (e : Fin 3) : B2.tgt (at3 h e) c = zAt e c := by show zAt (e3 (at3 h e)) c = _; rw [e3_at3]

theorem sendA2 (e : Fin 3) {n p : ℕ} (hn : 128 * h.val + 128 ≤ n) (hp : p = 24 + 6 * h.val + 2 * e.val) :
    Tr (landV x w) c iprop(saB x w c n ∗ Rdy A2 (at3 h e) c ∗ land A2 (at3 h e) (yAt e c) ∗ Ow c p) (first c A2 (at3 h e) (blkSa c h e))
      (fun _ => iprop(saB x w c n ∗ Snt A2 (at3 h e) c ∗ Ow c (p + 1))) := by
  subst hp
  refine Tr.pre ?_ (tr_first (okA2 x w h e) (tr_blkSa x w c h hn e) (by rw [tgtA2, yAt_yAt]))
  rw [tgtA2]
  iintro ⟨H1, H2, H3, H4⟩
  iframe H1 H2 H3 H4
theorem sendB2 (e : Fin 3) {n p : ℕ} (hn : 128 * h.val + 128 ≤ n) (hp : p = 25 + 6 * h.val + 2 * e.val) :
    Tr (landV x w) c iprop(sbB x w c n ∗ Rdy B2 (at3 h e) c ∗ land B2 (at3 h e) (zAt e c) ∗ Ow c p) (first c B2 (at3 h e) (blkSb c h e))
      (fun _ => iprop(sbB x w c n ∗ Snt B2 (at3 h e) c ∗ Ow c (p + 1))) := by
  subst hp
  refine Tr.pre ?_ (tr_first (okB2 x w h e) (tr_blkSb x w c h hn e) (by rw [tgtB2, zAt_zAt]))
  rw [tgtB2]
  iintro ⟨H1, H2, H3, H4⟩
  iframe H1 H2 H3 H4

theorem putSa : Tr (landV x w) c (saB x w c (128 * h.val)) (putAt 256 mSa (128 * h.val) (inbO (by decide) (by omega)) A1.pos2 (saV x w h c)) (fun _ => saB x w c (128 * (h.val + 1))) :=
  tr_putAt mSa _ _ _ _ c _ _ _ (fun q j h0 h1 => cols_at _ h q j h0 h1) fun q hq => by simp only [below] at *; omega
theorem putSb : Tr (landV x w) c (sbB x w c (128 * h.val)) (putAt 256 mSb (128 * h.val) (inbO (by decide) (by omega)) A1.pos2 (sbV x w h c)) (fun _ => sbB x w c (128 * (h.val + 1))) :=
  tr_putAt mSb _ _ _ _ c _ _ _ (fun q j h0 h1 => cols_at _ h q j h0 h1) fun q hq => by simp only [below] at *; omega
theorem putTa : Tr (landV x w) c (taB x w c (128 * h.val)) (putAt 64 mTa (128 * h.val) (inbO (by decide) (by omega)) A2.pos2 (taV x w h c)) (fun _ => taB x w c (128 * (h.val + 1))) :=
  tr_putAt mTa _ _ _ _ c _ _ _ (fun q j h0 h1 => cols_at _ h q j h0 h1) fun q hq => by simp only [below] at *; omega
theorem putTb : Tr (landV x w) c (tbB x w c (128 * h.val)) (putAt 64 mTb (128 * h.val) (inbO (by decide) (by omega)) A2.pos2 (tbV x w h c)) (fun _ => tbB x w c (128 * (h.val + 1))) :=
  tr_putAt mTb _ _ _ _ c _ _ _ (fun q j h0 h1 => cols_at _ h q j h0 h1) fun q hq => by simp only [below] at *; omega

theorem tr_phase1 : Tr (landV x w) c iprop((PB x w c ∗ YB x w c ∗ saB x w c (128 * h.val) ∗ sbB x w c (128 * h.val) ∗ Ow c (24 + 6 * h.val)) ∗ S4 c h)
    (phase1 c h) (fun _ => iprop((PB x w c ∗ YB x w c ∗ saB x w c (128 * (h.val + 1)) ∗ sbB x w c (128 * (h.val + 1)) ∗ Ow c (24 + 6 * (h.val + 1))) ∗ S5 c h)) := by
  intro β k K
  unfold phase1
  simp only [each, bind_assoc, pure_bind]
  unfold S4 S5 St rdyA2 rdyB2 sntA2 sntB2 wtdA1 wtdB1
  iintro ⟨#HK, ⟨HP, HY, Hsa, Hsb, HO⟩, ⟨HA0, HA1, HSA, Hb2, Hb1⟩, ⟨HB0, HB1, HSB, Ha2, Ha1⟩, ⟨⟨HRa0, HRa1, HRa2⟩, HRb0, HRb1, HRb2⟩, HT⟩ Hk
  iapply (tr_fin1 (p := 24 + 6 * h.val) (okA x w h 2) (by simp [posA]; omega) (tr_blkPown x w c h) (putSa x w c h) β _ K) $$ [HP Hsa HSA HO]
  · iframe HK HP Hsa HSA HO
  iintro %_ ⟨HP, Hsa, HA2, Hb0, HO⟩
  iapply (tr_fin1 (p := 24 + 6 * h.val) (okB x w h 2) (by simp [posB]; omega) (tr_blkYown x w c h) (putSb x w c h) β _ K) $$ [HY Hsb HSB HO]
  · iframe HK HY Hsb HSB HO
  iintro %_ ⟨HY, Hsb, HB2, Ha0, HO⟩
  iapply (sendA2 x w c h 0 (n := 128 * (h.val + 1)) (p := 24 + 6 * h.val) (by omega) (by simp <;> omega) β _ K) $$ [Hsa HRa0 Ha0 HO]
  · iframe HK Hsa HRa0 HO
    iapply (show handB h 2 c ⊢ land A2 (at3 h 0) (yAt 0 c) from .rfl) $$ Ha0
  iintro %_ ⟨Hsa, HSa0, HO⟩
  iapply (sendB2 x w c h 0 (n := 128 * (h.val + 1)) (p := 24 + 6 * h.val + 1) (by omega) (by simp <;> omega) β _ K) $$ [Hsb HRb0 Hb0 HO]
  · iframe HK Hsb HRb0 HO
    iapply (show handA h 2 c ⊢ land B2 (at3 h 0) (zAt 0 c) from .rfl) $$ Hb0
  iintro %_ ⟨Hsb, HSb0, HO⟩
  iapply (sendA2 x w c h 1 (n := 128 * (h.val + 1)) (p := 24 + 6 * h.val + 1 + 1) (by omega) (by simp <;> omega) β _ K) $$ [Hsa HRa1 Ha1 HO]
  · iframe HK Hsa HRa1 Ha1 HO
  iintro %_ ⟨Hsa, HSa1, HO⟩
  iapply (sendB2 x w c h 1 (n := 128 * (h.val + 1)) (p := 24 + 6 * h.val + 1 + 1 + 1) (by omega) (by simp <;> omega) β _ K) $$ [Hsb HRb1 Hb1 HO]
  · iframe HK Hsb HRb1 Hb1 HO
  iintro %_ ⟨Hsb, HSb1, HO⟩
  iapply (sendA2 x w c h 2 (n := 128 * (h.val + 1)) (p := 24 + 6 * h.val + 1 + 1 + 1 + 1) (by omega) (by simp <;> omega) β _ K) $$ [Hsa HRa2 Ha2 HO]
  · iframe HK Hsa HRa2 Ha2 HO
  iintro %_ ⟨Hsa, HSa2, HO⟩
  iapply (sendB2 x w c h 2 (n := 128 * (h.val + 1)) (p := 24 + 6 * h.val + 1 + 1 + 1 + 1 + 1) (by omega) (by simp <;> omega) β _ K) $$ [Hsb HRb2 Hb2 HO]
  · iframe HK Hsb HRb2 Hb2 HO
  iintro %_ ⟨Hsb, HSb2, HO⟩
  rw [show 24 + 6 * (h.val + 1) = 24 + 6 * h.val + 1 + 1 + 1 + 1 + 1 + 1 from by omega]
  iapply Hk
  iframe HP HY Hsa Hsb HO HA0 HA1 HA2 HB0 HB1 HB2 HSa0 HSa1 HSa2 HSb0 HSb1 HSb2 HT

theorem tr_phase2 : Tr (landV x w) c iprop((saB x w c 512 ∗ sbB x w c 512 ∗ taB x w c (128 * h.val) ∗ tbB x w c (128 * h.val) ∗ Ow c (48 + 2 * h.val)) ∗ S5 c h)
    (phase2 c h) (fun _ => iprop((saB x w c 512 ∗ sbB x w c 512 ∗ taB x w c (128 * (h.val + 1)) ∗ tbB x w c (128 * (h.val + 1)) ∗ Ow c (48 + 2 * (h.val + 1))) ∗ S6 c h)) := by
  intro β k K
  unfold phase2
  simp only [bind_assoc]
  unfold S5 S6 sntA2 sntB2 wtdA2 wtdB2 Go
  iintro ⟨#HK, ⟨Hsa, Hsb, Hta, Htb, HO⟩, HW, ⟨⟨HSa0, HSa1, HSa2⟩, HSb0, HSb1, HSb2⟩, ⟨HR3, Hl3⟩, HR3', Hl3'⟩ Hk
  iapply (tr_blkSaOwn x w c h (n := 512) (by omega) β _ K) $$ [Hsa]
  · iframe HK Hsa
  iintro %a0 ⟨%ha0, Hsa⟩
  iapply (tr_blkSbOwn x w c h (n := 512) (by omega) β _ K) $$ [Hsb]
  · iframe HK Hsb
  iintro %b0 ⟨%hb0, Hsb⟩
  iapply (tr_acc (p := 48 + 2 * h.val) (okA2 x w h 0) (by simp; omega) a0 β _ K) $$ [HSa0 HO]
  · iframe HK HSa0 HO
  iintro %a1 ⟨%ha1, HWa0, HO⟩
  iapply (tr_acc (p := 48 + 2 * h.val) (okB2 x w h 0) (by simp; omega) b0 β _ K) $$ [HSb0 HO]
  · iframe HK HSb0 HO
  iintro %b1 ⟨%hb1, HWb0, HO⟩
  iapply (tr_acc (p := 48 + 2 * h.val) (okA2 x w h 1) (by simp; omega) a1 β _ K) $$ [HSa1 HO]
  · iframe HK HSa1 HO
  iintro %a2 ⟨%ha2, HWa1, HO⟩
  iapply (tr_acc (p := 48 + 2 * h.val) (okB2 x w h 1) (by simp; omega) b1 β _ K) $$ [HSb1 HO]
  · iframe HK HSb1 HO
  iintro %b2 ⟨%hb2, HWb1, HO⟩
  iapply (tr_acc (p := 48 + 2 * h.val) (okA2 x w h 2) (by simp; omega) a2 β _ K) $$ [HSa2 HO]
  · iframe HK HSa2 HO
  iintro %a3 ⟨%ha3, HWa2, HO⟩
  iapply (tr_acc (p := 48 + 2 * h.val) (okB2 x w h 2) (by simp; omega) b2 β _ K) $$ [HSb2 HO]
  · iframe HK HSb2 HO
  iintro %b3 ⟨%hb3, HWb2, HO⟩
  rw [show shapeCast (Sh2 64) a3 rfl = taV x w h c from by rw [ha3, ha2, ha1, ha0]; rfl, show shapeCast (Sh2 64) b3 rfl = tbV x w h c from by rw [hb3, hb2, hb1, hb0]; rfl]
  iapply (putTa x w c h β _ K) $$ [Hta]
  · iframe HK Hta
  iintro %_ Hta
  iapply (putTb x w c h β _ K) $$ [Htb]
  · iframe HK Htb
  iintro %_ Htb
  iapply (tr_first (okA3 x w h) (tr_blkTa x w c h (n := 128 * (h.val + 1)) (by omega)) (by show a3v x w h (xPt (xPt c)) = _; rw [xPt_xPt]) β _ K) $$ [Hta HR3 Hl3 HO]
  · iframe HK Hta HR3 Hl3 HO
  iintro %_ ⟨Hta, HS3, HO⟩
  iapply (tr_first (okB3 x w h) (tr_blkTb x w c h (n := 128 * (h.val + 1)) (by omega)) (by show b3v x w h (xPt (xPt c)) = _; rw [xPt_xPt]) β _ K) $$ [Htb HR3' Hl3' HO]
  · iframe HK Htb HR3' Hl3'
    rw [show 49 + 2 * h.val = 48 + 2 * h.val + 1 from by omega]
    iframe HO
  iintro %_ ⟨Htb, HS3', HO⟩
  rw [show 49 + 2 * h.val + 1 = 48 + 2 * (h.val + 1) from by omega]
  iapply Hk
  iframe Hsa Hsb Hta Htb HO HW HWa0 HWa1 HWa2 HWb0 HWb1 HWb2 HS3 HS3'

theorem outA (q : S32x1024.Idx) (j : (Sh2 32).Idx) (h0 : (q 0).val = (j 0).val) (h1 : (q 1).val = 128 * h.val + (j 1).val) : outF x w c q = gate (yaV x w h c) j := by
  have hj : (j 1).val < 128 := (j 1).isLt
  unfold outF
  rw [dif_pos (by omega)]
  exact cols_at _ h _ j h0 h1
theorem outB' (q : S32x1024.Idx) (j : (Sh2 32).Idx) (h0 : (q 0).val = (j 0).val) (h1 : (q 1).val = 512 + 128 * h.val + (j 1).val) : outF x w c q = gate (ybV x w h c) j := by
  unfold outF
  rw [dif_neg (by omega)]
  exact cols_at _ h _ j h0 (by show (q 1).val - 512 = _; omega)

theorem tr_tail : Tr (landV x w) c iprop((taB x w c 512 ∗ tbB x w c 512 ∗ outB x w c (128 * h.val) (128 * h.val) ∗ Ow c 56) ∗ S6 c h)
    (tail c h) (fun _ => iprop((taB x w c 512 ∗ tbB x w c 512 ∗ outB x w c (128 * (h.val + 1)) (128 * (h.val + 1)) ∗ Ow c 56) ∗ S7 c h)) := by
  intro β k K
  unfold tail
  simp only [bind_assoc]
  unfold S6 S7
  iintro ⟨#HK, ⟨Hta, Htb, Ho, HO⟩, HW, HW2, HS3, HS3'⟩ Hk
  rw [← bind_assoc]
  iapply (tr_take (okA3 x w h) c 56 (by omega) β _ K) $$ [HS3 HO]
  · iframe HK HS3 HO
  iintro %u ⟨%hu, HW3, -, HO⟩
  iapply (tr_blkTaOwn x w c h (n := 512) (by omega) β _ K) $$ [Hta]
  · iframe HK Hta
  iintro %v ⟨%hv, Hta⟩
  rw [← bind_assoc]
  iapply (tr_take (okB3 x w h) c 56 (by omega) β _ K) $$ [HS3' HO]
  · iframe HK HS3' HO
  iintro %u' ⟨%hu', HW3', -, HO⟩
  iapply (tr_blkTbOwn x w c h (n := 512) (by omega) β _ K) $$ [Htb]
  · iframe HK Htb
  iintro %v' ⟨%hv', Htb⟩
  rw [hu, hv, hu', hv']
  unfold outB
  iapply (tr_putAt mO _ _ _ _ c (fun q => (q 1).val < 128 * h.val ∨ (512 ≤ (q 1).val ∧ (q 1).val < 512 + 128 * h.val)) (fun q => (q 1).val < 128 * (h.val + 1) ∨ (512 ≤ (q 1).val ∧ (q 1).val < 512 + 128 * h.val)) _ (fun q j h0 h1 => outA x w c h q j h0 h1) (fun q hq => by omega) β _ K) $$ [Ho]
  · iframe HK Ho
  iintro %_ Ho
  iapply (tr_putAt mO _ _ _ _ c (fun q => (q 1).val < 128 * (h.val + 1) ∨ (512 ≤ (q 1).val ∧ (q 1).val < 512 + 128 * h.val)) (fun q => (q 1).val < 128 * (h.val + 1) ∨ (512 ≤ (q 1).val ∧ (q 1).val < 512 + 128 * (h.val + 1))) _ (fun q j h0 h1 => outB' x w c h q j h0 h1) (fun q hq => by omega) β _ K) $$ [Ho]
  · iframe HK Ho
  iintro %_ Ho
  iapply Hk
  iframe Hta Htb Ho HO HW HW2 HW3 HW3'
end Mid

end Cert.Proof.K

end
-- ==== Proof.Run.Main.lean ====
/- The whole body on one device: the greeting, the products, the moves, then the loops. -/
module

public import proofs.«01_k».proof.Proof.Run.Loops

@[expose] public section

noncomputable section

namespace Cert.Proof.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → Vec F S1024x32 .f32) (w : Dev nD → Vec F S32x1024 .f32)
variable {Vl : (k : Fin 6) → (i : Fin (lane k).n) → Dev nD → Vec F (Sh2 (lane k).r) .f32}

/-! ## The greeting and the barrier -/

/-- What a device needs of the barrier's cells. -/
def barR (c : Dev nD) : sProp 𝕄 :=
  iprop(atPos ER (barCell c) 0 ∅ 0 ∗ dutyTok ER (barCell (zDn c)) 0 0 ∗ dutyTok ER (barCell (yDn c)) 0 1 ∗ dutyTok ER (barCell (xPt c)) 0 2
    ∗ cred (tallyAt (barCell c) () 3))

theorem tr_greet (c : Dev nD) :
    Tr Vl c iprop((∃ W, owes (c : Thread nD τ) (O₀ c) W) ∗ dutyTok ER (barCell (zDn c)) 0 0 ∗ dutyTok ER (barCell (yDn c)) 0 1 ∗ dutyTok ER (barCell (xPt c)) 0 2
        ∗ barPay (zDn c) 0 ∗ barPay (yDn c) 1 ∗ barPay (xPt c) 2)
      (greet c) (fun _ => Ow c 0) := by
  intro β k K
  unfold greet Ow
  rw [← xPt'_eq]
  simp only [semSignalWord, Prog.lift, Prog.bind_op, Prog.bind_ret]
  iintro ⟨#HK, ⟨%W, HO⟩, Ht0, Ht1, Ht2, Hp0, Hp1, Hp2⟩ Hk
  ihave H0 := (known_bar Vl (zDn c)) $$ HK
  ihave H1 := (known_bar Vl (yDn c)) $$ HK
  ihave H2 := (known_bar Vl (xPt' c)) $$ HK
  unfold cellKnown
  icases H0 with ⟨⟨%κ0, HI0⟩, Hr0⟩
  icases H1 with ⟨⟨%κ1, HI1⟩, Hr1⟩
  icases H2 with ⟨⟨%κ2, HI2⟩, Hr2⟩
  iapply (Rounds.wp_signal 𝒱₀ ER (Rd Vl) (c : Thread nD τ) none (dst := (zDn c : Thread nD τ)) (κ := κ0) (d := 0)
      (by rw [duties_bar]; exact Finset.mem_univ _) ((amount_bar Vl (zDn c) 0).trans (by decide)) ()
      (owed c 0 + tallyAt (barCell (xPt c)) () 1 + tallyAt (barCell (yDn c)) () 1) rfl) $$ [HI0 HO Ht0 Hp0 Hr0]
  · rw [payload_bar]; iframe HI0 HO Ht0 Hp0 Hr0
  iintro HO
  iapply (Rounds.wp_signal 𝒱₀ ER (Rd Vl) (c : Thread nD τ) none (dst := (yDn c : Thread nD τ)) (κ := κ1) (d := 1)
      (by rw [duties_bar]; exact Finset.mem_univ _) ((amount_bar Vl (yDn c) 1).trans (by decide)) ()
      (owed c 0 + tallyAt (barCell (xPt c)) () 1) rfl) $$ [HI1 HO Ht1 Hp1 Hr1]
  · rw [payload_bar]; iframe HI1 HO Ht1 Hp1 Hr1
  iintro HO
  iapply (Rounds.wp_signal 𝒱₀ ER (Rd Vl) (c : Thread nD τ) none (dst := (xPt' c : Thread nD τ)) (κ := κ2) (d := 2)
      (by rw [duties_bar]; exact Finset.mem_univ _) ((amount_bar Vl (xPt' c) 2).trans (by decide)) ()
      (owed c 0) (by rw [xPt'_eq])) $$ [HI2 HO Ht2 Hp2 Hr2]
  · rw [payload_bar]; iframe HI2 HO Ht2 Hp2 Hr2
  iintro HO
  iapply Hk
  iexists W; iexact HO

theorem bar_all (c : Dev nD) : bigSep ((Rd Vl).duties (barCell c) 0 \ ∅) (fun d => (Rd Vl).payload (barCell c) 0 d)
    = iprop(barPay c 0 ∗ barPay c 1 ∗ barPay c 2) := by
  rw [Finset.sdiff_empty, duties_bar, show (Finset.univ : Finset (Fin 3)) = {0, 1, 2} from rfl, bigSep_insert (by decide), bigSep_insert (by decide), bigSep_singleton,
    payload_bar, payload_bar, payload_bar]
  rfl

theorem tr_bar (c : Dev nD) :
    Tr Vl c iprop(atPos ER (barCell c) 0 ∅ 0 ∗ cred (tallyAt (barCell c) () 3) ∗ Ow c 0) (semWaitWord barS 3#32)
      (fun _ => iprop(semVal (barCell c) 0 ∗ Ow c 0 ∗ barPay c 0 ∗ barPay c 1 ∗ barPay c 2)) := by
  intro β k K
  unfold Ow
  simp only [semWaitWord, Prog.lift, Prog.bind_op, Prog.bind_ret]
  iintro ⟨#HK, Ha, Hc, ⟨%W, HO⟩⟩ Hk
  ihave H0 := (known_bar Vl c) $$ HK
  unfold cellKnown
  icases H0 with ⟨⟨%κ, #HI⟩, Hr⟩
  iapply (Rounds.wp_wait_rest_token 𝒱₀ ER (Rd Vl) (c : Thread nD τ) none (κ := κ) (sm := .reg barS) (k' := 3) (w := .semWait barS 3)
      (wpE_semWait_eq 𝒱₀ (c : Thread nD τ) none Set.univ) (Set.mem_univ _) () (O := owed c 0) (W := W) (R := 0) (m := 0) (T := ∅)
      (by rw [expect_bar])) $$ [Hc HO Ha]
  · iframe HI Hc HO Ha
    iapply (mayWait Vl c _ 0 (lv_bar c) (by omega)) $$ HK
  iintro ⟨HO, Ha, -, Hpay⟩
  ihave Hpay := (Entails.of_eq (bar_all c)) $$ Hpay
  imod (Rounds.cell_close ER (Rd Vl) (Set.mem_univ κ) (fun h => h) (R := 0 + 1) (duties_later Vl (barCell c))) $$ [Ha] with Hz
  · iframe HI Ha
  iapply Hk
  iframe Hz Hpay
  iexists _; iexact HO

/-! ## The products and the moves -/

theorem emb_full {s : Shape} (hs : s.rank = 2) (r : Rect s) (h0 : ∀ a, r.off a = 0) (h1 : ∀ a, r.stride a = 1) (j : r.shape.Idx) (a : Fin s.rank) : (r.emb j a).val = (j a).val := by
  rw [Rect.emb_apply, h0, h1]; simp

theorem emb_zero {R C : ℕ} (hi) (j : (⟨2, ![R, C]⟩ : Shape).Idx) :
    (Rect.unit (s := ⟨2, ![R, C]⟩) ![0, 0] (⟨2, ![R, C]⟩ : Shape).size hi).emb j = j := by
  funext a; apply Fin.ext; rw [Rect.emb_apply]; fin_cases a <;> simp

theorem tr_dot (c : Dev nD) (V : Vec F S1024x1024 .f32) :
    Tr Vl c iprop(part mX c (fun _ => True) (x c) ∗ part mW c (fun _ => True) (w c) ∗ part mP c (fun _ => False) (Pv x w c)) dot
      (fun _ => iprop(part mX c (fun _ => True) (x c) ∗ part mW c (fun _ => True) (w c) ∗ PB x w c)) := by
  intro β k K
  unfold dot PB
  simp only [bind_assoc]
  iintro ⟨#HK, HX, HW, HP⟩ Hk
  iapply (tr_load mX c (fun _ => True) _ _ (fun _ => trivial) β _ K) $$ [HX]
  · iframe HK HX
  iintro %v ⟨%hv, HX⟩
  iapply (tr_load mW c (fun _ => True) _ _ (fun _ => trivial) β _ K) $$ [HW]
  · iframe HK HW
  iintro %u ⟨%hu, HW⟩
  iapply (tr_look mP c _ _ _ β _ K) $$ [HP]
  · iframe HK HP
  iintro %_ HP
  have hv' : v = x c := hv.trans (funext fun j => congrArg (x c) (emb_zero (R := 1024) (C := 32) _ j))
  have hu' : u = w c := hu.trans (funext fun j => congrArg (w c) (emb_zero (R := 32) (C := 1024) _ j))
  rw [hv', hu']
  iapply (tr_store mP c (fun _ => False) (fun _ => True) (Pv x w c) _ _ (fun j => congrArg (Pv x w c) (emb_zero (R := 1024) (C := 1024) _ j))
    (fun q _ => .inr ⟨q, emb_zero (R := 1024) (C := 1024) _ q⟩) β k K) $$ [HP]
  · iframe HK HP
  iintro %_ HP
  iapply Hk
  iframe HX HW HP

theorem tr_each {ι : Type} {c : Dev nD} {f : ι → Pg F PUnit} (I : List ι → sProp 𝕄) (t : ∀ i is, Tr Vl c (I (i :: is)) (f i) (fun _ => I is)) :
    ∀ is, Tr Vl c (I is) (each is f) (fun _ => I [])
  | [] => Tr.ret .rfl
  | i :: is => (t i is).seq fun _ => tr_each I t is

/-- Row `q` is one of the block that move `m` writes. -/
def moved (m : Fin 4 × Fin 4 × Fin 2) (q : S1024x512.Idx) : Prop :=
  256 * m.1.val + 64 * m.2.1.val + 32 * m.2.2.val ≤ (q 0).val ∧ (q 0).val < 256 * m.1.val + 64 * m.2.1.val + 32 * m.2.2.val + 32

theorem moves_all : ∀ m, m ∈ moves := by decide

theorem moved_some (q : S1024x512.Idx) : ∃ m ∈ moves, moved m q := by
  have hq : (q 0).val < 1024 := (q 0).isLt
  exact ⟨(⟨(q 0).val / 256, by omega⟩, ⟨(q 0).val / 64 % 4, by omega⟩, ⟨(q 0).val / 32 % 2, by omega⟩), moves_all _, by constructor <;> simp <;> omega⟩

theorem rowOf_moved (m : Fin 4 × Fin 4 × Fin 2) (q : Fin 1024) (r : ℕ) (hr : r < 32) (hq : q.val = 256 * m.1.val + 64 * m.2.1.val + 32 * m.2.2.val + r) :
    (rowOf q).val = 32 * (8 * m.2.1.val + kOf m.2.2 m.1) + r := by
  have e1 : (⟨q.val / 32 % 2, by omega⟩ : Fin 2) = m.2.2 := Fin.ext (by simp; omega)
  have e2 : (⟨q.val / 256, by omega⟩ : Fin 4) = m.1 := Fin.ext (by simp; omega)
  unfold rowOf
  simp only [e1, e2]
  omega

/-- The second staging buffer with the blocks of `rem` still to come. -/
def YBrem (c : Dev nD) (rem : List (Fin 4 × Fin 4 × Fin 2)) : sProp 𝕄 := part mY c (fun q => ∀ m ∈ rem, ¬ moved m q) (Yv x w c)

theorem shapeCast_self {s : Shape} (v : Vec F s .f32) (h : s.ShapeCasts s) : shapeCast s v h = v := by
  funext j; simp [shapeCast, Shape.reshapeEquiv]

theorem move_val (c : Dev nD) (m : Fin 4 × Fin 4 × Fin 2) (hi hi') (j) :
    Yv x w c ((Rect.unit (s := S1024x512) ![256 * m.1.val + 64 * m.2.1.val + 32 * m.2.2.val, 0] ![32, 512] hi).emb j) = Pv x w c ((Rect.unit (s := S1024x1024) ![32 * (8 * m.2.1.val + kOf m.2.2 m.1), 512] ![32, 512] hi').emb j) := by
  have hj0 : (j 0).val < 32 := (j 0).isLt
  refine congrArg (Pv x w c) (funext fun a => Fin.ext ?_)
  fin_cases a
  · refine (rowOf_moved m _ (j 0).val hj0 ?_).trans ?_
    · rw [Rect.emb_apply]; simp
    · rw [Rect.emb_apply]; simp
  · show 512 + ((Rect.emb _ j) 1).val = ((Rect.unit (s := S1024x1024) ![32 * (8 * m.2.1.val + kOf m.2.2 m.1), 512] ![32, 512] hi').emb j 1).val
    rw [Rect.emb_apply, Rect.emb_apply]; simp

theorem move_dom (m : Fin 4 × Fin 4 × Fin 2) (rem : List (Fin 4 × Fin 4 × Fin 2)) (hi) (q : S1024x512.Idx) (hq : ∀ m' ∈ rem, ¬ moved m' q) :
    (∀ m' ∈ m :: rem, ¬ moved m' q) ∨ ∃ j, (Rect.unit (s := S1024x512) ![256 * m.1.val + 64 * m.2.1.val + 32 * m.2.2.val, 0] ![32, 512] hi).emb j = q := by
  by_cases hm : moved m q
  · refine .inr ⟨fun a => ⟨(![(q 0).val - (256 * m.1.val + 64 * m.2.1.val + 32 * m.2.2.val), (q 1).val] : Fin 2 → ℕ) a, ?_⟩, funext fun a => Fin.ext ?_⟩
    · obtain ⟨h1, h2⟩ := hm
      have h3 : (q 1).val < 512 := (q 1).isLt
      fin_cases a <;> simp <;> omega
    · obtain ⟨h1, h2⟩ := hm
      rw [Rect.emb_apply]
      fin_cases a <;> simp <;> omega
  · exact .inl fun m' hm' => by
      rcases List.mem_cons.mp hm' with rfl | h
      · exact hm
      · exact hq m' h

theorem tr_move (c : Dev nD) (m : Fin 4 × Fin 4 × Fin 2) (rem : List (Fin 4 × Fin 4 × Fin 2)) :
    Tr Vl c iprop(PB x w c ∗ YBrem x w c (m :: rem)) (move1 m) (fun _ => iprop(PB x w c ∗ YBrem x w c rem)) := by
  intro β k K
  unfold move1 PB YBrem
  simp only [bind_assoc]
  iintro ⟨#HK, HP, HY⟩ Hk
  iapply (tr_load mP c (fun _ => True) _ _ (fun _ => trivial) β _ K) $$ [HP]
  · iframe HK HP
  iintro %v ⟨%hv, HP⟩
  iapply (tr_look mY c _ _ _ β _ K) $$ [HY]
  · iframe HK HY
  iintro %_ HY
  rw [shapeCast_self]
  iapply (tr_store mY c (fun q => ∀ m' ∈ m :: rem, ¬ moved m' q) (fun q => ∀ m' ∈ rem, ¬ moved m' q) (Yv x w c) _ v (fun j => by rw [hv]; exact move_val x w c m _ _ j) (fun q hq => move_dom m rem _ q hq) β k K) $$ [HY]
  · iframe HK HY
  iintro %_ HY
  iapply Hk
  iframe HP HY

theorem tr_moves (c : Dev nD) : Tr Vl c iprop(PB x w c ∗ part mY c (fun _ => False) (Yv x w c)) (each moves move1) (fun _ => iprop(PB x w c ∗ YB x w c)) := by
  refine Tr.pre ?_ (Tr.post (tr_each (fun rem => iprop(PB x w c ∗ YBrem x w c rem)) (fun m rem => tr_move x w c m rem) moves) fun _ => ?_)
  · refine sep_mono_right (part_mono fun q hq => ?_)
    obtain ⟨m, hm, h⟩ := moved_some q
    exact (hq m hm h).elim
  · exact sep_mono_right (part_mono fun q _ => ⟨fun m hm => absurd hm (by simp), rfl⟩)

/-! ## The whole -/

/-- A strip's slots as the device starts. -/
def slotsR (c : Dev nD) (h : Fin 4) : sProp 𝕄 :=
  iprop((Rdy A1 (at3 h 0) c ∗ Rdy A1 (at3 h 1) c ∗ Rdy A1 (at3 h 2) c) ∗ (Rdy B1 (at3 h 0) c ∗ Rdy B1 (at3 h 1) c ∗ Rdy B1 (at3 h 2) c)
    ∗ (rdyA2 c h ∗ rdyB2 c h) ∗ (Rdy A3 h c ∗ Rdy B3 h c) ∗ ownA2 c h ∗ ownB2 c h)

def e43 : Fin 4 × Fin 3 ≃ Fin 12 where
  toFun p := at3 p.1 p.2
  invFun i := (h3 i, e3 i)
  left_inv p := Prod.ext (h3_at3 p.1 p.2) (e3_at3 p.1 p.2)
  right_inv i := Fin.ext (by simp [h3, e3]; omega)

theorem twelve (f : Fin 12 → sProp 𝕄) : bigSep Finset.univ f = bigSep Finset.univ fun h : Fin 4 => iprop(f (at3 h 0) ∗ f (at3 h 1) ∗ f (at3 h 2)) := by
  rw [bigSep_univ_equiv e43, bigSep_univ_prod]
  refine bigSep_congr fun h _ => ?_
  rw [show (Finset.univ : Finset (Fin 3)) = {0, 1, 2} from rfl, bigSep_insert (by decide), bigSep_insert (by decide), bigSep_singleton]
  rfl

theorem start (c : Dev nD) : iprop(bigSep Finset.univ (slotsR (F := F) c) ∗ barPay c 0 ∗ barPay c 1 ∗ barPay c 2) ⊢ bigSep Finset.univ (S0 c) := by
  unfold barPay
  rw [twelve, twelve]
  rw [← bigSep_sep', ← bigSep_sep', ← bigSep_sep', ← bigSep_sep']
  refine bigSep_mono fun h _ => ?_
  unfold slotsR S0 St Go
  show iprop(_ ∗ _) ⊢ (_ : sProp 𝕄)
  iintro ⟨⟨⟨a0, a1, a2⟩, ⟨b0, b1, b2⟩, r, ⟨r3, r4⟩, o1, o2⟩, ⟨l0, l1, l2⟩, ⟨m0, m1, m2⟩, n3, n4⟩
  iframe a0 a1 a2 b0 b1 b2 r r3 r4 o1 o2 l0 l1 l2 m0 m1 m2 n3 n4

theorem part_none {s : Shape} {D' : s.Idx → Prop} (b : Memref sig .tc .vmem s .f32) (c : Dev nD) (V : Vec F s .f32) (h : ∀ q, ¬ D' q) :
    part b c (fun _ => False) V ⊢ part b c D' V := part_mono fun q hq => (h q hq).elim

theorem out_full (c : Dev nD) : outB x w c (128 * 4) (128 * 4) ⊢ part mO c (fun _ => True) (outF x w c) := by
  unfold outB
  refine part_mono fun q _ => ⟨?_, rfl⟩
  have h1 : (q 1).val < 1024 := (q 1).isLt
  omega

/-- What a device's body starts from: what it owes, its part of the barrier, the landing slots it offers, and its slots and buffers. -/
def bodyP (c : Dev nD) : sProp 𝕄 :=
  iprop((∃ W, owes (c : Thread nD τ) (O₀ c) W) ∗ barR c ∗ (barPay (zDn c) 0 ∗ barPay (yDn c) 1 ∗ barPay (xPt c) 2)
    ∗ bigSep Finset.univ (slotsR c)
    ∗ (part mX c (fun _ => True) (x c) ∗ part mW c (fun _ => True) (w c) ∗ part mO c (fun _ => False) (outF x w c))
    ∗ part mP c (fun _ => False) (Pv x w c) ∗ part mY c (fun _ => False) (Yv x w c)
    ∗ part mSa c (fun _ => False) (saF x w c) ∗ part mSb c (fun _ => False) (sbF x w c) ∗ part mTa c (fun _ => False) (taF x w c) ∗ part mTb c (fun _ => False) (tbF x w c))

/-- And what it ends with: the result block, and everything else as it may be. -/
def bodyQ (c : Dev nD) : sProp 𝕄 :=
  iprop(Ow c 56 ∗ semVal (barCell c) 0
    ∗ bigSep Finset.univ (S7 c)
    ∗ (part mX c (fun _ => True) (x c) ∗ part mW c (fun _ => True) (w c) ∗ part mO c (fun _ => True) (outF x w c))
    ∗ PB x w c ∗ YB x w c ∗ saB x w c 512 ∗ sbB x w c 512 ∗ taB x w c 512 ∗ tbB x w c 512)

theorem tr_body (c : Dev nD) : Tr (landV x w) c (bodyP x w c) (body c) (fun _ => bodyQ x w c) := by
  intro β k K
  unfold body bodyP bodyQ barR
  simp only [bind_assoc]
  iintro ⟨#HK, HO, ⟨Hat, Ht0, Ht1, Ht2, Hcr⟩, ⟨Hp0, Hp1, Hp2⟩, HS, ⟨HX, HW, Hout⟩, HP, HY, Hsa, Hsb, Hta, Htb⟩ Hk
  iapply (tr_greet c β _ K) $$ [HO Ht0 Ht1 Ht2 Hp0 Hp1 Hp2]
  · iframe HK HO Ht0 Ht1 Ht2 Hp0 Hp1 Hp2
  iintro %_ HO
  iapply (tr_dot x w c (Pv x w c) β _ K) $$ [HX HW HP]
  · iframe HK HX HW HP
  iintro %_ ⟨HX, HW, HP⟩
  iapply (tr_bar c β _ K) $$ [Hat Hcr HO]
  · iframe HK Hat Hcr HO
  iintro %_ ⟨Hz, HO, Hp⟩
  ihave HS := (start c) $$ [HS Hp]
  · iframe HS Hp
  iapply (tr_hs (fun n => iprop(PB x w c ∗ Ow c n)) (S0 c) (S1 c) (fun h => loopA x w c h) β _ K) $$ [HP HO HS]
  · iframe HK HP HO HS
  iintro %_ ⟨⟨HP, HO⟩, HS⟩
  iapply (tr_moves x w c β _ K) $$ [HP HY]
  · iframe HK HP HY
  iintro %_ ⟨HP, HY⟩
  iapply (tr_hs (fun n => iprop(YB x w c ∗ Ow c (4 + n))) (S1 c) (S2 c) (fun h => loopB x w c h) β _ K) $$ [HY HO HS]
  · iframe HK HY HO HS
  iintro %_ ⟨⟨HY, HO⟩, HS⟩
  iapply (tr_hs (fun n => iprop(PB x w c ∗ YB x w c ∗ Ow c (8 + 2 * n))) (S2 c) (S3 c) (fun h => tick1 x w c h) β _ K) $$ [HP HY HO HS]
  · iframe HK HP HY HO HS
  iintro %_ ⟨⟨HP, HY, HO⟩, HS⟩
  iapply (tr_hs (fun n => iprop(PB x w c ∗ YB x w c ∗ Ow c (16 + 2 * n))) (S3 c) (S4 c) (fun h => tick2 x w c h) β _ K) $$ [HP HY HO HS]
  · iframe HK HP HY HO HS
  iintro %_ ⟨⟨HP, HY, HO⟩, HS⟩
  iapply (tr_hs (fun n => iprop(PB x w c ∗ YB x w c ∗ saB x w c (128 * n) ∗ sbB x w c (128 * n) ∗ Ow c (24 + 6 * n))) (S4 c) (S5 c) (fun h => tr_phase1 x w c h) β _ K)
    $$ [HP HY Hsa Hsb HO HS]
  · iframe HK HP HY HO HS
    isplitl [Hsa]
    · iapply (show part mSa c (fun _ => False) (saF x w c) ⊢ saB x w c (128 * 0) from part_none _ _ _ fun q hq => Nat.not_lt_zero _ hq) $$ Hsa
    · iapply (show part mSb c (fun _ => False) (sbF x w c) ⊢ sbB x w c (128 * 0) from part_none _ _ _ fun q hq => Nat.not_lt_zero _ hq) $$ Hsb
  iintro %_ ⟨⟨HP, HY, Hsa, Hsb, HO⟩, HS⟩
  iapply (tr_hs (fun n => iprop(saB x w c 512 ∗ sbB x w c 512 ∗ taB x w c (128 * n) ∗ tbB x w c (128 * n) ∗ Ow c (48 + 2 * n))) (S5 c) (S6 c) (fun h => tr_phase2 x w c h) β _ K)
    $$ [Hsa Hsb Hta Htb HO HS]
  · iframe HK Hsa Hsb HO HS
    isplitl [Hta]
    · iapply (show part mTa c (fun _ => False) (taF x w c) ⊢ taB x w c (128 * 0) from part_none _ _ _ fun q hq => Nat.not_lt_zero _ hq) $$ Hta
    · iapply (show part mTb c (fun _ => False) (tbF x w c) ⊢ tbB x w c (128 * 0) from part_none _ _ _ fun q hq => Nat.not_lt_zero _ hq) $$ Htb
  iintro %_ ⟨⟨Hsa, Hsb, Hta, Htb, HO⟩, HS⟩
  iapply (tr_hs (fun n => iprop(taB x w c 512 ∗ tbB x w c 512 ∗ outB x w c (128 * n) (128 * n) ∗ Ow c 56)) (S6 c) (S7 c) (fun h => tr_tail x w c h) β k K)
    $$ [Hta Htb Hout HO HS]
  · iframe HK Hta Htb HO HS
    iapply (show part mO c (fun _ => False) (outF x w c) ⊢ outB x w c (128 * 0) (128 * 0) from part_none _ _ _ fun q hq => by omega) $$ Hout
  iintro %_ ⟨⟨Hta, Htb, Hout, HO⟩, HS⟩
  iapply Hk
  iframe HO Hz HS HX HW HP HY Hsa Hsb Hta Htb
  iapply (out_full x w c) $$ Hout

end Cert.Proof.K

end
-- ==== Proof.Run.Slots.lean ====
/- A device's buffers and semaphores, whole as the launch deals them, and slot by slot as the body uses them. -/
module

public import proofs.«01_k».proof.Proof.Run.Main
public import Idealize.ShloMosaic.Lib.Ring

@[expose] public section

noncomputable section

namespace Cert.Proof.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Families over the slots and the cells -/

theorem overX (Φ : X → sProp 𝕄) : bigSep Finset.univ Φ
    = iprop((bigSep Finset.univ fun i : Fin 12 => Φ ⟨0, i⟩) ∗ (bigSep Finset.univ fun i : Fin 12 => Φ ⟨1, i⟩) ∗ (bigSep Finset.univ fun i : Fin 4 => Φ ⟨2, i⟩)
      ∗ (bigSep Finset.univ fun i : Fin 12 => Φ ⟨3, i⟩) ∗ (bigSep Finset.univ fun i : Fin 12 => Φ ⟨4, i⟩) ∗ (bigSep Finset.univ fun i : Fin 4 => Φ ⟨5, i⟩)) := by
  rw [Pipeline.bigSep_univ_sigma]
  exact bigSep_univ_eq_bigSepL [(0 : Fin 6), 1, 2, 3, 4, 5] (by decide) (by decide) _

theorem overBool {A : Type} [Fintype A] [DecidableEq A] (Φ : A × Bool → sProp 𝕄) : bigSep Finset.univ Φ
    = iprop((bigSep Finset.univ fun a => Φ (a, false)) ∗ (bigSep Finset.univ fun a => Φ (a, true))) := by
  rw [bigSep_univ_prod, ← bigSep_sep']
  refine bigSep_congr fun a _ => ?_
  rw [show (Finset.univ : Finset Bool) = {false, true} from by decide, bigSep_insert (by decide), bigSep_singleton]
  rfl

theorem overOpt {A : Type} [Fintype A] [DecidableEq A] (Φ : Option A → sProp 𝕄) : bigSep Finset.univ Φ
    = iprop(Φ none ∗ (bigSep Finset.univ fun a => Φ (some a))) := by
  rw [show (Finset.univ : Finset (Option A)) = insert none (Finset.univ.map Function.Embedding.some) from by ext a; cases a <;> simp,
    bigSep_insert (by simp), bigSep_map]
  rfl

/-! ## A buffer and its slots -/

/-- The elements of slot `i`. -/
def slotSet {n r : ℕ} (b : Memref sig .tc .vmem (Sh3 n r) .f32) (i : Fin n) : Finset b.view.ty.Idx := (slotR i).set.map b.view.emb

theorem slotSet_eq {n r : ℕ} (b : Memref sig .tc .vmem (Sh3 n r) .f32) (i : Fin n) : (slot b i).view.set = slotSet b i :=
  (slot_set b i).trans (View.set_slice _ _)

theorem slots_disj {n r : ℕ} (b : Memref sig .tc .vmem (Sh3 n r) .f32) (i j : Fin n) (h : i ≠ j) : Disjoint (slotSet b i) (slotSet b j) := by
  unfold slotSet
  rw [Finset.disjoint_map]
  refine Finset.disjoint_left.mpr fun q hi hj => h (Fin.ext ?_)
  have h1 := (Rect.mem_set_unit.mp hi) 0
  have h2 := (Rect.mem_set_unit.mp hj) 0
  simp at h1 h2
  omega

theorem slots_cover {n r : ℕ} (b : Memref sig .tc .vmem (Sh3 n r) .f32) (hb : b.view.set = Finset.univ) :
    Finset.univ.biUnion (slotSet b) = Finset.univ := by
  refine Finset.eq_univ_of_forall fun q => ?_
  have hq : q ∈ b.view.set := by rw [hb]; exact Finset.mem_univ q
  obtain ⟨p, -, rfl⟩ := Finset.mem_map.mp hq
  refine Finset.mem_biUnion.mpr ⟨p 0, Finset.mem_univ _, ?_⟩
  unfold slotSet
  refine Finset.mem_map_of_mem _ (Rect.mem_set_unit.mpr fun a => ?_)
  have h1 : (p 1).val < r := (p 1).isLt
  have h2 : (p 2).val < 128 := (p 2).isLt
  fin_cases a <;> simp <;> omega

/-- All of a buffer at some contents. -/
def any {s : Shape} (b : Memref sig .tc .vmem s .f32) (c : Dev nD) : sProp 𝕄 := iprop(∃ f, b.view.loc (c : Thread nD τ) ↦[Finset.univ]{fullShare} f)
/-- Slot `i` of one at some contents. -/
def anyAt {n r : ℕ} (b : Memref sig .tc .vmem (Sh3 n r) .f32) (c : Dev nD) (i : Fin n) : sProp 𝕄 :=
  iprop(∃ f, b.view.loc (c : Thread nD τ) ↦[slotSet b i]{fullShare} f)

theorem land_eq (l : Lane) (i : Fin l.n) (c : Dev nD) : (land l i c : sProp 𝕄) = anyAt l.rb c i := by
  unfold land anyAt; rw [slotSet_eq]; rfl
theorem sOwn_eq (l : Lane) (i : Fin l.n) (c : Dev nD) : (sOwn l i c : sProp 𝕄) = anyAt l.sb c i := by
  unfold sOwn anyAt; rw [slotSet_eq]; rfl

theorem slots_split {n r : ℕ} (b : Memref sig .tc .vmem (Sh3 n r) .f32) (hb : b.view.set = Finset.univ) (c : Dev nD) :
    any b c ⊢ (bigSep Finset.univ (anyAt b c) : sProp 𝕄) := by
  unfold any
  iintro ⟨%f, H⟩
  iapply ((Entails.of_eq (Ring.pointsTo_blocks (slotSet b) (slots_disj b) (slots_cover b hb) f)).trans
    (bigSep_mono fun i _ => show _ ⊢ anyAt b c i by unfold anyAt; iintro H; iexists f; iexact H)) $$ H

theorem slots_join {n r : ℕ} (b : Memref sig .tc .vmem (Sh3 n r) .f32) (hb : b.view.set = Finset.univ) (c : Dev nD) (i : Fin n) :
    (bigSep Finset.univ (anyAt b c) : sProp 𝕄) ⊢ any b c := by
  have hn : iprop(anyAt b c i) ⊢ (iprop(⌜Nonempty (Buf (Elt F) (b.view.loc (c : Thread nD τ)))⌝ ∗ anyAt b c i) : sProp 𝕄) := by
    unfold anyAt
    iintro ⟨%f, H⟩
    isplitr
    · ipureintro; exact ⟨f⟩
    · iexists f; iexact H
  rw [Idealize.SL.BI.bigSep_univ_at _ i]
  iintro ⟨Hi, Hr⟩
  ihave Hi := hn $$ Hi
  icases Hi with ⟨%hne, Hi⟩
  ihave H := (Entails.of_eq (Idealize.SL.BI.bigSep_univ_at (anyAt (F := F) b c) i).symm) $$ [Hi Hr]
  · iframe Hi Hr
  unfold anyAt any
  iapply (Ring.pointsTo_blocks_join_exists (slotSet b) (slots_disj b) (slots_cover b hb) (Classical.choice hne)) $$ H

theorem part_any {s : Shape} (b : Memref sig .tc .vmem s .f32) (c : Dev nD) (D : s.Idx → Prop) (V : Vec F s .f32) : part b c D V ⊢ any b c := by
  unfold part any
  iintro ⟨%f, -, H⟩
  iexists f; iexact H
theorem any_part {s : Shape} (b : Memref sig .tc .vmem s .f32) (c : Dev nD) (V : Vec F s .f32) : any b c ⊢ part b c (fun _ => False) V := by
  unfold part any
  iintro ⟨%f, H⟩
  iexists f
  isplitr
  · ipureintro; exact fun _ h => h.elim
  · iexact H

/-- The scratch buffers one by one. -/
theorem rest_eq (c : Dev nD) : (Pipeline.scopedRest (Ix := Unit) (Name := ℕ) (U := UU) (Lvl := ℕ) (Val := Elt F) spec0 c : sProp 𝕄)
    = iprop(any mP c ∗ any mY c ∗ any mSa c ∗ any mSb c ∗ any mTa c ∗ any mTb c
      ∗ any A1.sb c ∗ any A1.rb c ∗ any A2.sb c ∗ any A2.rb c ∗ any A3.sb c ∗ any A3.rb c
      ∗ any B1.sb c ∗ any B1.rb c ∗ any B2.sb c ∗ any B2.rb c ∗ any B3.sb c ∗ any B3.rb c) := scopedRest0_eq c

theorem lanes_whole : ∀ k, (lane k).sb.view.set = Finset.univ ∧ (lane k).rb.view.set = Finset.univ
  | 0 | 1 | 2 | 3 | 4 | 5 => ⟨View.set_whole _, View.set_whole _⟩

/-! ## The strips -/

theorem strips_in (c : Dev nD) : iprop((bigSep Finset.univ fun x : X => Rdy (lane x.1) x.2 c) ∗ (bigSep Finset.univ fun i : Fin 12 => land A2 i c)
    ∗ (bigSep Finset.univ fun i : Fin 12 => land B2 i c)) ⊢ (bigSep Finset.univ (slotsR c) : sProp 𝕄) := by
  rw [overX, twelve, twelve, twelve, twelve, twelve, twelve]
  rw [← bigSep_sep', ← bigSep_sep', ← bigSep_sep', ← bigSep_sep', ← bigSep_sep', ← bigSep_sep', ← bigSep_sep']
  refine bigSep_mono fun h _ => ?_
  unfold slotsR rdyA2 rdyB2 ownA2 ownB2
  show iprop(_ ∗ _) ⊢ (_ : sProp 𝕄)
  iintro ⟨⟨⟨a0, a1, a2⟩, ⟨b0, b1, b2⟩, r3, ⟨d0, d1, d2⟩, ⟨e0, e1, e2⟩, r4⟩, ⟨l0, l1, l2⟩, ⟨m0, m1, m2⟩⟩
  iframe a0 a1 a2 b0 b1 b2 r3 r4 d0 d1 d2 e0 e1 e2 l0 l1 l2 m0 m1 m2

theorem strips_out (c : Dev nD) : bigSep Finset.univ (S7 c) ⊢ (bigSep Finset.univ fun x : X => Wtd (lane x.1) x.2 c : sProp 𝕄) := by
  rw [overX, twelve, twelve, twelve, twelve]
  rw [← bigSep_sep', ← bigSep_sep', ← bigSep_sep', ← bigSep_sep', ← bigSep_sep']
  refine bigSep_mono fun h _ => ?_
  unfold S7 wtdA1 wtdB1 wtdA2 wtdB2
  show iprop(_ ∗ _) ⊢ (_ : sProp 𝕄)
  iintro ⟨⟨⟨a0, a1, a2⟩, ⟨d0, d1, d2⟩⟩, ⟨⟨b0, b1, b2⟩, ⟨e0, e1, e2⟩⟩, r3, r4⟩
  iframe a0 a1 a2 b0 b1 b2 r3 r4 d0 d1 d2 e0 e1 e2

end Cert.Proof.K

end
-- ==== Proof.Run.Deal.lean ====
/- The launch's deal: the cells' invariants, the tokens and the credits every device starts with. -/
module

public import proofs.«01_k».proof.Proof.Run.Slots
public import proofs.«01_k».proof.Proof.Gen.KernelIdeal.Launch
public import Idealize.ShloMosaic.Lib.Pipeline.Launch
public import Idealize.ShloMosaic.Lib.Pipeline.Kit

@[expose] public section

noncomputable section

namespace Cert.Proof.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (V : (k : Fin 6) → (i : Fin (lane k).n) → Dev nD → Vec F (Sh2 (lane k).r) .f32)

/-! ## The cells and the tokens -/

/-- The kernel's own semaphores. -/
def osem (y : X × Bool) : SemLoc sig := csem (some y)

theorem semOf_scoped : ∀ (k : Fin 6) (i : Fin (lane k).n),
    (SemLoc.dma (semOf (lane k).ss i)).isScoped (sig := sig) .tc = true ∧ (SemLoc.dma (semOf (lane k).rs i)).isScoped (sig := sig) .tc = true := by decide +kernel
theorem semOf_stage : ∀ (k : Fin 6) (i : Fin (lane k).n) (w : Fin 3) (s : Fin (spec0 w).nbuf),
    semOf (lane k).ss i ≠ (spec0 w).sem s ∧ semOf (lane k).rs i ≠ (spec0 w).sem s := by decide +kernel

theorem ownSemFacts : Pipeline.OwnSemFacts cfg0.spec osem where
  isScoped := fun
    | (⟨k, i⟩, false) => (semOf_scoped k i).1
    | (⟨k, i⟩, true) => (semOf_scoped k i).2
  inj y y' h := Option.some.inj (csem_inj h)
  disj := fun
    | (⟨k, i⟩, false), w, s => fun h => (semOf_stage k i w s).1 (SemLoc.dma.inj h)
    | (⟨k, i⟩, true), w, s => fun h => (semOf_stage k i w s).2 (SemLoc.dma.inj h)

def cellsK : Finset (GSem nD τ sig) := Finset.univ.map ⟨kcell, kcell_inj⟩

/-- A device's own cells' duties: its barrier's three, one of each other cell. -/
abbrev Tk := Fin 3 ⊕ (X × Bool)
def tokOf (ct : Dev nD × Tk) : GSem nD τ sig × ℕ × Fin 3 := match ct.2 with
  | .inl d => (kcell (ct.1, none), 0, d)
  | .inr y => (kcell (ct.1, some y), 0, 0)

theorem tokOf_inj : Function.Injective tokOf := by
  rintro ⟨c, t⟩ ⟨c', t'⟩ h
  rcases t with d | y <;> rcases t' with d' | y'
  · obtain ⟨h1, h2⟩ := Prod.mk.inj h
    have e := congrArg Prod.fst (kcell_inj h1)
    have e2 : d = d' := congrArg Prod.snd h2
    exact Prod.ext e (congrArg Sum.inl e2)
  · exact absurd (congrArg Prod.snd (kcell_inj (Prod.mk.inj h).1)) (by rintro ⟨⟩)
  · exact absurd (congrArg Prod.snd (kcell_inj (Prod.mk.inj h).1)) (by rintro ⟨⟩)
  · have e : (c, some y) = (c', some y') := kcell_inj (Prod.mk.inj h).1
    obtain ⟨e1, e2⟩ := Prod.mk.inj e
    rw [e1, Option.some.inj e2]

def toksK : Finset (GSem nD τ sig × ℕ × Fin 3) := Finset.univ.map ⟨tokOf, tokOf_inj⟩

def u₀ : UU := (initOf (Pipeline.cells cfgs cellOf_inj) (Pipeline.launchToks cfgs cellOf_inj), initOf cellsK toksK)

/-- The tokens of device `c`'s own cells, as minted. -/
def toks (c : Dev nD) : sProp 𝕄 :=
  iprop((bigSep Finset.univ fun d : Fin 3 => dutyTok ER (barCell c) 0 d) ∗ (bigSep Finset.univ fun x : X => dutyTok ER (sCell (lane x.1) x.2 c) 0 0)
    ∗ bigSep Finset.univ fun x : X => dutyTok ER (rCell (lane x.1) x.2 c) 0 0)

def G (c : Dev nD) : sProp 𝕄 :=
  iprop((bigSep Finset.univ fun k : Ky => roundState ER (Rd V) (kcell (c, k)) 0)
    ∗ (bigSep Finset.univ fun k : Ky => reached ER (kcell (c, k)) 0) ∗ (bigSep Finset.univ fun k : Ky => atPos ER (kcell (c, k)) 0 ∅ 0) ∗ toks c)

theorem fund_all : BI.own (ER (initOf cellsK toksK)) ⊢ (|==> bigSep Finset.univ (G V) : sProp 𝕄) := by
  have hX (Φ : GSem nD τ sig → sProp 𝕄) : bigSep cellsK Φ = bigSep Finset.univ fun c : Dev nD => bigSep Finset.univ fun k : Ky => Φ (kcell (c, k)) := by
    unfold cellsK; rw [bigSep_map, bigSep_univ_prod]; rfl
  have hT : bigSep toksK (fun x => (dutyTok ER x.1 x.2.1 x.2.2 : sProp 𝕄)) = bigSep Finset.univ fun c : Dev nD => toks c := by
    unfold toksK; rw [bigSep_map, bigSep_univ_prod]
    refine bigSep_congr fun c _ => ?_
    unfold toks
    rw [bigSep_univ_sum, overBool]
    rfl
  iintro HX
  imod (Rounds.fund ER (Rd V) cellsK toksK) $$ HX with ⟨Hst, Hr, Hat, Htok⟩
  imodintro
  ihave Hst := (Entails.of_eq (hX fun g => roundState ER (Rd V) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  iframe Hst Hr Hat Htok

theorem unscoped_eq (c : Dev nD) : (unscopedSems0 c : sProp 𝕄) = semVal (barCell c) 0 := by
  unfold unscopedSems0; rw [bigSep_eq_bigSepL_of_eq [SemLoc.reg barS] (by decide +kernel) (by decide)]; rfl

/-- Every cell's invariant allocated. -/
theorem core_alloc (c : Dev nD) :
    iprop(Pipeline.ownSems0 (Ix := Unit) (Name := ℕ) (U := UU) (Lvl := ℕ) (Val := Elt F) (τ := τ) osem c ∗ unscopedSems0 c ∗ G V c)
      ⊢ |={Set.univ}=> iprop((bigSep Finset.univ fun k : Ky => cellKnown V (kcell (c, k))) ∗ (bigSep Finset.univ fun k : Ky => atPos ER (kcell (c, k)) 0 ∅ 0) ∗ toks c) := by
  unfold G cellKnown Pipeline.ownSems0
  rw [unscoped_eq, bigSep_sep']
  iintro ⟨Hos, Hus, Hst, Hr, Hat, Htok⟩
  ihave Hv := (Entails.of_eq (overOpt (fun k : Ky => (semVal (kcell (c, k)) 0 : sProp 𝕄))).symm) $$ [Hos Hus]
  · iframe Hus Hos
  imod (show iprop((bigSep Finset.univ fun k : Ky => semVal (kcell (c, k)) 0) ∗ bigSep Finset.univ fun k : Ky => roundState ER (Rd V) (kcell (c, k)) 0)
      ⊢ (|={Set.univ}=> bigSep Finset.univ fun k => iprop(∃ κ : ℕ, cellInv ER (Rd V) κ (kcell (c, k))) : sProp 𝕄) from by
        rw [← bigSep_sep']
        exact (bigSep_mono fun k _ => (Rounds.body_intro ER (Rd V) (kcell (c, k))).trans inv_alloc).trans (bigSep_fupd _ _)) $$ [Hv Hst] with Hinv
  · iframe Hv Hst
  imodintro
  iframe Hinv Hr Hat Htok

/-! ## The tokens dealt to those who pay with them -/

def payToks (c : Dev nD) : sProp 𝕄 :=
  iprop((dutyTok ER (barCell (zDn c)) 0 0 ∗ dutyTok ER (barCell (yDn c)) 0 1 ∗ dutyTok ER (barCell (xPt c)) 0 2)
    ∗ (bigSep Finset.univ fun x : X => dutyTok ER (sCell (lane x.1) x.2 c) 0 0)
    ∗ bigSep Finset.univ fun x : X => dutyTok ER (rCell (lane x.1) x.2 ((lane x.1).tgt x.2 c)) 0 0)

def zE : Dev nD ≃ Dev nD := ⟨zDn, zUp, zUp_zDn, zDn_zUp⟩
def yE : Dev nD ≃ Dev nD := ⟨yDn, yUp, yUp_yDn, yDn_yUp⟩
def xE : Dev nD ≃ Dev nD := ⟨xPt, xPt, xPt_xPt, xPt_xPt⟩

theorem three (Φ : Fin 3 → sProp 𝕄) : bigSep Finset.univ Φ = iprop(Φ 0 ∗ Φ 1 ∗ Φ 2) := bigSep_univ_eq_bigSepL [0, 1, 2] (by decide) (by decide) Φ

theorem recvs_around : (bigSep Finset.univ fun c : Dev nD => (bigSep Finset.univ fun x : X => dutyTok ER (rCell (lane x.1) x.2 c) 0 0 : sProp 𝕄))
    = bigSep Finset.univ fun c : Dev nD => bigSep Finset.univ fun x : X => dutyTok ER (rCell (lane x.1) x.2 ((lane x.1).tgt x.2 c)) 0 0 := by
  rw [Idealize.SL.BI.bigSep_univ_comm, Idealize.SL.BI.bigSep_univ_comm (fun (c : Dev nD) (x : X) => (dutyTok ER (rCell (lane x.1) x.2 ((lane x.1).tgt x.2 c)) 0 0 : sProp 𝕄))]
  refine bigSep_congr fun x _ => ?_
  rw [bigSep_univ_equiv (tgtE x)]
  rfl

theorem toks_around : (bigSep Finset.univ fun c : Dev nD => (toks c : sProp 𝕄)) ⊢ bigSep Finset.univ fun c : Dev nD => payToks c := by
  unfold toks payToks
  simp only [three]
  rw [bigSep_sep', bigSep_sep', bigSep_sep', bigSep_sep', bigSep_sep', bigSep_sep', bigSep_sep', bigSep_sep', recvs_around,
    bigSep_univ_equiv zE (fun c : Dev nD => (dutyTok ER (barCell c) 0 0 : sProp 𝕄)),
    bigSep_univ_equiv yE (fun c : Dev nD => (dutyTok ER (barCell c) 0 1 : sProp 𝕄)),
    bigSep_univ_equiv xE (fun c : Dev nD => (dutyTok ER (barCell c) 0 2 : sProp 𝕄))]
  exact .rfl

/-- All that device `c` has of the protocol but the levels and the credits. -/
def G' (c : Dev nD) : sProp 𝕄 :=
  iprop((bigSep Finset.univ fun ck : Dev nD × Ky => cellKnown V (kcell ck)) ∗ (bigSep Finset.univ fun k : Ky => atPos ER (kcell (c, k)) 0 ∅ 0) ∗ payToks c)

theorem regroup :
    (bigSep Finset.univ fun c : Dev nD => iprop((bigSep Finset.univ fun k : Ky => cellKnown V (kcell (c, k))) ∗ (bigSep Finset.univ fun k : Ky => atPos ER (kcell (c, k)) 0 ∅ 0) ∗ toks c) : sProp 𝕄)
      ⊢ bigSep Finset.univ (G' V) := by
  rw [bigSep_sep', bigSep_sep', ← bigSep_univ_prod (fun ck : Dev nD × Ky => (cellKnown V (kcell ck) : sProp 𝕄))]
  unfold G'
  rw [bigSep_sep', bigSep_sep']
  iintro ⟨#HI, Hat, Htok⟩
  ihave Htk := (toks_around (F := F)) $$ Htok
  iframe Hat Htk
  iapply (BI.bigSep_of_persistent Finset.univ (bigSep Finset.univ fun ck : Dev nD × Ky => (cellKnown V (kcell ck) : sProp 𝕄))) $$ HI

theorem glob : (bigSep Finset.univ fun c => iprop(Pipeline.ownSems0 (Ix := Unit) (Name := ℕ) (U := UU) (Lvl := ℕ) (Val := Elt F) (τ := τ) osem c ∗ unscopedSems0 c ∗ G V c) : sProp 𝕄)
    ⊢ |={Set.univ}=> bigSep Finset.univ (G' V) :=
  ((bigSep_mono fun c _ => core_alloc V c).trans (bigSep_fupd _ _)).trans (BI.fupd_mono (regroup V))

/-! ## The credits -/

theorem rcell_iff (x y : X) (d c : Dev nD) : rCell (lane x.1) x.2 d = rCell (lane y.1) y.2 c ↔ x = y ∧ d = c := by
  constructor
  · intro h
    have e := kcell_inj (a₁ := (d, some (x, true))) (a₂ := (c, some (y, true))) h
    exact ⟨congrArg Prod.fst (Option.some.inj (congrArg Prod.snd e)), congrArg Prod.fst e⟩
  · rintro ⟨rfl, rfl⟩; rfl
theorem bar_iff (d c : Dev nD) : barCell d = barCell c ↔ c = d := ⟨fun h => (congrArg (fun g : GSem nD τ sig => g.1.1) h).symm, fun h => h ▸ rfl⟩
theorem bar_ne_r (x : X) (d c : Dev nD) : barCell d ≠ rCell (lane x.1) x.2 c := fun h => by
  have := kcell_inj (a₁ := (d, none)) (a₂ := (c, some (x, true))) h
  exact absurd (congrArg Prod.snd this) (by rintro ⟨⟩)

theorem owed_bar (d c : Dev nD) : owed d 0 (barCell c) () = 0 := by
  unfold owed
  rw [Finset.sum_apply, Finsupp.finset_sum_apply]
  exact Finset.sum_eq_zero fun x _ => by rw [tallyAt_ne_cell (bar_ne_r x c _)]; rfl

theorem owed_r (y : X) (d c : Dev nD) : owed d 0 (rCell (lane y.1) y.2 c) () = if tgtE y d = c then cr (lane y.1) y.2 else 0 := by
  unfold owed
  rw [Finset.sum_apply, Finsupp.finset_sum_apply, Finset.sum_eq_single y]
  · rw [tallyAt_apply]
    by_cases h : tgtE y d = c
    · rw [if_pos h, if_pos ⟨by rw [← h]; rfl, rfl⟩]
    · rw [if_neg h, if_neg fun h' => h ((rcell_iff y y c _).mp h'.1).2.symm]
  · intro x _ hx
    rw [tallyAt_apply, if_neg fun h' => hx ((rcell_iff y x c _).mp h'.1).1.symm]
  · intro h; exact absurd (Finset.mem_filter.mpr ⟨Finset.mem_univ y, Nat.zero_le _⟩) h

theorem bar_three : ∀ c : Dev nD, (∑ d : Dev nD, ((if xPt d = c then 1 else 0) + (if yDn d = c then 1 else 0) + (if zDn d = c then 1 else 0))) = 3 := by decide +kernel

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, ← bar_three c]
  refine Finset.sum_congr rfl fun d _ => ?_
  unfold O₀
  simp only [Pi.add_apply, Finsupp.add_apply, tallyAt_apply, owed_bar, bar_iff, and_true, Nat.zero_add]

theorem launch_r (y : X) (c : Dev nD) :
    tallyOn (rCell (lane y.1) y.2 c) (launchCredit (Pipeline.owing O₀) 0 (rCell (lane y.1) y.2 c)) = (tallyAt (rCell (lane y.1) y.2 c) () (cr (lane y.1) y.2) : CellTallies nD τ sig Unit) := by
  unfold tallyAt; refine congrArg _ (Finsupp.ext fun u => ?_); cases u
  rw [Pipeline.launchCredit_owing, Finsupp.single_eq_same]
  have e (d : Dev nD) : O₀ d (rCell (lane y.1) y.2 c) () = if d = (tgtE y).symm c then cr (lane y.1) y.2 else 0 := by
    unfold O₀
    rw [Pi.add_apply, Finsupp.add_apply, Pi.add_apply, Finsupp.add_apply, Pi.add_apply, Finsupp.add_apply, owed_r,
      tallyAt_ne_cell (bar_ne_r y _ c).symm, tallyAt_ne_cell (bar_ne_r y _ c).symm, tallyAt_ne_cell (bar_ne_r y _ c).symm]
    simp only [Finsupp.zero_apply, Nat.add_zero, Equiv.eq_symm_apply]
  rw [Finset.sum_congr rfl fun d _ => e d, Finset.sum_ite_eq' Finset.univ ((tgtE y).symm c) fun _ => cr (lane y.1) y.2, if_pos (Finset.mem_univ _)]

/-- The semaphores a device has credit on. -/
def credSem : Option X ↪ SemLoc sig := ⟨fun o => match o with | none => csem none | some x => csem (some (x, true)), by
  rintro (_ | x) (_ | y) h
  · rfl
  · exact absurd (csem_inj h) (by rintro ⟨⟩)
  · exact absurd (csem_inj h) (by rintro ⟨⟩)
  · have := csem_inj h; simp at this; rw [this]⟩

theorem creds (c : Dev nD) :
    (Pipeline.launchCred O₀ c : sProp 𝕄) ⊢ iprop(cred (tallyAt (barCell c) () 3) ∗ bigSep Finset.univ fun x : X => cred (tallyAt (rCell (lane x.1) x.2 c) () (cr (lane x.1) x.2))) := by
  unfold Pipeline.launchCred
  refine (bigSep_subset (M := 𝕄) (Finset.subset_univ (Finset.univ.map credSem))).trans ?_
  rw [bigSep_map (M := 𝕄), overOpt]
  show iprop(cred (tallyOn (barCell c) (launchCredit (Pipeline.owing O₀) 0 (barCell c)))
    ∗ bigSep Finset.univ fun x : X => cred (tallyOn (rCell (lane x.1) x.2 c) (launchCredit (Pipeline.owing O₀) 0 (rCell (lane x.1) x.2 c)))) ⊢ (_ : sProp 𝕄)
  simp only [launch_bar, launch_r]
  exact .rfl

end Cert.Proof.K

end
-- ==== Proof.Run.Launch.lean ====
/- The launch: what a device starts from and ends with. -/
module

public import proofs.«01_k».proof.Proof.Run.Deal

@[expose] public section

noncomputable section

namespace Cert.Proof.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

/-- The blocks of the two arguments that a device is handed. -/
def xin (c : Dev nD) : Vec F S1024x32 .f32 := (win0_0.blk (0 : Fin 1)).view.read (Elt F) (m (win0_0.arr.view.loc (c : Thread nD τ)))
def win (c : Dev nD) : Vec F S32x1024 .f32 := (win0_1.blk (0 : Fin 1)).view.read (Elt F) (m (win0_1.arr.view.loc (c : Thread nD τ)))
/-- What a device's result block holds in the end. -/
def outAt (c : Dev nD) : Vec F S32x1024 .f32 := outF (xin m) (win m) c
abbrev Vm : (k : Fin 6) → (i : Fin (lane k).n) → Dev nD → Vec F (Sh2 (lane k).r) .f32 := landV (xin m) (win m)

/-- What a device's body starts from, but for its buffers. -/
def Start (c : Dev nD) : sProp 𝕄 :=
  iprop(known (Vm m) ∗ (bigSep Finset.univ fun k : Ky => atPos ER (kcell (c, k)) 0 ∅ 0) ∗ payToks c
    ∗ cred (tallyAt (barCell c) () 3) ∗ bigSep Finset.univ fun x : X => cred (tallyAt (rCell (lane x.1) x.2 c) () (cr (lane x.1) x.2)))
abbrev Rest (c : Dev nD) : sProp 𝕄 := Pipeline.scopedRest (Ix := Unit) (Name := ℕ) (U := UU) (Lvl := ℕ) (Val := Elt F) spec0 c
abbrev Own0 (c : Dev nD) : sProp 𝕄 := Pipeline.ownSems0 (Ix := Unit) (Name := ℕ) (U := UU) (Lvl := ℕ) (Val := Elt F) (τ := τ) osem c
def Φ₀ (c : Dev nD) : sProp 𝕄 := iprop(Start m c ∗ Rest c)
def Φ₁ (c : Dev nD) : sProp 𝕄 := iprop(semVal (barCell c) 0 ∗ Own0 c ∗ Rest c)

def dats (_ : Fin 1) (c : Dev nD) : Pipeline.Dat τ (Elt F) Unit ℕ UU ℕ cfg0 c where
  A w := (s₀ m ρ).mem ((cfg0.win w).arr.view.loc (c : Thread nD τ))
  after w _ := match w with
    | ⟨0, _⟩ => xin m c
    | ⟨1, _⟩ => win m c
    | ⟨2, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

/-! ## Entering the body -/

/-- A device's scratch buffers, slot by slot. -/
theorem rest_slots (c : Dev nD) : Rest c ⊢ (iprop((any mP c ∗ any mY c ∗ any mSa c ∗ any mSb c ∗ any mTa c ∗ any mTb c)
    ∗ (bigSep Finset.univ fun x : X => sOwn (lane x.1) x.2 c) ∗ bigSep Finset.univ fun x : X => land (lane x.1) x.2 c) : sProp 𝕄) := by
  have hs (k : Fin 6) : any (lane k).sb c ⊢ (bigSep Finset.univ fun i => sOwn (lane k) i c : sProp 𝕄) := by
    simp only [sOwn_eq]; exact slots_split _ (lanes_whole k).1 c
  have hl (k : Fin 6) : any (lane k).rb c ⊢ (bigSep Finset.univ fun i => land (lane k) i c : sProp 𝕄) := by
    simp only [land_eq]; exact slots_split _ (lanes_whole k).2 c
  refine (Entails.of_eq (rest_eq c)).trans ?_
  rw [overX, overX]
  iintro ⟨HP, HY, Ha, Hb, Hta, Htb, s0, r0, s1, r1, s2, r2, s3, r3, s4, r4, s5, r5⟩
  ihave s0 := (hs 0) $$ s0
  ihave s1 := (hs 1) $$ s1
  ihave s2 := (hs 2) $$ s2
  ihave s3 := (hs 3) $$ s3
  ihave s4 := (hs 4) $$ s4
  ihave s5 := (hs 5) $$ s5
  ihave r0 := (hl 0) $$ r0
  ihave r1 := (hl 1) $$ r1
  ihave r2 := (hl 2) $$ r2
  ihave r3 := (hl 3) $$ r3
  ihave r4 := (hl 4) $$ r4
  ihave r5 := (hl 5) $$ r5
  iframe HP HY Ha Hb Hta Htb s0 s1 s2 s3 s4 s5 r0 r1 r2 r3 r4 r5

theorem slots_rest (c : Dev nD) : (iprop((any mP c ∗ any mY c ∗ any mSa c ∗ any mSb c ∗ any mTa c ∗ any mTb c)
    ∗ (bigSep Finset.univ fun x : X => sOwn (lane x.1) x.2 c) ∗ bigSep Finset.univ fun x : X => land (lane x.1) x.2 c) : sProp 𝕄) ⊢ Rest c := by
  have hs (k : Fin 6) (i : Fin (lane k).n) : (bigSep Finset.univ fun i => sOwn (lane k) i c : sProp 𝕄) ⊢ any (lane k).sb c := by
    simp only [sOwn_eq]; exact slots_join _ (lanes_whole k).1 c i
  have hl (k : Fin 6) (i : Fin (lane k).n) : (bigSep Finset.univ fun i => land (lane k) i c : sProp 𝕄) ⊢ any (lane k).rb c := by
    simp only [land_eq]; exact slots_join _ (lanes_whole k).2 c i
  refine BIBase.Entails.trans ?_ (Entails.of_eq (rest_eq c).symm)
  rw [overX, overX]
  iintro ⟨⟨HP, HY, Ha, Hb, Hta, Htb⟩, ⟨s0, s1, s2, s3, s4, s5⟩, r0, r1, r2, r3, r4, r5⟩
  ihave s0 := (hs 0 (0 : Fin 12)) $$ s0
  ihave s1 := (hs 1 (0 : Fin 12)) $$ s1
  ihave s2 := (hs 2 (0 : Fin 4)) $$ s2
  ihave s3 := (hs 3 (0 : Fin 12)) $$ s3
  ihave s4 := (hs 4 (0 : Fin 12)) $$ s4
  ihave s5 := (hs 5 (0 : Fin 4)) $$ s5
  ihave r0 := (hl 0 (0 : Fin 12)) $$ r0
  ihave r1 := (hl 1 (0 : Fin 12)) $$ r1
  ihave r2 := (hl 2 (0 : Fin 4)) $$ r2
  ihave r3 := (hl 3 (0 : Fin 12)) $$ r3
  ihave r4 := (hl 4 (0 : Fin 12)) $$ r4
  ihave r5 := (hl 5 (0 : Fin 4)) $$ r5
  iframe HP HY Ha Hb Hta Htb s0 s1 s2 s3 s4 s5 r0 r1 r2 r3 r4 r5

/-- The scratch buffers and the protocol's things make what the body starts from. -/
theorem enter (c : Dev nD) : iprop(Φ₀ m c ∗ (∃ W, owes (c : Thread nD τ) (O₀ c) W) ∗ part mX c (fun _ => True) (xin m c) ∗ part mW c (fun _ => True) (win m c)
    ∗ part mO c (fun _ => False) (outAt m c)) ⊢ (iprop(known (Vm m) ∗ bodyP (xin m) (win m) c) : sProp 𝕄) := by
  unfold Φ₀ Start payToks bodyP barR outAt
  rw [overOpt, overBool]
  iintro ⟨⟨⟨HK, ⟨Hb, Hs, Hr⟩, ⟨⟨t0, t1, t2⟩, ts, tr⟩, Hc, Hcr⟩, HR⟩, HO, HX, HW, Hout⟩
  ihave HR := (rest_slots c) $$ HR
  icases HR with ⟨⟨HP, HY, Ha, Hbb, Hta, Htb⟩, So, Ld⟩
  ihave HP := (any_part mP c (Pv (xin m) (win m) c)) $$ HP
  ihave HY := (any_part mY c (Yv (xin m) (win m) c)) $$ HY
  ihave Ha := (any_part mSa c (saF (xin m) (win m) c)) $$ Ha
  ihave Hbb := (any_part mSb c (sbF (xin m) (win m) c)) $$ Hbb
  ihave Hta := (any_part mTa c (taF (xin m) (win m) c)) $$ Hta
  ihave Htb := (any_part mTb c (tbF (xin m) (win m) c)) $$ Htb
  ihave Ld := (Entails.of_eq (overX (fun x : X => (land (lane x.1) x.2 c : sProp 𝕄)))) $$ Ld
  icases Ld with ⟨l0, l1, l2, l3, l4, l5⟩
  ihave Rd := (show iprop((bigSep Finset.univ fun x : X => sOwn (lane x.1) x.2 c) ∗ (bigSep Finset.univ fun x : X => atPos ER (sCell (lane x.1) x.2 c) 0 ∅ 0)
      ∗ (bigSep Finset.univ fun x : X => atPos ER (rCell (lane x.1) x.2 c) 0 ∅ 0) ∗ (bigSep Finset.univ fun x : X => dutyTok ER (sCell (lane x.1) x.2 c) 0 0)
      ∗ (bigSep Finset.univ fun x : X => dutyTok ER (rCell (lane x.1) x.2 ((lane x.1).tgt x.2 c)) 0 0)
      ∗ bigSep Finset.univ fun x : X => cred (tallyAt (rCell (lane x.1) x.2 c) () (cr (lane x.1) x.2)))
      ⊢ (bigSep Finset.univ fun x : X => Rdy (lane x.1) x.2 c : sProp 𝕄) from by
        unfold Rdy; simp only [bigSep_sep']; exact .rfl) $$ [So Hs Hr ts tr Hcr]
  · iframe So Hr ts tr Hcr
    iexact Hs
  ihave Sl := (strips_in c) $$ [Rd l1 l4]
  · iframe Rd
    isplitl [l1]
    · iexact l1
    · iexact l4
  iframe HK HO t0 t1 t2 Hc Sl HX HW Hout HP HY Ha Hbb Hta Htb
  isplitl [Hb]
  · iexact Hb
  unfold barPay
  dsimp only
  rw [zUp_zDn, yUp_yDn, xPt_xPt]
  isplitl [l0]
  · iexact l0
  isplitl [l3]
  · iexact l3
  isplitl [l2]
  · iexact l2
  · iexact l5

/-- And what it ends with gives the scratch buffers and the semaphores back. -/
theorem leave (c : Dev nD) : bodyQ (xin m) (win m) c ⊢ (iprop(Φ₁ c ∗ Ow c 56 ∗ part mX c (fun _ => True) (xin m c) ∗ part mW c (fun _ => True) (win m c)
    ∗ part mO c (fun _ => True) (outAt m c)) : sProp 𝕄) := by
  unfold Φ₁ bodyQ outAt PB YB saB sbB taB tbB
  iintro ⟨HO, Hb, HS, ⟨HX, HW, Hout⟩, HP, HY, Ha, Hbb, Hta, Htb⟩
  ihave HP := (part_any mP c _ _) $$ HP
  ihave HY := (part_any mY c _ _) $$ HY
  ihave Ha := (part_any mSa c _ _) $$ Ha
  ihave Hbb := (part_any mSb c _ _) $$ Hbb
  ihave Hta := (part_any mTa c _ _) $$ Hta
  ihave Htb := (part_any mTb c _ _) $$ Htb
  ihave HS := (strips_out c) $$ HS
  ihave HS := (show (bigSep Finset.univ fun x : X => Wtd (lane x.1) x.2 c : sProp 𝕄) ⊢ iprop((bigSep Finset.univ fun x : X => sOwn (lane x.1) x.2 c)
      ∗ (bigSep Finset.univ fun x : X => land (lane x.1) x.2 c) ∗ (bigSep Finset.univ fun x : X => semVal (sCell (lane x.1) x.2 c) 0)
      ∗ (bigSep Finset.univ fun x : X => semVal (rCell (lane x.1) x.2 c) 0)) from by
        unfold Wtd; simp only [bigSep_sep']; exact .rfl) $$ HS
  icases HS with ⟨So, Ld, Vs, Vr⟩
  iframe Hb HO HX HW Hout
  isplitl [Vs Vr]
  · iapply (show iprop((bigSep Finset.univ fun x : X => semVal (sCell (lane x.1) x.2 c) 0) ∗ (bigSep Finset.univ fun x : X => semVal (rCell (lane x.1) x.2 c) 0))
      ⊢ (Own0 c : sProp 𝕄) from by unfold Own0 Pipeline.ownSems0; rw [overBool]; exact .rfl)
    iframe Vs Vr
  · iapply (slots_rest c)
    iframe HP HY Ha Hbb Hta Htb So Ld

end Cert.Proof.K

end
-- ==== Proof.Run.Oblig.lean ====
/- The body's obligation and the launch's side conditions. -/
module

public import proofs.«01_k».proof.Proof.Run.Launch

@[expose] public section

noncomputable section

namespace Cert.Proof.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The body's obligation -/

theorem owns_part {s : Shape} (b : Memref sig .tc .vmem s .f32) (hb : b.view.set = Finset.univ) (c : Dev nD) (v : Vec F s .f32) :
    (owns (Ix := Unit) (Name := ℕ) (U := UU) (Lvl := ℕ) (c : Thread nD τ) b fullShare v : sProp 𝕄) = part b c (fun _ => True) v := by
  unfold owns part
  rw [hb]
  refine congrArg _ (funext fun f => ?_)
  congr 2
  exact propext ⟨fun h q _ => congrFun h q, fun h => funext fun q => h q trivial⟩

theorem part_drop {s : Shape} (b : Memref sig .tc .vmem s .f32) (c : Dev nD) (v v' : Vec F s .f32) : part b c (fun _ => True) v ⊢ part b c (fun _ => False) v' :=
  part_mono fun _ h => h.elim

def bodyPre (c : Dev nD) : sProp 𝕄 :=
  iprop(Φ₀ m c ∗ (dats m ρ 0 c).owesAt () t0_0.castSucc
    ∗ (∃ d, owns (c : Thread nD τ) mX fullShare ((dats m ρ 0 c).before (0 : Fin 3) t0_0 d))
    ∗ (∃ d, owns (c : Thread nD τ) mW fullShare ((dats m ρ 0 c).before (1 : Fin 3) t0_0 d))
    ∗ (∃ d, owns (c : Thread nD τ) mO fullShare ((dats m ρ 0 c).before (2 : Fin 3) t0_0 d)))
def bodyPost (c : Dev nD) : sProp 𝕄 :=
  iprop(Φ₁ c ∗ (dats m ρ 0 c).owesAt () t0_0.succ ∗ owns (c : Thread nD τ) mX fullShare (xin m c) ∗ owns (c : Thread nD τ) mW fullShare (win m c)
    ∗ owns (c : Thread nD τ) mO fullShare (outAt m c))

theorem before_x (c : Dev nD) (d) : (dats m ρ 0 c).before (0 : Fin 3) t0_0 d = xin m c := by unfold Pipeline.Dat.before; rw [if_pos (fetch0_0 _)]; rfl
theorem before_w (c : Dev nD) (d) : (dats m ρ 0 c).before (1 : Fin 3) t0_0 d = win m c := by unfold Pipeline.Dat.before; rw [if_pos (fetch0_1 _)]; rfl

theorem wp_dev {α : Type} (c : Dev nD) (k : Dev nD → Pg F α) (K : α → sProp 𝕄) : WP c (k c) K ⊢ WP c (Prog.lift .deviceId >>= k) K := by
  unfold WP
  simp only [Prog.lift, Prog.bind_op, Prog.bind_ret, wp_deviceId]
  exact .rfl

theorem wp_end {α : Type} {V : (k : Fin 6) → (i : Fin (lane k).n) → Dev nD → Vec F (Sh2 (lane k).r) .f32} {c : Dev nD} {P : sProp 𝕄} {a : Pg F α} {Q : α → sProp 𝕄}
    (h : Tr V c P a Q) : iprop(known V ∗ P) ⊢ WP c a Q := by
  have h' := h α (fun v => Prog.ret v) Q
  rw [show (a >>= fun v => Prog.ret v) = a from bind_pure a] at h'
  iintro H
  iapply h' $$ H
  iintro %v HQ
  unfold WP
  rw [wp_ret]
  imodintro
  iexact HQ

theorem run_body (c : Dev nD) : iprop(known (Vm m) ∗ bodyP (xin m) (win m) c) ⊢ WP c (bodyAt0 (F := F) t0_0) fun _ => bodyQ (xin m) (win m) c := by
  rw [body_eq]
  exact (wp_end (tr_body (xin m) (win m) c)).trans (wp_dev c body _)

theorem pre_enter (c : Dev nD) : bodyPre m ρ c ⊢ iprop(known (Vm m) ∗ bodyP (xin m) (win m) c) := by
  unfold bodyPre Pipeline.Dat.owesAt Pipeline.owesWithin
  simp only [before_x, before_w]
  rw [owns_part mX (View.set_whole _), owns_part mW (View.set_whole _)]
  iintro ⟨HΦ, ⟨%W, -, HO⟩, ⟨%d0, HX⟩, ⟨%d1, HW⟩, ⟨%d2, Hout⟩⟩
  ihave Hout := (Entails.of_eq (owns_part mO (View.set_whole _) c _)) $$ Hout
  ihave Hout := (part_drop mO c _ (outAt m c)) $$ Hout
  iapply (enter m c)
  iframe HΦ HX HW Hout
  iexists W; iexact HO

theorem leave_post (c : Dev nD) : bodyQ (xin m) (win m) c ⊢ bodyPost m ρ c := by
  refine (leave m c).trans ?_
  unfold bodyPost Pipeline.Dat.owesAt Pipeline.owesWithin Ow
  rw [owns_part mX (View.set_whole _), owns_part mW (View.set_whole _), owns_part mO (View.set_whole _), owed_all]
  iintro ⟨HΦ, ⟨%W, HO⟩, HX, HW, Hout⟩
  iframe HΦ HX HW Hout
  iexists W
  isplitr
  · ipureintro; exact fun _ _ => Or.inl trivial
  · iexact HO

theorem sound_body (c : Dev nD) : bodyPre m ρ c ⊢ WP c (bodyAt0 (F := F) t0_0) fun _ => bodyPost m ρ c :=
  (pre_enter m ρ c).trans ((run_body m c).trans (wp_mono _ _ _ fun _ => leave_post m ρ c))

set_option maxRecDepth 100000 in
theorem body_obligation (c : Dev nD) : Pipeline.BodyObligation (dats (F := F) m ρ 0 c) (defs₀ (F := F)) 𝒱₀ () Set.univ := fun t => by
  rw [fin_N0 t]
  rw [show ∀ Φ : Fin cfg0.W → sProp 𝕄, bigSep Finset.univ Φ = iprop(Φ (0 : Fin 3) ∗ Φ (1 : Fin 3) ∗ Φ (2 : Fin 3)) from bigSep_W0, bigSep_W0]
  exact sound_body m ρ c

/-! ## The launch's side conditions -/

theorem share_eq (c : Dev nD) (w : Fin cfg0.W) : (dats m ρ 0 c).share w = fullShare := by unfold Pipeline.Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (Vm m) c) ⊢ |={Set.univ}=> iprop(Start m c ∗ emp) := by
  iintro ⟨-, Hlev, Hcr, -, HG⟩
  ihave Hc := (creds (F := F) c) $$ Hcr
  icases Hc with ⟨H1, HN⟩
  imodintro
  unfold Start G' known
  icases HG with ⟨HI, Hat, Ht⟩
  iframe Hlev H1 HN HI Hat Ht

theorem phi0_intro (c : Dev nD) :
    iprop(Start m c ∗ Pipeline.prefHeld Pipeline.Prefetch.none c (fun _ => fullShare.right) (fun k => k.elim0) ∗ Pipeline.scopedRest cfg0.spec c)
      ⊢ (dats m ρ 0 c).Φ 0 := by
  show _ ⊢ Φ₀ m c
  unfold Φ₀
  iintro ⟨Hs, -, Hr⟩
  iframe Hs Hr

theorem phi1_exit (c : Dev nD) :
    (dats m ρ 0 c).Φ (Fin.last cfg0.N) ⊢ iprop(unscopedSems0 c ∗ Pipeline.ownSems0 osem c ∗ Pipeline.scopedRest cfg0.spec c) := by
  show Φ₁ c ⊢ _
  rw [unscoped_eq]
  exact .rfl

theorem csem_stage : ∀ (w : Fin cfg0.W) (s : Fin (spec0 w).nbuf), SemLoc.dma ((spec0 w).sem s) ≠ .reg barS ∧ ∀ (k : Fin 6) (i : Fin (lane k).n),
    (SemLoc.dma ((spec0 w).sem s) : SemLoc sig) ≠ .dma (semOf (lane k).rs i) := by decide +kernel

theorem lv_stage (c : Dev nD) (w : Fin cfg0.W) (s : Fin (spec0 w).nbuf) : lv ((c : Thread nD τ), .dma ((spec0 w).sem s)) () = 0 := by
  unfold lv
  split
  · rename_i h
    exact absurd ((Function.partialInv_of_injective csem_inj _ _).mp h).symm (csem_stage w s).1
  · rename_i x h
    exact absurd ((Function.partialInv_of_injective csem_inj _ _).mp h).symm ((csem_stage w s).2 x.1 x.2)
  · rfl

theorem mayWait_stage (c : Dev nD) (w : Fin cfg0.W) (s : Fin (spec0 w).nbuf) (O : CellTallies nD τ sig Unit) (hO : O = O₀ c ∨ O = 0) :
    (levAts L lv : sProp 𝕄) ⊢ MayWait (c : Thread nD τ) (.dma ((spec0 w).sem s)) () O := by
  rcases hO with rfl | rfl
  · exact MayOwe.of_cut (L := L) (lev := lv) 0 (fun q hq => by rw [Finset.mem_singleton.mp hq, L_tc]; exact Finset.mem_singleton_self _)
      (fun g u hg => by obtain ⟨d, h, -, -⟩ := O₀_pos hg; rw [h]; exact Finset.mem_singleton_self _)
      (fun q hq => by rw [Finset.mem_singleton.mp hq, lv_stage])
      (fun g u hg => by obtain ⟨d, -, h, -⟩ := O₀_pos hg; exact h)
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t => mayWait_stage c w s _ (by
    rcases t with ⟨_ | _, ht⟩
    · exact Or.inl rfl
    · exact Or.inr rfl)

end Cert.Proof.K

end
-- ==== Proof.Run.Whole.lean ====
/- The run of the whole program. -/
module

public import proofs.«01_k».proof.Proof.Run.Oblig
public import Idealize.ShloMosaic.Lib.Pipeline.CollectiveSegs

@[expose] public section

noncomputable section

namespace Cert.Proof.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The run -/

def QC : PUnit × MemSt nD τ sig (Elt F) → Prop := fun r =>
  ∀ (c : Dev nD) (w : Fin cfg0.W), r.2.mem ((cfg0.win w).arr.view.loc (c : Thread nD τ)) = (dats m ρ 0 c).arrAt w cfg0.N

set_option maxRecDepth 100000 in
/-- On any float values and from any memory: every device runs to the end, the arrays hold what is computed, and every semaphore is at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (Vm m)) (G' := G' (Vm m)) (u₀ := u₀)
    (hu₀ := by
      unfold u₀
      iintro Hu
      ihave H := (ownU_pair _ _) $$ Hu
      icases H with ⟨HP, HX⟩
      imod (fund_all (Vm m)) $$ HX with HG
      imodintro
      isplitl [HP] <;> iassumption)
    (hglob := glob (Vm m))
    (hA := fun _ _ => rfl) (hpf := fun _ k => k.elim0)
    (X := Start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Proof.K

end
-- ==== Proof.Frames.lean ====
/- The two programs run, keep their arguments and leave every semaphore at zero. -/
module

public import proofs.«01_k».proof.Defs
public import proofs.«01_k».proof.Proof.Run.Whole
public import proofs.«01_k».proof.Proof.Gen.Kernel
public import Idealize.ShloMosaic.Lib.Pipeline.Regions

@[expose] public section

noncomputable section

namespace Cert.Proof.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- On any values: the arguments unchanged, and every semaphore at zero. -/
theorem frame_any {F : FTy → Type} [FloatOps F] (m : (ℓ : Loc nD τ sig) → Buf (Elt F) ℓ) (ρ : Dev nD → PrngReg) :
    θ_run (Cert.KernelIdeal.defs (F := F)) (onTc (τ := τ) (main (F := F))) ⟨m, fun _ => 0, ρ⟩ (fun r => (∀ c : Dev nD,
      r.2.mem ((c : Thread nD τ).loc main_arg0) = m ((c : Thread nD τ).loc main_arg0) ∧ r.2.mem ((c : Thread nD τ).loc main_arg1) = m ((c : Thread nD τ).loc main_arg1))
      ∧ r.2.sem = fun _ => 0) :=
  (θ_run Cert.KernelIdeal.defs _ _).mono (fun _ h => ⟨fun c => ⟨(h.1 c (0 : Fin 3)).trans ((dats m ρ 0 c).arrAt_in (0 : Fin 3) rfl _),
    (h.1 c (1 : Fin 3)).trans ((dats m ρ 0 c).arrAt_in (1 : Fin 3) rfl _)⟩, h.2⟩) (run_main (F := F) m ρ)

theorem frame_ideal : Cert.quiescent_KernelIdeal := fun m ρ _ => frame_any m ρ

set_option maxRecDepth 100000 in
/-- The two programs are the same text. -/
theorem defs_same : Cert.Kernel.defs (F := Bits) = Cert.KernelIdeal.defs (F := Bits) := by chain_rfl

theorem frame_kernel : Cert.quiescent_Kernel := fun m ρ _ => by
  rw [defs_same]
  exact frame_any (F := Bits) m ρ

end Cert.Proof.K

end
-- ==== Proof.RefFrame.lean ====
/- The reference runs, keeps its arguments, and has no semaphore. -/
module

public import proofs.«01_k».proof.Defs
public import proofs.«01_k».proof.Proof.Gen.ReferenceIdeal.Run
public import Idealize.ShloMosaic.Lib.Quiescent

@[expose] public section

noncomputable section

namespace Cert.Proof.Ref

open Idealize.ShloMosaic Idealize.SL.Sem

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof.Ref

end
-- ==== Proof.Value.Total.lean ====
/- Each result row, before the gate, is the sum of the 32 devices' partial rows: the three stages of either half
   add, over the extended reals, every device's row once. -/
module

public import proofs.«01_k».proof.Proof.Run.Loops
public import Idealize.ShloMosaic.Lib.ValueIdx
public import Idealize.ShloMosaic.Lib.Pipeline.Value

@[expose] public section

noncomputable section

namespace Cert.Proof.K

open Idealize.ShloMosaic Idealize.ShloMosaic.TcCoe Idealize.SL.Sem Cert.KernelIdeal Cert.KernelIdeal.Gen
open scoped BigOperators

/-! ## The devices, in the order the sums meet them -/

/-- The four devices of a line along `z`, and of one along `y`, in the order a chain adds them. -/
def zLine (c : Dev nD) : List (Dev nD) := [zDn c, zDn (zDn c), zDn (zDn (zDn c)), c]
def yLine (c : Dev nD) : List (Dev nD) := [yDn c, yDn (yDn c), yDn (yDn (yDn c)), c]
/-- The same lines, in the order the second stage adds them. -/
def yStar (c : Dev nD) : List (Dev nD) := [c, yAt 2 c, yAt 1 c, yAt 0 c]
def zStar (c : Dev nD) : List (Dev nD) := [c, zAt 2 c, zAt 1 c, zAt 0 c]

/-- All devices, as the left half's three stages meet them. -/
def devsA (c : Dev nD) : List (Dev nD) := ([xPt c, c].flatMap yStar).flatMap zLine
/-- All devices, as the right half's three stages meet them. -/
def devsB (c : Dev nD) : List (Dev nD) := ([xPt c, c].flatMap zStar).flatMap yLine

theorem devsA_perm : ∀ c, (devsA c).Perm (List.finRange 32) := by decide +kernel
theorem devsB_perm : ∀ c, (devsB c).Perm (List.finRange 32) := by decide +kernel

/-- A sum in the order of such a list is the sum over the devices. -/
theorem sum_devs {l : List (Dev nD)} (hl : l.Perm (List.finRange 32)) (g : Dev nD → EReal) : (l.map g).sum = ∑ d : Fin 32, g d := by
  rw [(hl.map g).sum_eq]
  exact (Fin.sum_univ_def g).symm

/-! ## Blocks read at a row -/

section Rows
variable {R C r : ℕ} (h : Fin 4)

/-- A block's entry, of the contents it is read from. -/
theorem rd_at (o : Fin 2 → ℕ) (hC : 512 ≤ C) (ho : o 0 + r ≤ R) (f : Vec Ideal ⟨2, ![R, C]⟩ .f32) (q : Fin r) (l : Fin 128)
    (i : Fin R) (j : Fin C) (hi : i.val = o 0 + q.val) (hj : j.val = 128 * h.val + l.val) : rd h o hC ho f (ij q l) = f (ij i j) := by
  unfold rd
  congr 1
  funext a
  fin_cases a <;> apply Fin.ext <;> simp [Rect.emb, ij, hi, hj, Rect.unit, offOf]

/-- A block's entry, of strips side by side. -/
theorem rd_cols (o : Fin 2 → ℕ) (ho : o 0 + r ≤ R) (V : Fin 4 → Vec Ideal (Sh2 R) .f32) (q : Fin r) (l : Fin 128)
    (i : Fin R) (hi : i.val = o 0 + q.val) : rd h o (le_refl 512) ho (cols V) (ij q l) = V h (ij i l) := by
  have hl := l.isLt
  rw [rd_at h o (le_refl 512) ho (cols V) q l i ⟨128 * h.val + l.val, by omega⟩ hi rfl]
  exact cols_at V h _ _ rfl rfl
end Rows

end Cert.Proof.K

end
-- ==== Proof.Value.Left.lean ====
/- The left half: a result row before the gate is the sum of the devices' partial rows. -/
module

public import proofs.«01_k».proof.Proof.Value.Total

@[expose] public section

noncomputable section

namespace Cert.Proof.K

open Idealize.ShloMosaic Idealize.ShloMosaic.TcCoe Idealize.SL.Sem Cert.KernelIdeal Cert.KernelIdeal.Gen
open scoped BigOperators

/-! ## Where each stage's block starts -/

theorem a1_row0 : ∀ c : Dev nD, k0_off1 (zDn (zDn (zDn c))) (tickW 0) 0 = 256 * (c.val / 8) := by decide +kernel
theorem a1_row1 : ∀ c : Dev nD, k0_off1 (zDn (zDn c)) (tickW 1) 0 = 256 * (c.val / 8) := by decide +kernel
theorem a1_row2 : ∀ c : Dev nD, k0_off1 (zDn c) (tickW 2) 0 = 256 * (c.val / 8) := by decide +kernel
theorem a1_own : ∀ c : Dev nD, k0_off9 c 0 = 256 * (c.val / 8) := by decide +kernel
theorem a2_row : ∀ (e : Fin 3) (c : Dev nD), k0_off11 (yAt (2 - e) c) (BitVec.ofNat 32 (1 + e.val)) 0 = 64 * (c.val % 8 / 2) := by decide +kernel
theorem a2_own : ∀ c : Dev nD, k0_off25 c 0 = 64 * (c.val % 8 / 2) := by decide +kernel
theorem a3_row : ∀ c : Dev nD, k0_off27 (xPt c) 0 = 32 * (c.val % 2) := by decide +kernel
theorem a3_own : ∀ c : Dev nD, k0_off41 c 0 = 32 * (c.val % 2) := by decide +kernel
theorem yAt_z : ∀ (e : Fin 3) (c : Dev nD), (yAt e c).val / 8 = c.val / 8 := by decide +kernel
theorem xPt_z : ∀ c : Dev nD, (xPt c).val / 8 = c.val / 8 := by decide +kernel
theorem xPt_y : ∀ c : Dev nD, (xPt c).val % 8 / 2 = c.val % 8 / 2 := by decide +kernel

variable (x : Dev nD → Vec Ideal S1024x32 .f32) (w : Dev nD → Vec Ideal S32x1024 .f32) (h : Fin 4)

/-! ## Each block read at a row -/

section Reads
variable (c : Dev nD)
theorem rdP_at (s : Fin 3) (f : Vec Ideal S1024x1024 .f32) (q : Fin 256) (l : Fin 128) (i j : Fin 1024)
    (hi : i.val = k0_off1 c (tickW s) 0 + q.val) (hj : j.val = 128 * h.val + l.val) : rdP c h s f (ij q l) = f (ij i j) :=
  rd_at h _ (by decide) (k0_off1_inb c ⟨2 - s.val, by omega⟩ 0) f q l i j hi hj
theorem rdPown_at (f : Vec Ideal S1024x1024 .f32) (q : Fin 256) (l : Fin 128) (i j : Fin 1024)
    (hi : i.val = k0_off9 c 0 + q.val) (hj : j.val = 128 * h.val + l.val) : rdPown c h f (ij q l) = f (ij i j) :=
  rd_at h _ (by decide) (k0_off9_inb c 0) f q l i j hi hj
theorem rdSa_at (e : Fin 3) (V : Fin 4 → Vec Ideal (Sh2 256) .f32) (q : Fin 64) (l : Fin 128) (i : Fin 256)
    (hi : i.val = k0_off11 c (BitVec.ofNat 32 (1 + e.val)) 0 + q.val) : rdSa c h e (cols V) (ij q l) = V h (ij i l) :=
  rd_cols h _ (k0_off11_inb c e 0) V q l i hi
theorem rdSaOwn_at (V : Fin 4 → Vec Ideal (Sh2 256) .f32) (q : Fin 64) (l : Fin 128) (i : Fin 256)
    (hi : i.val = k0_off25 c 0 + q.val) : rdSaOwn c h (cols V) (ij q l) = V h (ij i l) := rd_cols h _ (k0_off25_inb c 0) V q l i hi
theorem rdTa_at (V : Fin 4 → Vec Ideal (Sh2 64) .f32) (q : Fin 32) (l : Fin 128) (i : Fin 64)
    (hi : i.val = k0_off27 c 0 + q.val) : rdTa c h (cols V) (ij q l) = V h (ij i l) := rd_cols h _ (k0_off27_inb c 0) V q l i hi
theorem rdTaOwn_at (V : Fin 4 → Vec Ideal (Sh2 64) .f32) (q : Fin 32) (l : Fin 128) (i : Fin 64)
    (hi : i.val = k0_off41 c 0 + q.val) : rdTaOwn c h (cols V) (ij q l) = V h (ij i l) := rd_cols h _ (k0_off41_inb c 0) V q l i hi
end Reads

/-- After the first stage: the sum along `z`. -/
theorem saV_at (c : Dev nD) (q : Fin 256) (l : Fin 128) (i j : Fin 1024) (hi : i.val = 256 * (c.val / 8) + q.val) (hj : j.val = 128 * h.val + l.val) :
    saV x w h c (ij q l) = ((zLine c).map fun d => Pv x w d (ij i j)).sum := by
  unfold saV
  rw [shapeCast_self, ValueIdx.addf_apply]
  rw [rdPown_at h c _ q l i j (by rw [a1_own]; exact hi) hj]
  show (addf (rdP (zDn c) h 2 (Pv x w (zDn c))) (addf (rdP (zDn (zDn c)) h 1 (Pv x w (zDn (zDn c)))) (rdP (zDn (zDn (zDn c))) h 0 (Pv x w (zDn (zDn (zDn c))))))) (ij q l) + _ = _
  rw [ValueIdx.addf_apply, ValueIdx.addf_apply]
  rw [rdP_at h (zDn c) 2 _ q l i j (by rw [a1_row2]; exact hi) hj,
    rdP_at h (zDn (zDn c)) 1 _ q l i j (by rw [a1_row1]; exact hi) hj,
    rdP_at h (zDn (zDn (zDn c))) 0 _ q l i j (by rw [a1_row0]; exact hi) hj]
  simp only [zLine, List.map_cons, List.map_nil, List.sum_cons, List.sum_nil, add_zero, add_assoc]

/-- What the first stage's sums hand to the second. -/
theorem a2v_at (e : Fin 3) (c : Dev nD) (q : Fin 64) (l : Fin 128) (i j : Fin 1024)
    (hi : i.val = 256 * (c.val / 8) + 64 * (c.val % 8 / 2) + q.val) (hj : j.val = 128 * h.val + l.val) :
    a2v x w h e (yAt (2 - e) c) (ij q l) = ((zLine (yAt (2 - e) c)).map fun d => Pv x w d (ij i j)).sum := by
  unfold a2v saF
  rw [rdSa_at h _ e _ q l ⟨64 * (c.val % 8 / 2) + q.val, by omega⟩ (by rw [a2_row])]
  exact saV_at x w h _ _ l i j (by rw [yAt_z]; show _ = _ + (_ + _); omega) hj

/-- After the second stage: the sum over the plane's four lines. -/
theorem taV_at (c : Dev nD) (q : Fin 64) (l : Fin 128) (i j : Fin 1024) (hi : i.val = 256 * (c.val / 8) + 64 * (c.val % 8 / 2) + q.val)
    (hj : j.val = 128 * h.val + l.val) : taV x w h c (ij q l) = (((yStar c).flatMap zLine).map fun d => Pv x w d (ij i j)).sum := by
  unfold taV
  rw [shapeCast_self, ValueIdx.addf_apply, ValueIdx.addf_apply, ValueIdx.addf_apply]
  have e0 := a2v_at x w h 0 c q l i j hi hj
  have e1 := a2v_at x w h 1 c q l i j hi hj
  have e2 := a2v_at x w h 2 c q l i j hi hj
  rw [show (2 : Fin 3) - 0 = 2 from rfl] at e0
  rw [show (2 : Fin 3) - 1 = 1 from rfl] at e1
  rw [show (2 : Fin 3) - 2 = 0 from rfl] at e2
  rw [e0, e1, e2]
  unfold saF
  rw [rdSaOwn_at h c _ q l ⟨64 * (c.val % 8 / 2) + q.val, by omega⟩ (by rw [a2_own]),
    saV_at x w h c _ l i j (by show _ = _ + (_ + _); omega) hj]
  simp only [yStar, List.flatMap_cons, List.flatMap_nil, List.map_append, List.sum_append, List.map_nil, List.sum_nil, add_zero, add_assoc]

/-- After the third stage: the sum over all devices. -/
theorem yaV_at (c : Dev nD) (q : Fin 32) (l : Fin 128) (i j : Fin 1024) (hi : i.val = 32 * c.val + q.val) (hj : j.val = 128 * h.val + l.val) :
    yaV x w h c (ij q l) = ∑ d : Fin 32, Pv x w d (ij i j) := by
  rw [← sum_devs (devsA_perm c) fun d => Pv x w d (ij i j)]
  unfold yaV
  rw [ValueIdx.addf_apply]
  unfold a3v taF
  rw [rdTa_at h (xPt c) _ q l ⟨32 * (c.val % 2) + q.val, by omega⟩ (by rw [a3_row]),
    rdTaOwn_at h c _ q l ⟨32 * (c.val % 2) + q.val, by omega⟩ (by rw [a3_own]),
    taV_at x w h c _ l i j (by show _ = _ + (_ + _); omega) hj,
    taV_at x w h (xPt c) _ l i j (by rw [xPt_z, xPt_y]; show _ = _ + (_ + _); omega) hj]
  simp only [devsA, List.flatMap_cons, List.flatMap_nil, List.flatMap_append, List.map_append, List.sum_append, List.map_nil, List.sum_nil, add_zero]

end Cert.Proof.K

end
-- ==== Proof.Value.Right.lean ====
/- The right half: a result row before the gate is the sum of the devices' partial rows. -/
module

public import proofs.«01_k».proof.Proof.Value.Left

@[expose] public section

noncomputable section

namespace Cert.Proof.K

open Idealize.ShloMosaic Idealize.ShloMosaic.TcCoe Idealize.SL.Sem Cert.KernelIdeal Cert.KernelIdeal.Gen
open scoped BigOperators

/-! ## Where each stage's block starts -/

theorem b1_row0 : ∀ c : Dev nD, k0_off5 (yDn (yDn (yDn c))) (tickW 0) 0 = 256 * (c.val % 8 / 2) := by decide +kernel
theorem b1_row1 : ∀ c : Dev nD, k0_off5 (yDn (yDn c)) (tickW 1) 0 = 256 * (c.val % 8 / 2) := by decide +kernel
theorem b1_row2 : ∀ c : Dev nD, k0_off5 (yDn c) (tickW 2) 0 = 256 * (c.val % 8 / 2) := by decide +kernel
theorem b1_own : ∀ c : Dev nD, k0_off10 c 0 = 256 * (c.val % 8 / 2) := by decide +kernel
theorem b2_row : ∀ (e : Fin 3) (c : Dev nD), k0_off12 (zAt (2 - e) c) (BitVec.ofNat 32 (1 + e.val)) 0 = 64 * (c.val / 8) := by decide +kernel
theorem b2_own : ∀ c : Dev nD, k0_off26 c 0 = 64 * (c.val / 8) := by decide +kernel
theorem b3_row : ∀ c : Dev nD, k0_off28 (xPt c) 0 = 32 * ((c.val % 2 + c.val % 8 / 2) % 2) := by decide +kernel
theorem b3_own : ∀ c : Dev nD, k0_off42 c 0 = 32 * ((c.val % 2 + c.val % 8 / 2) % 2) := by decide +kernel
theorem zAt_y : ∀ (e : Fin 3) (c : Dev nD), (zAt e c).val % 8 / 2 = c.val % 8 / 2 := by decide +kernel

variable (x : Dev nD → Vec Ideal S1024x32 .f32) (w : Dev nD → Vec Ideal S32x1024 .f32) (h : Fin 4)

/-! ## Each block read at a row -/

section Reads
variable (c : Dev nD)
theorem rdY_at (s : Fin 3) (f : Vec Ideal S1024x512 .f32) (q : Fin 256) (l : Fin 128) (i : Fin 1024) (j : Fin 512)
    (hi : i.val = k0_off5 c (tickW s) 0 + q.val) (hj : j.val = 128 * h.val + l.val) : rdY c h s f (ij q l) = f (ij i j) :=
  rd_at h _ (by decide) (k0_off5_inb c ⟨2 - s.val, by omega⟩ 0) f q l i j hi hj
theorem rdYown_at (f : Vec Ideal S1024x512 .f32) (q : Fin 256) (l : Fin 128) (i : Fin 1024) (j : Fin 512)
    (hi : i.val = k0_off10 c 0 + q.val) (hj : j.val = 128 * h.val + l.val) : rdYown c h f (ij q l) = f (ij i j) :=
  rd_at h _ (by decide) (k0_off10_inb c 0) f q l i j hi hj
theorem rdSb_at (e : Fin 3) (V : Fin 4 → Vec Ideal (Sh2 256) .f32) (q : Fin 64) (l : Fin 128) (i : Fin 256)
    (hi : i.val = k0_off12 c (BitVec.ofNat 32 (1 + e.val)) 0 + q.val) : rdSb c h e (cols V) (ij q l) = V h (ij i l) :=
  rd_cols h _ (k0_off12_inb c e 0) V q l i hi
theorem rdSbOwn_at (V : Fin 4 → Vec Ideal (Sh2 256) .f32) (q : Fin 64) (l : Fin 128) (i : Fin 256)
    (hi : i.val = k0_off26 c 0 + q.val) : rdSbOwn c h (cols V) (ij q l) = V h (ij i l) := rd_cols h _ (k0_off26_inb c 0) V q l i hi
theorem rdTb_at (V : Fin 4 → Vec Ideal (Sh2 64) .f32) (q : Fin 32) (l : Fin 128) (i : Fin 64)
    (hi : i.val = k0_off28 c 0 + q.val) : rdTb c h (cols V) (ij q l) = V h (ij i l) := rd_cols h _ (k0_off28_inb c 0) V q l i hi
theorem rdTbOwn_at (V : Fin 4 → Vec Ideal (Sh2 64) .f32) (q : Fin 32) (l : Fin 128) (i : Fin 64)
    (hi : i.val = k0_off42 c 0 + q.val) : rdTbOwn c h (cols V) (ij q l) = V h (ij i l) := rd_cols h _ (k0_off42_inb c 0) V q l i hi
end Reads

/-- After the first stage: the sum along `y`, of the staging buffer's row `i`. -/
theorem sbV_at (c : Dev nD) (q : Fin 256) (l : Fin 128) (i : Fin 1024) (j : Fin 512) (hi : i.val = 256 * (c.val % 8 / 2) + q.val)
    (hj : j.val = 128 * h.val + l.val) : sbV x w h c (ij q l) = ((yLine c).map fun d => Yv x w d (ij i j)).sum := by
  unfold sbV
  rw [shapeCast_self, ValueIdx.addf_apply]
  rw [rdYown_at h c _ q l i j (by rw [b1_own]; exact hi) hj]
  show (addf (rdY (yDn c) h 2 (Yv x w (yDn c))) (addf (rdY (yDn (yDn c)) h 1 (Yv x w (yDn (yDn c)))) (rdY (yDn (yDn (yDn c))) h 0 (Yv x w (yDn (yDn (yDn c))))))) (ij q l) + _ = _
  rw [ValueIdx.addf_apply, ValueIdx.addf_apply]
  rw [rdY_at h (yDn c) 2 _ q l i j (by rw [b1_row2]; exact hi) hj,
    rdY_at h (yDn (yDn c)) 1 _ q l i j (by rw [b1_row1]; exact hi) hj,
    rdY_at h (yDn (yDn (yDn c))) 0 _ q l i j (by rw [b1_row0]; exact hi) hj]
  simp only [yLine, List.map_cons, List.map_nil, List.sum_cons, List.sum_nil, add_zero, add_assoc]

/-- What the first stage's sums hand to the second. -/
theorem b2v_at (e : Fin 3) (c : Dev nD) (q : Fin 64) (l : Fin 128) (i : Fin 1024) (j : Fin 512)
    (hi : i.val = 256 * (c.val % 8 / 2) + 64 * (c.val / 8) + q.val) (hj : j.val = 128 * h.val + l.val) :
    b2v x w h e (zAt (2 - e) c) (ij q l) = ((yLine (zAt (2 - e) c)).map fun d => Yv x w d (ij i j)).sum := by
  have hc : c.val < 32 := c.isLt
  unfold b2v sbF
  rw [rdSb_at h _ e _ q l ⟨64 * (c.val / 8) + q.val, by omega⟩ (by rw [b2_row])]
  exact sbV_at x w h _ _ l i j (by rw [zAt_y]; show _ = _ + (_ + _); omega) hj

/-- After the second stage: the sum over the four planes. -/
theorem tbV_at (c : Dev nD) (q : Fin 64) (l : Fin 128) (i : Fin 1024) (j : Fin 512) (hi : i.val = 256 * (c.val % 8 / 2) + 64 * (c.val / 8) + q.val)
    (hj : j.val = 128 * h.val + l.val) : tbV x w h c (ij q l) = (((zStar c).flatMap yLine).map fun d => Yv x w d (ij i j)).sum := by
  have hc : c.val < 32 := c.isLt
  unfold tbV
  rw [shapeCast_self, ValueIdx.addf_apply, ValueIdx.addf_apply, ValueIdx.addf_apply]
  have e0 := b2v_at x w h 0 c q l i j hi hj
  have e1 := b2v_at x w h 1 c q l i j hi hj
  have e2 := b2v_at x w h 2 c q l i j hi hj
  rw [show (2 : Fin 3) - 0 = 2 from rfl] at e0
  rw [show (2 : Fin 3) - 1 = 1 from rfl] at e1
  rw [show (2 : Fin 3) - 2 = 0 from rfl] at e2
  rw [e0, e1, e2]
  unfold sbF
  rw [rdSbOwn_at h c _ q l ⟨64 * (c.val / 8) + q.val, by omega⟩ (by rw [b2_own]),
    sbV_at x w h c _ l i j (by show _ = _ + (_ + _); omega) hj]
  simp only [zStar, List.flatMap_cons, List.flatMap_nil, List.map_append, List.sum_append, List.map_nil, List.sum_nil, add_zero, add_assoc]

/-- The row of the partial products that a row of the staging buffer is a copy of, by the row's three coordinates. -/
theorem rowOf_val (i : Fin 1024) (y z p q : ℕ) (hy : y < 4) (hz : z < 4) (hp : p < 2) (hq : q < 32) (hi : i.val = 256 * y + 64 * z + 32 * p + q) :
    (rowOf i).val = 32 * (8 * z + (2 * y + (p + y) % 2)) + q := by
  have e1 : i.val / 64 % 4 = z := by omega
  have e2 : i.val / 32 % 2 = p := by omega
  have e3 : i.val / 256 = y := by omega
  have e4 : i.val % 32 = q := by omega
  simp only [rowOf, kOf, e1, e2, e3, e4]

/-- After the third stage: the sum over all devices. -/
theorem ybV_at (c : Dev nD) (q : Fin 32) (l : Fin 128) (i j : Fin 1024) (hi : i.val = 32 * c.val + q.val) (hj : j.val = 512 + (128 * h.val + l.val)) :
    ybV x w h c (ij q l) = ∑ d : Fin 32, Pv x w d (ij i j) := by
  have hc : c.val < 32 := c.isLt
  let i' : Fin 1024 := ⟨256 * (c.val % 8 / 2) + 64 * (c.val / 8) + 32 * ((c.val % 2 + c.val % 8 / 2) % 2) + q.val, by omega⟩
  let j' : Fin 512 := ⟨128 * h.val + l.val, by omega⟩
  have row : rowOf i' = i := Fin.ext (by rw [rowOf_val i' _ _ _ q.val (by omega) (by omega) (by omega) q.isLt rfl]; omega)
  have hY : ∀ d : Dev nD, Yv x w d (ij i' j') = Pv x w d (ij i j) := fun d => by
    show Pv x w d (ij (rowOf i') ⟨512 + j'.val, _⟩) = _
    rw [row]
    exact congrArg (fun t => Pv x w d (ij i t)) (Fin.ext hj.symm)
  rw [← sum_devs (devsB_perm c) fun d => Pv x w d (ij i j)]
  simp only [← hY]
  unfold ybV
  rw [ValueIdx.addf_apply]
  unfold b3v tbF
  rw [rdTb_at h (xPt c) _ q l ⟨32 * ((c.val % 2 + c.val % 8 / 2) % 2) + q.val, by omega⟩ (by rw [b3_row]),
    rdTbOwn_at h c _ q l ⟨32 * ((c.val % 2 + c.val % 8 / 2) % 2) + q.val, by omega⟩ (by rw [b3_own]),
    tbV_at x w h c _ l i' j' (by show _ + _ + _ + _ = _ + (_ + _); omega) rfl,
    tbV_at x w h (xPt c) _ l i' j' (by rw [xPt_z, xPt_y]; show _ + _ + _ + _ = _ + (_ + _); omega) rfl]
  simp only [devsB, List.flatMap_cons, List.flatMap_nil, List.flatMap_append, List.map_append, List.sum_append, List.map_nil, List.sum_nil, add_zero]

end Cert.Proof.K

end
-- ==== Proof.Value.Product.lean ====
/- The devices' partial products add up to the product of the whole arrays: device `d` holds columns `32 d …` of the
   left factor and rows `32 d …` of the right one. -/
module

public import proofs.«01_k».proof.Proof.Value.Right
public import Idealize.ShloMosaic.Lib.MatmulPlain
public import Idealize.ShloMosaic.Lib.Layout

@[expose] public section

noncomputable section

namespace Cert.Proof.K

open Idealize.ShloMosaic Idealize.ShloMosaic.TcCoe Idealize.SL.Sem Cert.KernelIdeal Cert.KernelIdeal.Gen Idealize.ShloMosaic.ValueIdx
open scoped BigOperators

theorem ij_eq {r C : ℕ} (i : Fin r) (j : Fin C) : ij i j = ix2 i j := by
  funext a; fin_cases a <;> rfl

/-- An entry of the product of the whole arrays. -/
def prodAt (X W : Vec Ideal S1024x1024 .f32) (i j : Fin 1024) : EReal := ∑ k : Fin 1024, X (ix2 i k) * W (ix2 k j)

/-- A device's partial product at an entry. -/
theorem Pv_at (x : Dev nD → Vec Ideal S1024x32 .f32) (w : Dev nD → Vec Ideal S32x1024 .f32) (d : Dev nD) (i j : Fin 1024) :
    Pv x w d (ij i j) = ∑ k : Fin 32, x d (ix2 i k) * w d (ix2 k j) := by
  unfold Pv k0_pay3
  simp only [shapeCast_self]
  rw [ij_eq]
  refine (Ideal.matmul_plain_apply (M := 1024) (K := 32) (N := 1024) none (truncf .bf16 (x d) bitsLt_bf16_f32) (truncf .bf16 (w d) bitsLt_bf16_f32)
    (constant S1024x1024 .f32 0x00000000#32) i j).trans ?_
  rw [show constant (F := Ideal) S1024x1024 .f32 0x00000000#32 (ix2 i j) = 0 from by simp [constant, Ideal.ofBits, Ideal.ieee], zero_add]
  rfl

/-- A sum over the whole contracted axis, device by device. -/
theorem sum_blocks (f : Fin 1024 → EReal) : ∑ k : Fin 1024, f k = ∑ d : Fin 32, ∑ k : Fin 32, f ⟨d.val * 32 + k.val, by omega⟩ := by
  rw [← Equiv.sum_comp (finProdFinEquiv (m := 32) (n := 32)) f, Fintype.sum_prod_type]
  refine Finset.sum_congr rfl fun d _ => Finset.sum_congr rfl fun k _ => congrArg f (Fin.ext ?_)
  show k.val + 32 * d.val = d.val * 32 + k.val
  omega

/-- The partial products of the blocks of `X` and `W` add up to an entry of their product. -/
theorem sum_Pv (X W : Vec Ideal S1024x1024 .f32) (x : Dev nD → Vec Ideal S1024x32 .f32) (w : Dev nD → Vec Ideal S32x1024 .f32)
    (hx : ∀ d, x d = Layout.block ⟨2, ![1024, 32]⟩ ⟨2, ![1024, 1024]⟩ 1 32 d X)
    (hw : ∀ d, w d = Layout.block ⟨2, ![32, 1024]⟩ ⟨2, ![1024, 1024]⟩ 0 32 d W) (i j : Fin 1024) :
    ∑ d : Fin 32, Pv x w d (ij i j) = prodAt X W i j := by
  unfold prodAt
  rw [sum_blocks]
  refine Finset.sum_congr rfl fun d _ => ?_
  rw [Pv_at]
  refine Finset.sum_congr rfl fun k _ => ?_
  rw [hx d, hw d, Layout.block_apply, Layout.block_apply]
  congr 1
  · refine congrArg X (funext fun a => Fin.ext ?_)
    fin_cases a <;> rfl
  · refine congrArg W (funext fun a => Fin.ext ?_)
    fin_cases a <;> rfl

end Cert.Proof.K

end
-- ==== Proof.Value.Kernel.lean ====
/- What a device's result array holds in the end, entry by entry. -/
module

public import proofs.«01_k».proof.Proof.Value.Product
public import proofs.«01_k».proof.Proof.Run.Whole
public import Idealize.ShloMosaic.Lib.Pipeline.ValueKit.Geometry

@[expose] public section

noncomputable section

namespace Cert.Proof.K

open Idealize.ShloMosaic Idealize.ShloMosaic.TcCoe Idealize.SL.Sem Cert.KernelIdeal Cert.KernelIdeal.Gen Idealize.ShloMosaic.ValueIdx
open scoped BigOperators

section Arrays
variable {F : FTy → Type} [FloatOps F]
variable (m : (ℓ : Loc nD τ sig) → Buf (Elt F) ℓ) (ρ : Dev nD → PrngReg) (c : Dev nD)

/-- The blocks the body is handed are the arguments. -/
theorem xin_eq : xin m c = m ((c : Thread nD τ).loc main_arg0) := by
  funext j
  refine congrArg (m ((c : Thread nD τ).loc main_arg0)) (funext fun a => Fin.ext ?_)
  fin_cases a <;> simp <;> decide +kernel
theorem win_eq : win m c = m ((c : Thread nD τ).loc main_arg1) := by
  funext j
  refine congrArg (m ((c : Thread nD τ).loc main_arg1)) (funext fun a => Fin.ext ?_)
  fin_cases a <;> simp <;> decide +kernel

theorem whole_out : (cfg0.win 2).WholeAt (0 : Fin 1) := by
  refine ⟨by decide +kernel, fun t _ => ?_, by decide +kernel⟩
  have h : t.val < 1 := t.isLt
  exact Fin.ext (by show t.val = 0; omega)

/-- The result array ends as what the body left. -/
theorem final_out : (dats m ρ 0 c).arrAt 2 cfg0.N = outAt m c := by
  refine (dats m ρ 0 c).arrAt_eq_of_after_last 2 (0 : Fin 1) whole_out (outAt m c) fun j => ?_
  rfl
end Arrays

/-- The result before the gate is the sum of the partial products. -/
theorem outF_at (x : Dev nD → Vec Ideal S1024x32 .f32) (w : Dev nD → Vec Ideal S32x1024 .f32) (c : Dev nD) (q : S32x1024.Idx)
    (i j : Fin 1024) (hi : i.val = 32 * c.val + (q 0).val) (hj : j.val = (q 1).val) :
    outF x w c q = (∑ d : Fin 32, Pv x w d (ij i j)) * Ideal.logistic (∑ d : Fin 32, Pv x w d (ij i j)) := by
  have h0 : (q 0).val < 32 := (q 0).isLt
  have h1 : (q 1).val < 1024 := (q 1).isLt
  have hg : ∀ (t : FVec Ideal (Sh2 32) .f32) (p : (Sh2 32).Idx), gate (F := Ideal) t p = t p * Ideal.logistic (t p) := fun _ _ => rfl
  by_cases hq : (q 1).val < 512
  · rw [outA x w c ⟨(q 1).val / 128, by omega⟩ q (ij ⟨(q 0).val, h0⟩ ⟨(q 1).val % 128, by omega⟩) rfl
      (by show _ = 128 * ((q 1).val / 128) + (q 1).val % 128; omega), hg,
      yaV_at x w ⟨(q 1).val / 128, by omega⟩ c ⟨(q 0).val, h0⟩ ⟨(q 1).val % 128, by omega⟩ i j hi (by show _ = 128 * ((q 1).val / 128) + (q 1).val % 128; omega)]
  · rw [outB' x w c ⟨((q 1).val - 512) / 128, by omega⟩ q (ij ⟨(q 0).val, h0⟩ ⟨((q 1).val - 512) % 128, by omega⟩) rfl
      (by show _ = 512 + 128 * (((q 1).val - 512) / 128) + ((q 1).val - 512) % 128; omega), hg,
      ybV_at x w ⟨((q 1).val - 512) / 128, by omega⟩ c ⟨(q 0).val, h0⟩ ⟨((q 1).val - 512) % 128, by omega⟩ i j hi
        (by show _ = 512 + (128 * (((q 1).val - 512) / 128) + ((q 1).val - 512) % 128); omega)]

end Cert.Proof.K

end
-- ==== Proof.Value.Silu.lean ====
/- The gate of the kernel and the gate of the reference agree on a number between -60 and 60. -/
module

public import Idealize.ShloMosaic.PureOps.Ideal
public import Idealize.ShloMosaic.PureOps.Ideal.Laws
public import Idealize.ShloMosaic.Lib.IdealHost

@[expose] public section

noncomputable section

namespace Cert.Proof.Silu

open Idealize.ShloMosaic
open scoped BigOperators

theorem bits_sixty : Ideal.ofBits .f32 0x42700000#32 = ((60 : ℝ) : EReal) := by
  simp [Ideal.ofBits, Ideal.ieee, -EReal.coe_mul]; norm_num
theorem bits_neg_sixty : Ideal.ofBits .f32 0xC2700000#32 = ((-60 : ℝ) : EReal) := by
  simp [Ideal.ofBits, Ideal.ieee, -EReal.coe_mul, -EReal.coe_neg]; norm_num
theorem bits_part : Ideal.ofBits .f32 0x3FF00000#32 = ((1.875 : ℝ) : EReal) := by
  simp [Ideal.ofBits, Ideal.ieee, -EReal.coe_mul]; norm_num

/-- An exponential is not negative. -/
theorem exp_nonneg (y : EReal) : 0 ≤ Ideal.exp y := by
  induction y with
  | bot => simp
  | top => simp
  | coe r => simpa using (Real.exp_pos r).le

/-- One plus an exponential is not zero. -/
theorem one_add_exp_ne (y : EReal) : 1 + Ideal.exp y ≠ 0 := by
  have h1 : (1 : EReal) ≤ 1 + Ideal.exp y := le_add_of_nonneg_right (exp_nonneg y)
  intro e; rw [e] at h1; exact absurd h1 (by simp)

/-- The product with the logistic function is the quotient of the clipped gate, where the clip changes nothing. -/
theorem gate_eq (t : EReal) (lo : ((-60 : ℝ) : EReal) ≤ t) (hi : t ≤ ((60 : ℝ) : EReal)) :
    t * Ideal.logistic t = Ideal.div t (1 + Ideal.exp (-(min ((60 : ℝ) : EReal) (max ((-60 : ℝ) : EReal) t)))) := by
  rw [max_eq_right lo, min_eq_right hi]
  exact Ideal.mul_one_div (one_add_exp_ne _)

/-- A sum of 32 numbers, each between -1.875 and 1.875, is between -60 and 60. -/
theorem sum_bound (g : Fin 32 → EReal) (hg : ∀ d, max (g d) (-(g d)) ≤ ((1.875 : ℝ) : EReal)) :
    ((-60 : ℝ) : EReal) ≤ ∑ d, g d ∧ ∑ d, g d ≤ ((60 : ℝ) : EReal) := by
  have hs : ∀ r : ℝ, ∑ _d : Fin 32, ((r : ℝ) : EReal) = ((32 * r : ℝ) : EReal) := fun r => by
    have := EReal.coe_nsmul 32 r
    rw [Finset.sum_const, Finset.card_univ, Fintype.card_fin, ← this, nsmul_eq_mul]; norm_num
  constructor
  · calc ((-60 : ℝ) : EReal) = ∑ _d : Fin 32, ((-1.875 : ℝ) : EReal) := by rw [hs]; norm_num
      _ ≤ _ := Finset.sum_le_sum fun d _ => by
        have := (le_max_right _ _).trans (hg d)
        rw [EReal.coe_neg]
        exact EReal.neg_le_of_neg_le this
  · calc ∑ d, g d ≤ ∑ _d : Fin 32, ((1.875 : ℝ) : EReal) := Finset.sum_le_sum fun d _ => (le_max_left _ _).trans (hg d)
      _ = _ := by rw [hs]; norm_num

end Cert.Proof.Silu

end
-- ==== Proof.Value.Pre.lean ====
/- The precondition's side conditions, and what it says of a device's partial product. -/
module

public import proofs.«01_k».proof.Defs
public import proofs.«01_k».proof.Proof.Value.Product
public import proofs.«01_k».proof.Proof.Value.Silu
public import Idealize.ShloMosaic.Lib.ReduceAll
public import Idealize.ShloMosaic.Lib.StackMember
public import Idealize.ShloMosaic.Lib.IdealHost

@[expose] public section

noncomputable section

namespace Cert.Proof.Pre

open Idealize.ShloMosaic Idealize.ShloMosaic.TcCoe Idealize.SL.Sem Idealize.ShloMosaic.ValueIdx
open scoped BigOperators

theorem facts_kernel : Cert.Pre_small_KernelIdeal.Facts := ⟨by decide, by decide, by decide, by decide⟩
theorem facts_reference : Cert.Pre_small_ReferenceIdeal.Facts := ⟨by decide, by decide, by decide, by decide⟩

/-- A comparison that answers one holds. -/
theorem le_of_cmp {a b : EReal} (h : Ideal.cmp .ole a b = 1#1) : a ≤ b := by
  by_contra hn
  simp [Ideal.cmp, hn] at h

/-- Where the precondition holds of a device's two blocks, no entry of their product exceeds 1.875. -/
theorem small_at [Cert.Pre_small_KernelIdeal.Facts] (x : Vec Ideal ⟨2, ![1024, 32]⟩ .f32) (w : Vec Ideal ⟨2, ![32, 1024]⟩ .f32)
    (hs : Cert.Pre_small_KernelIdeal.fn (F := Ideal) x w = fun _ => 1#1) (i j : Fin 1024) :
    max (∑ k : Fin 32, x (ix2 i k) * w (ix2 k j)) (-∑ k : Fin 32, x (ix2 i k) * w (ix2 k j)) ≤ ((1.875 : ℝ) : EReal) := by
  have h := congrFun hs ix0
  have : Subsingleton (⟨0, ![]⟩ : Shape).Idx := ⟨fun a b => funext fun t => t.elim0⟩
  have e := Host.reduce_andi_all (t := ⟨0, ![]⟩) _ _ _ _ _ h (ix2 i j)
  have d := StackMember.dotGeneral_plain_apply (m := 1024) (k := 32) (n := 1024) (φ₁ := .f32) (φ₂ := .f32) none x w i j
  change Ideal.cmp .ole (max _ (-_)) _ = 1#1 at e
  rw [broadcastInDim_scalar_apply] at e
  rw [← d, ← Silu.bits_part]
  exact le_of_cmp e

end Cert.Proof.Pre

end
-- ==== Proof.Value.Equation.lean ====
/- The kernel's result is the reference's, device by device. -/
module

public import proofs.«01_k».proof.Proof.Value.Kernel
public import proofs.«01_k».proof.Proof.Value.Pre
public import proofs.«01_k».proof.Proof.Gen.ReferenceIdeal.Run

@[expose] public section

noncomputable section

namespace Cert.Proof.Value

open Idealize.ShloMosaic Idealize.ShloMosaic.TcCoe Idealize.SL.Sem Idealize.ShloMosaic.ValueIdx
open Cert.Proof.K Cert.Proof.Silu Cert.Proof.Pre
open scoped BigOperators

/-- The reference's result, of the whole arrays, as the reference writes it. -/
abbrev refOut (X W : FVec Ideal Cert.ReferenceIdeal.S1024x1024 .f32) : FVec Ideal Cert.ReferenceIdeal.S1024x1024 .f32 :=
  let y := Host.dotGeneral Cert.ReferenceIdeal.dot_S1024x1024_S1024x1024_S1024x1024_1_0_0_1_n_n none X W
  let all := broadcastInDim Cert.ReferenceIdeal.S1024x1024 ![] Cert.ReferenceIdeal.Gen.facts.bcast_S_S1024x1024
  Host.divf y (addf (all (constant Cert.ReferenceIdeal.S_ .f32 0x3F800000#32)) (Host.exp (Host.negf
    (minimumf (all (id (constant Cert.ReferenceIdeal.S_ .f32 0x42700000#32)))
      (maximumf (all (id (constant Cert.ReferenceIdeal.S_ .f32 0xC2700000#32))) y)))))

/-- An entry of the reference's result. -/
theorem refOut_at (X W : FVec Ideal Cert.ReferenceIdeal.S1024x1024 .f32) (i j : Fin 1024) :
    refOut X W (ix2 i j) = Ideal.div (prodAt X W i j)
      (1 + Ideal.exp (-(min ((60 : ℝ) : EReal) (max ((-60 : ℝ) : EReal) (prodAt X W i j))))) := by
  have hy : Host.dotGeneral Cert.ReferenceIdeal.dot_S1024x1024_S1024x1024_S1024x1024_1_0_0_1_n_n none X W (ix2 i j) = prodAt X W i j :=
    StackMember.dotGeneral_plain_apply (m := 1024) (k := 1024) (n := 1024) (φ₁ := .f32) (φ₂ := .f32) none X W i j
  have h1 : broadcastInDim Cert.ReferenceIdeal.S1024x1024 ![] Cert.ReferenceIdeal.Gen.facts.bcast_S_S1024x1024
      (constant (F := Ideal) Cert.ReferenceIdeal.S_ .f32 0x3F800000#32) (ix2 i j) = 1 :=
    (broadcastInDim_scalar_apply _ _ _).trans Ideal.ofBits_one_f32
  have h2 : broadcastInDim Cert.ReferenceIdeal.S1024x1024 ![] Cert.ReferenceIdeal.Gen.facts.bcast_S_S1024x1024
      (id (constant (F := Ideal) Cert.ReferenceIdeal.S_ .f32 0x42700000#32)) (ix2 i j) = ((60 : ℝ) : EReal) :=
    (broadcastInDim_scalar_apply _ _ _).trans bits_sixty
  have h3 : broadcastInDim Cert.ReferenceIdeal.S1024x1024 ![] Cert.ReferenceIdeal.Gen.facts.bcast_S_S1024x1024
      (id (constant (F := Ideal) Cert.ReferenceIdeal.S_ .f32 0xC2700000#32)) (ix2 i j) = ((-60 : ℝ) : EReal) :=
    (broadcastInDim_scalar_apply _ _ _).trans bits_neg_sixty
  rw [← hy, ← h1, ← h2, ← h3]
  rfl

/-- Device `c`'s result block is its block of the reference's result. -/
theorem out_eq [Cert.Pre_small_KernelIdeal.Facts] (X W : FVec Ideal Cert.ReferenceIdeal.S1024x1024 .f32)
    (x : Dev 32 → Vec Ideal Cert.KernelIdeal.S1024x32 .f32) (w : Dev 32 → Vec Ideal Cert.KernelIdeal.S32x1024 .f32)
    (hx : ∀ d, x d = Layout.block ⟨2, ![1024, 32]⟩ ⟨2, ![1024, 1024]⟩ 1 32 d X)
    (hw : ∀ d, w d = Layout.block ⟨2, ![32, 1024]⟩ ⟨2, ![1024, 1024]⟩ 0 32 d W)
    (hs : ∀ d, Cert.Pre_small_KernelIdeal.fn (F := Ideal) (x d) (w d) = fun _ => 1#1) (c : Dev 32) :
    outF x w c = Layout.block ⟨2, ![32, 1024]⟩ ⟨2, ![1024, 1024]⟩ 0 32 c (refOut X W) := by
  funext q
  have h0 : (q 0).val < 32 := (q 0).isLt
  have hc : c.val < 32 := c.isLt
  let i : Fin 1024 := ⟨32 * c.val + (q 0).val, by omega⟩
  let j : Fin 1024 := ⟨(q 1).val, (q 1).isLt⟩
  have hb := sum_bound (fun d => Pv x w d (ij i j)) fun d => by
    rw [Pv_at]
    exact small_at (x d) (w d) (hs d) i j
  rw [outF_at x w c q i j rfl rfl, gate_eq _ hb.1 hb.2, sum_Pv X W x w hx hw, ← refOut_at, Layout.block_apply]
  refine congrArg (refOut X W) (funext fun a => Fin.ext ?_)
  fin_cases a
  · show 32 * c.val + (q 0).val = c.val * 32 + (q 0).val
    omega
  · rfl

end Cert.Proof.Value

end
-- ==== Proof.Value.Algebraic.lean ====
/- On whole arrays cut over the devices, both programs run and the kernel's blocks are the reference's. -/
module

public import proofs.«01_k».proof.Proof.Value.Equation
public import proofs.«01_k».proof.Proof.Frames

@[expose] public section

noncomputable section

namespace Cert.Proof.Value

open Idealize.ShloMosaic Idealize.ShloMosaic.TcCoe Idealize.SL.Sem
open Cert.Proof.K

theorem algebraic [Cert.Pre_small_KernelIdeal.Facts] : Cert.algebraic_KernelIdeal_ReferenceIdeal_pre_small_KernelIdeal :=
  fun m g m' g' hs hin => by
  refine ⟨refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun r h c => ⟨?_, ?_, ?_⟩) (run_main (F := Ideal) m g)
    · refine ((h.1 c (2 : Fin 3)).trans (final_out m g c)).trans ?_
      exact out_eq _ _ (xin m) (win m) (fun d => (xin_eq m d).trans (hin d).1) (fun d => (win_eq m d).trans (hin d).2)
        (fun d => by rw [xin_eq, win_eq]; exact hs d) c
    · exact (h.1 c (0 : Fin 3)).trans ((dats m g 0 c).arrAt_in (0 : Fin 3) rfl _)
    · exact (h.1 c (1 : Fin 3)).trans ((dats m g 0 c).arrAt_in (1 : Fin 3) rfl _)
  · exact (θ_run Cert.ReferenceIdeal.defs _ _).mono (fun r h => h 0) (Cert.ReferenceIdeal.Value.run (F := Ideal) m' g')

end Cert.Proof.Value

end
-- ==== Proof.lean ====
/- The proof of the claims: each assembled from the modules under Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.RefFrame
public import proofs.«01_k».proof.Proof.Value.Algebraic
public import Idealize.ShloMosaic.Adequacy
public import Idealize.ShloMosaic.Init

@[expose] public section

noncomputable section

namespace Cert.Proof

open Idealize.ShloMosaic Idealize.SL.Sem Cert.Kernel

theorem claim : Cert.Claim :=
  have := Cert.Proof.Pre.facts_kernel
  have := Cert.Proof.Pre.facts_reference
  ⟨Cert.Kernel.Gen.facts, Cert.KernelIdeal.Gen.facts, Cert.ReferenceIdeal.Gen.facts,
    Cert.Proof.Pre.facts_kernel, Cert.Proof.Pre.facts_reference,
    Cert.Proof.K.frame_kernel, Cert.Proof.K.frame_ideal, fun m g _ => Cert.Proof.K.frame_ideal m g trivial,
    Cert.Proof.Ref.frame_reference, fun m g _ => Cert.Proof.Ref.frame_reference m g trivial, trivial, Cert.Proof.Value.algebraic⟩

end Cert.Proof

end
